-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qk [hPre_finite_qk : Cert.Pre_finite_qk.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qk [hPre_finite_qk : Cert.Pre_finite_qk.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite_router [hPre_finite_router : Cert.Pre_finite_router.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite_router.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite_router [hPre_finite_router : Cert.Pre_finite_router.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite_router.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite_mods [hPre_finite_mods : Cert.Pre_finite_mods.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite_mods.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite_mods [hPre_finite_mods : Cert.Pre_finite_mods.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite_mods.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2))) = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite_gating [hPre_finite_gating : Cert.Pre_finite_gating.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite_gating.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7)) (m ((c.tc : Thread Cert.Kernel6Ideal.nD Cert.Kernel6Ideal.τ).loc Cert.Kernel6Ideal.main_arg8)) (m ((c.tc : Thread Cert.Kernel6Ideal.nD Cert.Kernel6Ideal.τ).loc Cert.Kernel6Ideal.main_arg9))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite_gating [hPre_finite_gating : Cert.Pre_finite_gating.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite_gating.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7)) (m ((c.tc : Thread Cert.Reference6Ideal.nD Cert.Reference6Ideal.τ).loc Cert.Reference6Ideal.main_arg8)) (m ((c.tc : Thread Cert.Reference6Ideal.nD Cert.Reference6Ideal.τ).loc Cert.Reference6Ideal.main_arg9))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_qk [hKernelIdeal : Cert.KernelIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qk m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_qk [hReferenceIdeal : Cert.ReferenceIdeal.Facts] [hPre_finite_qk : Cert.Pre_finite_qk.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qk m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ r.2.sem = fun _ => 0)

def quiescent_Kernel3Ideal_pre_finite_router [hKernel3Ideal : Cert.Kernel3Ideal.Facts] [hPre_finite_router : Cert.Pre_finite_router.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite_router m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0)

def quiescent_Reference3Ideal_pre_finite_router [hReference3Ideal : Cert.Reference3Ideal.Facts] [hPre_finite_router : Cert.Pre_finite_router.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite_router m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Kernel5Ideal_pre_finite_mods [hKernel5Ideal : Cert.Kernel5Ideal.Facts] [hPre_finite_mods : Cert.Pre_finite_mods.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite_mods m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Reference5Ideal_pre_finite_mods [hReference5Ideal : Cert.Reference5Ideal.Facts] [hPre_finite_mods : Cert.Pre_finite_mods.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite_mods m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7)
      ∧ r.2.mem ((c.tc : Thread Cert.Kernel6.nD Cert.Kernel6.τ).loc Cert.Kernel6.main_arg8) = m ((c.tc : Thread Cert.Kernel6.nD Cert.Kernel6.τ).loc Cert.Kernel6.main_arg8)
      ∧ r.2.mem ((c.tc : Thread Cert.Kernel6.nD Cert.Kernel6.τ).loc Cert.Kernel6.main_arg9) = m ((c.tc : Thread Cert.Kernel6.nD Cert.Kernel6.τ).loc Cert.Kernel6.main_arg9))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
      ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9))
      ∧ r.2.sem = fun _ => 0)

def quiescent_Kernel6Ideal_pre_finite_gating [hKernel6Ideal : Cert.Kernel6Ideal.Facts] [hPre_finite_gating : Cert.Pre_finite_gating.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite_gating m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
      ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8)
      ∧ r.2.mem ((c.tc : Thread Cert.Reference6Ideal.nD Cert.Reference6Ideal.τ).loc Cert.Reference6Ideal.main_arg9) = m ((c.tc : Thread Cert.Reference6Ideal.nD Cert.Reference6Ideal.τ).loc Cert.Reference6Ideal.main_arg9))
      ∧ r.2.sem = fun _ => 0)

def quiescent_Reference6Ideal_pre_finite_gating [hReference6Ideal : Cert.Reference6Ideal.Facts] [hPre_finite_gating : Cert.Pre_finite_gating.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite_gating m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8)
      ∧ r.2.mem ((c.tc : Thread Cert.Reference6Ideal.nD Cert.Reference6Ideal.τ).loc Cert.Reference6Ideal.main_arg9) = m ((c.tc : Thread Cert.Reference6Ideal.nD Cert.Reference6Ideal.τ).loc Cert.Reference6Ideal.main_arg9))
      ∧ r.2.sem = fun _ => 0)

def preserves_Kernel_KernelIdeal : Prop :=
  True

def algebraic_KernelIdeal_ReferenceIdeal_pre_finite_qk [hKernelIdeal : Cert.KernelIdeal.Facts] [hReferenceIdeal : Cert.ReferenceIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qk m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v12) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal_pre_finite_router [hKernel3Ideal : Cert.Kernel3Ideal.Facts] [hReference3Ideal : Cert.Reference3Ideal.Facts] [hPre_finite_router : Cert.Pre_finite_router.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite_router m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)) →
    ∃ (v0 : (c : Dev Cert.Kernel3Ideal.nD) → Buf (Elt Ideal) ((c.tc : Thread Cert.Kernel3Ideal.nD Cert.Kernel3Ideal.τ).loc Cert.Kernel3Ideal.main_v3_0)) (v1 : (c : Dev Cert.Kernel3Ideal.nD) → Buf (Elt Ideal) ((c.tc : Thread Cert.Kernel3Ideal.nD Cert.Kernel3Ideal.τ).loc Cert.Kernel3Ideal.main_v3_1)) (v2 : (c : Dev Cert.Kernel3Ideal.nD) → Buf (Elt Ideal) ((c.tc : Thread Cert.Kernel3Ideal.nD Cert.Kernel3Ideal.τ).loc Cert.Kernel3Ideal.main_v3_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3_0) = v0 c
          ∧ r.2.mem ((c.tc : Thread Cert.Kernel3Ideal.nD Cert.Kernel3Ideal.τ).loc Cert.Kernel3Ideal.main_v3_1) = v1 c
          ∧ r.2.mem ((c.tc : Thread Cert.Kernel3Ideal.nD Cert.Kernel3Ideal.τ).loc Cert.Kernel3Ideal.main_v3_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v116) = v0 c
          ∧ r.2.mem ((c.tc : Thread Cert.Reference3Ideal.nD Cert.Reference3Ideal.τ).loc Cert.Reference3Ideal.main_v117) = v1 c
          ∧ r.2.mem ((c.tc : Thread Cert.Reference3Ideal.nD Cert.Reference3Ideal.τ).loc Cert.Reference3Ideal.main_v118) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8))

def preserves_Kernel4_Kernel4Ideal : Prop :=
  IdealRules.named_const.Statement Cert.Kernel4Ideal.κ "query_scale" .f32 0x3E38AA3B#32 (((1 / 8) * (Real.log 2)⁻¹ : ℝ) : EReal)

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)) →
    ∃ (v0 : (c : Dev Cert.Kernel4Ideal.nD) → Buf (Elt Ideal) ((c.tc : Thread Cert.Kernel4Ideal.nD Cert.Kernel4Ideal.τ).loc Cert.Kernel4Ideal.main_v90_2)) (v1 : (c : Dev Cert.Kernel4Ideal.nD) → Buf (Elt Ideal) ((c.tc : Thread Cert.Kernel4Ideal.nD Cert.Kernel4Ideal.τ).loc Cert.Kernel4Ideal.main_v90_4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v90_2) = v0 c
          ∧ r.2.mem ((c.tc : Thread Cert.Kernel4Ideal.nD Cert.Kernel4Ideal.τ).loc Cert.Kernel4Ideal.main_v90_4) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v45) = v0 c
          ∧ r.2.mem ((c.tc : Thread Cert.Reference4Ideal.nD Cert.Reference4Ideal.τ).loc Cert.Reference4Ideal.main_v46) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9))

def preserves_Kernel5_Kernel5Ideal : Prop :=
  True

def algebraic_Kernel5Ideal_Reference5Ideal_pre_finite_mods [hKernel5Ideal : Cert.Kernel5Ideal.Facts] [hReference5Ideal : Cert.Reference5Ideal.Facts] [hPre_finite_mods : Cert.Pre_finite_mods.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite_mods m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v5) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  IdealRules.named_const.Statement Cert.Kernel6Ideal.κ "query_scale" .f32 0x3E38AA3B#32 (((1 / 8) * (Real.log 2)⁻¹ : ℝ) : EReal)

def algebraic_Kernel6Ideal_Reference6Ideal_pre_finite_gating [hKernel6Ideal : Cert.Kernel6Ideal.Facts] [hReference6Ideal : Cert.Reference6Ideal.Facts] [hPre_finite_gating : Cert.Pre_finite_gating.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite_gating m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)
      ∧ m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8)
      ∧ m' ((c.tc : Thread Cert.Reference6Ideal.nD Cert.Reference6Ideal.τ).loc Cert.Reference6Ideal.main_arg9) = m ((c.tc : Thread Cert.Kernel6Ideal.nD Cert.Kernel6Ideal.τ).loc Cert.Kernel6Ideal.main_arg9)) →
    ∃ (v0 : (c : Dev Cert.Kernel6Ideal.nD) → Buf (Elt Ideal) ((c.tc : Thread Cert.Kernel6Ideal.nD Cert.Kernel6Ideal.τ).loc Cert.Kernel6Ideal.main_v90_3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v90_3) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
          ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
          ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v83) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7)
          ∧ r.2.mem ((c.tc : Thread Cert.Reference6Ideal.nD Cert.Reference6Ideal.τ).loc Cert.Reference6Ideal.main_arg8) = m' ((c.tc : Thread Cert.Reference6Ideal.nD Cert.Reference6Ideal.τ).loc Cert.Reference6Ideal.main_arg8)
          ∧ r.2.mem ((c.tc : Thread Cert.Reference6Ideal.nD Cert.Reference6Ideal.τ).loc Cert.Reference6Ideal.main_arg9) = m' ((c.tc : Thread Cert.Reference6Ideal.nD Cert.Reference6Ideal.τ).loc Cert.Reference6Ideal.main_arg9))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite_qk : Cert.Pre_finite_qk.Facts) (hPre_finite_router : Cert.Pre_finite_router.Facts) (hPre_finite_mods : Cert.Pre_finite_mods.Facts) (hPre_finite_gating : Cert.Pre_finite_gating.Facts),
    quiescent_Kernel (hKernel := hKernel)
    ∧ quiescent_KernelIdeal (hKernelIdeal := hKernelIdeal)
    ∧ quiescent_KernelIdeal_pre_finite_qk (hKernelIdeal := hKernelIdeal) (hPre_finite_qk := hPre_finite_qk)
    ∧ quiescent_ReferenceIdeal (hReferenceIdeal := hReferenceIdeal)
    ∧ quiescent_ReferenceIdeal_pre_finite_qk (hReferenceIdeal := hReferenceIdeal) (hPre_finite_qk := hPre_finite_qk)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_finite_router (hKernel3Ideal := hKernel3Ideal) (hPre_finite_router := hPre_finite_router)
    ∧ quiescent_Reference3Ideal (hReference3Ideal := hReference3Ideal)
    ∧ quiescent_Reference3Ideal_pre_finite_router (hReference3Ideal := hReference3Ideal) (hPre_finite_router := hPre_finite_router)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_finite_mods (hKernel5Ideal := hKernel5Ideal) (hPre_finite_mods := hPre_finite_mods)
    ∧ quiescent_Reference5Ideal (hReference5Ideal := hReference5Ideal)
    ∧ quiescent_Reference5Ideal_pre_finite_mods (hReference5Ideal := hReference5Ideal) (hPre_finite_mods := hPre_finite_mods)
    ∧ quiescent_Kernel6 (hKernel6 := hKernel6)
    ∧ quiescent_Kernel6Ideal (hKernel6Ideal := hKernel6Ideal)
    ∧ quiescent_Kernel6Ideal_pre_finite_gating (hKernel6Ideal := hKernel6Ideal) (hPre_finite_gating := hPre_finite_gating)
    ∧ quiescent_Reference6Ideal (hReference6Ideal := hReference6Ideal)
    ∧ quiescent_Reference6Ideal_pre_finite_gating (hReference6Ideal := hReference6Ideal) (hPre_finite_gating := hPre_finite_gating)
    ∧ preserves_Kernel_KernelIdeal
    ∧ algebraic_KernelIdeal_ReferenceIdeal_pre_finite_qk (hKernelIdeal := hKernelIdeal) (hReferenceIdeal := hReferenceIdeal) (hPre_finite_qk := hPre_finite_qk)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_finite_router (hKernel3Ideal := hKernel3Ideal) (hReference3Ideal := hReference3Ideal) (hPre_finite_router := hPre_finite_router)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_finite_mods (hKernel5Ideal := hKernel5Ideal) (hReference5Ideal := hReference5Ideal) (hPre_finite_mods := hPre_finite_mods)
    ∧ preserves_Kernel6_Kernel6Ideal
    ∧ algebraic_Kernel6Ideal_Reference6Ideal_pre_finite_gating (hKernel6Ideal := hKernel6Ideal) (hReference6Ideal := hReference6Ideal) (hPre_finite_gating := hPre_finite_gating)
-- ==== Pre_finite_gating.lean ====
abbrev S16640x1024 : Shape := ⟨2, ![16640, 1024]⟩
abbrev S4x2x6x1024 : Shape := ⟨4, ![4, 2, 6, 1024]⟩
abbrev S4x1024 : Shape := ⟨2, ![4, 1024]⟩
abbrev S4x1024x1536 : Shape := ⟨3, ![4, 1024, 1536]⟩
abbrev S4x64 : Shape := ⟨2, ![4, 64]⟩
abbrev S4x256 : Shape := ⟨2, ![4, 256]⟩
abbrev S4x4x128x128 : Shape := ⟨4, ![4, 4, 128, 128]⟩
abbrev S4x4x128 : Shape := ⟨3, ![4, 4, 128]⟩
abbrev S256x512 : Shape := ⟨2, ![256, 512]⟩
abbrev S1x2x2x1024 : Shape := ⟨4, ![1, 2, 2, 1024]⟩
abbrev S2x2x1024 : Shape := ⟨3, ![2, 2, 1024]⟩
abbrev S_ : Shape := ⟨0, ![]⟩
abbrev S1x1024 : Shape := ⟨2, ![1, 1024]⟩
abbrev S1024 : Shape := ⟨1, ![1024]⟩
abbrev S1x1024x256 : Shape := ⟨3, ![1, 1024, 256]⟩
abbrev S1024x256 : Shape := ⟨2, ![1024, 256]⟩

class Facts : Prop where
  slices_S4x2x6x1024_S1x2x2x1024_0_0_0_0 : S4x2x6x1024.Slices ![0, 0, 0, 0] S1x2x2x1024
  shapeCasts_S1x2x2x1024_S2x2x1024 : S1x2x2x1024.ShapeCasts S2x2x1024
  bcast_S_S2x2x1024 : S_.BroadcastsInDim S2x2x1024 (![] : Fin 0 → Fin S2x2x1024.rank)
  reducesTo_S2x2x1024_S_d0_1_2 : S2x2x1024.ReducesTo [0, 1, 2] S_
  h_S_ : 0 < S_.numel
  slices_S4x1024_S1x1024_0_0 : S4x1024.Slices ![0, 0] S1x1024
  shapeCasts_S1x1024_S1024 : S1x1024.ShapeCasts S1024
  bcast_S_S1024 : S_.BroadcastsInDim S1024 (![] : Fin 0 → Fin S1024.rank)
  reducesTo_S1024_S_d0 : S1024.ReducesTo [0] S_
  slices_S4x1024x1536_S1x1024x256_0_0_1024 : S4x1024x1536.Slices ![0, 0, 1024] S1x1024x256
  shapeCasts_S1x1024x256_S1024x256 : S1x1024x256.ShapeCasts S1024x256
  bcast_S_S1024x256 : S_.BroadcastsInDim S1024x256 (![] : Fin 0 → Fin S1024x256.rank)
  reducesTo_S1024x256_S_d0_1 : S1024x256.ReducesTo [0, 1] S_

variable [Facts]

def fn_part1 {F : FTy → Type} [FloatOps F] (main_v12 : IVec S_ 1) (main_v17 : IVec S1024x256 1) (main_c_3 : IVec S_ 1) : IVec S_ 1 :=
  let main_v18 : IVec S_ 1 := (fun x v => Host.reduce IntOp.andi x v reducesTo_S1024x256_S_d0_1 h_S_) main_v17 main_c_3
  let main_v19 : IVec S_ 1 := andi main_v12 main_v18
  main_v19

def fn {F : FTy → Type} [FloatOps F] (main_arg0 : FVec F S16640x1024 .f32) (main_arg1 : FVec F S4x2x6x1024 .f32) (main_arg2 : FVec F S4x1024 .f32) (main_arg3 : FVec F S4x1024x1536 .f32) (main_arg4 : FVec F S4x64 .f32) (main_arg5 : FVec F S4x64 .f32) (main_arg6 : FVec F S4x256 .f32) (main_arg7 : FVec F S4x4x128x128 .f32) (main_arg8 : FVec F S4x4x128 .f32) (main_arg9 : FVec F S256x512 .bf16) : IVec S_ 1 :=
  let main_v0 : FVec F S1x2x2x1024 .f32 := (extractStridedSlice S1x2x2x1024 ![0, 0, 0, 0] · slices_S4x2x6x1024_S1x2x2x1024_0_0_0_0) main_arg1
  let main_v1 : FVec F S2x2x1024 .f32 := shapeCast S2x2x1024 main_v0 shapeCasts_S1x2x2x1024_S2x2x1024
  let main_v2 : FVec F S2x2x1024 .f32 := Host.absf main_v1
  let main_cst : FVec F S_ .f32 := constant S_ .f32 0x7F800000#32
  let main_v3 : FVec F S2x2x1024 .f32 := broadcastInDim S2x2x1024 ![] bcast_S_S2x2x1024 main_cst
  let main_v4 : IVec S2x2x1024 1 := cmpf .olt main_v2 main_v3
  let main_c : IVec S_ 1 := constantI S_ 1 1#1
  let main_v5 : IVec S_ 1 := (fun x v => Host.reduce IntOp.andi x v reducesTo_S2x2x1024_S_d0_1_2 h_S_) main_v4 main_c
  let main_v6 : FVec F S1x1024 .f32 := (extractStridedSlice S1x1024 ![0, 0] · slices_S4x1024_S1x1024_0_0) main_arg2
  let main_v7 : FVec F S1024 .f32 := shapeCast S1024 main_v6 shapeCasts_S1x1024_S1024
  let main_v8 : FVec F S1024 .f32 := Host.absf main_v7
  let main_cst_0 : FVec F S_ .f32 := constant S_ .f32 0x7F800000#32
  let main_v9 : FVec F S1024 .f32 := broadcastInDim S1024 ![] bcast_S_S1024 main_cst_0
  let main_v10 : IVec S1024 1 := cmpf .olt main_v8 main_v9
  let main_c_1 : IVec S_ 1 := constantI S_ 1 1#1
  let main_v11 : IVec S_ 1 := (fun x v => Host.reduce IntOp.andi x v reducesTo_S1024_S_d0 h_S_) main_v10 main_c_1
  let main_v12 : IVec S_ 1 := andi main_v5 main_v11
  let main_v13 : FVec F S1x1024x256 .f32 := (extractStridedSlice S1x1024x256 ![0, 0, 1024] · slices_S4x1024x1536_S1x1024x256_0_0_1024) main_arg3
  let main_v14 : FVec F S1024x256 .f32 := shapeCast S1024x256 main_v13 shapeCasts_S1x1024x256_S1024x256
  let main_v15 : FVec F S1024x256 .f32 := Host.absf main_v14
  let main_cst_2 : FVec F S_ .f32 := constant S_ .f32 0x7F800000#32
  let main_v16 : FVec F S1024x256 .f32 := broadcastInDim S1024x256 ![] bcast_S_S1024x256 main_cst_2
  let main_v17 : IVec S1024x256 1 := cmpf .olt main_v15 main_v16
  let main_c_3 : IVec S_ 1 := constantI S_ 1 1#1
  fn_part1 (F := F) main_v12 main_v17 main_c_3
-- ==== Pre_finite_mods.lean ====
abbrev S16x1024 : Shape := ⟨2, ![16, 1024]⟩
abbrev S4x1024x6144 : Shape := ⟨3, ![4, 1024, 6144]⟩
abbrev S4x6144 : Shape := ⟨2, ![4, 6144]⟩
abbrev S_ : Shape := ⟨0, ![]⟩

class Facts : Prop where
  bcast_S_S16x1024 : S_.BroadcastsInDim S16x1024 (![] : Fin 0 → Fin S16x1024.rank)
  reducesTo_S16x1024_S_d0_1 : S16x1024.ReducesTo [0, 1] S_
  h_S_ : 0 < S_.numel
  bcast_S_S4x1024x6144 : S_.BroadcastsInDim S4x1024x6144 (![] : Fin 0 → Fin S4x1024x6144.rank)
  reducesTo_S4x1024x6144_S_d0_1_2 : S4x1024x6144.ReducesTo [0, 1, 2] S_

variable [Facts]

def fn {F : FTy → Type} [FloatOps F] (main_arg0 : FVec F S16x1024 .f32) (main_arg1 : FVec F S4x1024x6144 .f32) (main_arg2 : FVec F S4x6144 .f32) : IVec S_ 1 :=
  let main_v0 : FVec F S16x1024 .f32 := Host.absf main_arg0
  let main_cst : FVec F S_ .f32 := constant S_ .f32 0x7F800000#32
  let main_v1 : FVec F S16x1024 .f32 := broadcastInDim S16x1024 ![] bcast_S_S16x1024 main_cst
  let main_v2 : IVec S16x1024 1 := cmpf .olt main_v0 main_v1
  let main_c : IVec S_ 1 := constantI S_ 1 1#1
  let main_v3 : IVec S_ 1 := (fun x v => Host.reduce IntOp.andi x v reducesTo_S16x1024_S_d0_1 h_S_) main_v2 main_c
  let main_v4 : FVec F S4x1024x6144 .f32 := Host.absf main_arg1
  let main_cst_0 : FVec F S_ .f32 := constant S_ .f32 0x7F800000#32
  let main_v5 : FVec F S4x1024x6144 .f32 := broadcastInDim S4x1024x6144 ![] bcast_S_S4x1024x6144 main_cst_0
  let main_v6 : IVec S4x1024x6144 1 := cmpf .olt main_v4 main_v5
  let main_c_1 : IVec S_ 1 := constantI S_ 1 1#1
  let main_v7 : IVec S_ 1 := (fun x v => Host.reduce IntOp.andi x v reducesTo_S4x1024x6144_S_d0_1_2 h_S_) main_v6 main_c_1
  let main_v8 : IVec S_ 1 := andi main_v3 main_v7
  main_v8
-- ==== Pre_finite_qk.lean ====
abbrev S16640x8x64 : Shape := ⟨3, ![16640, 8, 64]⟩
abbrev S16640x2x64 : Shape := ⟨3, ![16640, 2, 64]⟩
abbrev S_ : Shape := ⟨0, ![]⟩

class Facts : Prop where
  bcast_S_S16640x8x64 : S_.BroadcastsInDim S16640x8x64 (![] : Fin 0 → Fin S16640x8x64.rank)
  reducesTo_S16640x8x64_S_d0_1_2 : S16640x8x64.ReducesTo [0, 1, 2] S_
  h_S_ : 0 < S_.numel
  bcast_S_S16640x2x64 : S_.BroadcastsInDim S16640x2x64 (![] : Fin 0 → Fin S16640x2x64.rank)
  reducesTo_S16640x2x64_S_d0_1_2 : S16640x2x64.ReducesTo [0, 1, 2] S_

variable [Facts]

def fn {F : FTy → Type} [FloatOps F] (main_arg0 : FVec F S16640x8x64 .f32) (main_arg1 : FVec F S16640x2x64 .f32) (main_arg2 : FVec F S16640x2x64 .f32) : IVec S_ 1 :=
  let main_v0 : FVec F S16640x8x64 .f32 := Host.absf main_arg0
  let main_cst : FVec F S_ .f32 := constant S_ .f32 0x7F800000#32
  let main_v1 : FVec F S16640x8x64 .f32 := broadcastInDim S16640x8x64 ![] bcast_S_S16640x8x64 main_cst
  let main_v2 : IVec S16640x8x64 1 := cmpf .olt main_v0 main_v1
  let main_c : IVec S_ 1 := constantI S_ 1 1#1
  let main_v3 : IVec S_ 1 := (fun x v => Host.reduce IntOp.andi x v reducesTo_S16640x8x64_S_d0_1_2 h_S_) main_v2 main_c
  let main_v4 : FVec F S16640x2x64 .f32 := Host.absf main_arg1
  let main_cst_0 : FVec F S_ .f32 := constant S_ .f32 0x7F800000#32
  let main_v5 : FVec F S16640x2x64 .f32 := broadcastInDim S16640x2x64 ![] bcast_S_S16640x2x64 main_cst_0
  let main_v6 : IVec S16640x2x64 1 := cmpf .olt main_v4 main_v5
  let main_c_1 : IVec S_ 1 := constantI S_ 1 1#1
  let main_v7 : IVec S_ 1 := (fun x v => Host.reduce IntOp.andi x v reducesTo_S16640x2x64_S_d0_1_2 h_S_) main_v6 main_c_1
  let main_v8 : IVec S_ 1 := andi main_v3 main_v7
  main_v8
-- ==== Pre_finite_router.lean ====
abbrev S16640x1024 : Shape := ⟨2, ![16640, 1024]⟩
abbrev S4x2x6x1024 : Shape := ⟨4, ![4, 2, 6, 1024]⟩
abbrev S16640x512 : Shape := ⟨2, ![16640, 512]⟩
abbrev S16640x256 : Shape := ⟨2, ![16640, 256]⟩
abbrev S16384x256 : Shape := ⟨2, ![16384, 256]⟩
abbrev S256x256 : Shape := ⟨2, ![256, 256]⟩
abbrev S4x1024x1024 : Shape := ⟨3, ![4, 1024, 1024]⟩
abbrev S4x1024 : Shape := ⟨2, ![4, 1024]⟩
abbrev S4x1024x16 : Shape := ⟨3, ![4, 1024, 16]⟩
abbrev S1x2x2x1024 : Shape := ⟨4, ![1, 2, 2, 1024]⟩
abbrev S2x2x1024 : Shape := ⟨3, ![2, 2, 1024]⟩
abbrev S_ : Shape := ⟨0, ![]⟩
abbrev S1x1024 : Shape := ⟨2, ![1, 1024]⟩
abbrev S1024 : Shape := ⟨1, ![1024]⟩
abbrev S1x1024x16 : Shape := ⟨3, ![1, 1024, 16]⟩
abbrev S1024x16 : Shape := ⟨2, ![1024, 16]⟩

class Facts : Prop where
  slices_S4x2x6x1024_S1x2x2x1024_0_0_3_0 : S4x2x6x1024.Slices ![0, 0, 3, 0] S1x2x2x1024
  shapeCasts_S1x2x2x1024_S2x2x1024 : S1x2x2x1024.ShapeCasts S2x2x1024
  bcast_S_S2x2x1024 : S_.BroadcastsInDim S2x2x1024 (![] : Fin 0 → Fin S2x2x1024.rank)
  reducesTo_S2x2x1024_S_d0_1_2 : S2x2x1024.ReducesTo [0, 1, 2] S_
  h_S_ : 0 < S_.numel
  slices_S4x1024_S1x1024_0_0 : S4x1024.Slices ![0, 0] S1x1024
  shapeCasts_S1x1024_S1024 : S1x1024.ShapeCasts S1024
  bcast_S_S1024 : S_.BroadcastsInDim S1024 (![] : Fin 0 → Fin S1024.rank)
  reducesTo_S1024_S_d0 : S1024.ReducesTo [0] S_
  slices_S4x1024x16_S1x1024x16_0_0_0 : S4x1024x16.Slices ![0, 0, 0] S1x1024x16
  shapeCasts_S1x1024x16_S1024x16 : S1x1024x16.ShapeCasts S1024x16
  bcast_S_S1024x16 : S_.BroadcastsInDim S1024x16 (![] : Fin 0 → Fin S1024x16.rank)
  reducesTo_S1024x16_S_d0_1 : S1024x16.ReducesTo [0, 1] S_

variable [Facts]

def fn_part1 {F : FTy → Type} [FloatOps F] (main_v12 : IVec S_ 1) (main_v17 : IVec S1024x16 1) (main_c_3 : IVec S_ 1) : IVec S_ 1 :=
  let main_v18 : IVec S_ 1 := (fun x v => Host.reduce IntOp.andi x v reducesTo_S1024x16_S_d0_1 h_S_) main_v17 main_c_3
  let main_v19 : IVec S_ 1 := andi main_v12 main_v18
  main_v19

def fn {F : FTy → Type} [FloatOps F] (main_arg0 : FVec F S16640x1024 .f32) (main_arg1 : FVec F S4x2x6x1024 .f32) (main_arg2 : FVec F S16640x512 .bf16) (main_arg3 : FVec F S16640x256 .bf16) (main_arg4 : FVec F S16384x256 .bf16) (main_arg5 : FVec F S256x256 .bf16) (main_arg6 : FVec F S4x1024x1024 .f32) (main_arg7 : FVec F S4x1024 .f32) (main_arg8 : FVec F S4x1024x16 .f32) : IVec S_ 1 :=
  let main_v0 : FVec F S1x2x2x1024 .f32 := (extractStridedSlice S1x2x2x1024 ![0, 0, 3, 0] · slices_S4x2x6x1024_S1x2x2x1024_0_0_3_0) main_arg1
  let main_v1 : FVec F S2x2x1024 .f32 := shapeCast S2x2x1024 main_v0 shapeCasts_S1x2x2x1024_S2x2x1024
  let main_v2 : FVec F S2x2x1024 .f32 := Host.absf main_v1
  let main_cst : FVec F S_ .f32 := constant S_ .f32 0x7F800000#32
  let main_v3 : FVec F S2x2x1024 .f32 := broadcastInDim S2x2x1024 ![] bcast_S_S2x2x1024 main_cst
  let main_v4 : IVec S2x2x1024 1 := cmpf .olt main_v2 main_v3
  let main_c : IVec S_ 1 := constantI S_ 1 1#1
  let main_v5 : IVec S_ 1 := (fun x v => Host.reduce IntOp.andi x v reducesTo_S2x2x1024_S_d0_1_2 h_S_) main_v4 main_c
  let main_v6 : FVec F S1x1024 .f32 := (extractStridedSlice S1x1024 ![0, 0] · slices_S4x1024_S1x1024_0_0) main_arg7
  let main_v7 : FVec F S1024 .f32 := shapeCast S1024 main_v6 shapeCasts_S1x1024_S1024
  let main_v8 : FVec F S1024 .f32 := Host.absf main_v7
  let main_cst_0 : FVec F S_ .f32 := constant S_ .f32 0x7F800000#32
  let main_v9 : FVec F S1024 .f32 := broadcastInDim S1024 ![] bcast_S_S1024 main_cst_0
  let main_v10 : IVec S1024 1 := cmpf .olt main_v8 main_v9
  let main_c_1 : IVec S_ 1 := constantI S_ 1 1#1
  let main_v11 : IVec S_ 1 := (fun x v => Host.reduce IntOp.andi x v reducesTo_S1024_S_d0 h_S_) main_v10 main_c_1
  let main_v12 : IVec S_ 1 := andi main_v5 main_v11
  let main_v13 : FVec F S1x1024x16 .f32 := (extractStridedSlice S1x1024x16 ![0, 0, 0] · slices_S4x1024x16_S1x1024x16_0_0_0) main_arg8
  let main_v14 : FVec F S1024x16 .f32 := shapeCast S1024x16 main_v13 shapeCasts_S1x1024x16_S1024x16
  let main_v15 : FVec F S1024x16 .f32 := Host.absf main_v14
  let main_cst_2 : FVec F S_ .f32 := constant S_ .f32 0x7F800000#32
  let main_v16 : FVec F S1024x16 .f32 := broadcastInDim S1024x16 ![] bcast_S_S1024x16 main_cst_2
  let main_v17 : IVec S1024x16 1 := cmpf .olt main_v15 main_v16
  let main_c_3 : IVec S_ 1 := constantI S_ 1 1#1
  fn_part1 (F := F) main_v12 main_v17 main_c_3
-- ==== Kernel.lean ====
abbrev S16640x8x64 : Shape := ⟨3, ![16640, 8, 64]⟩
abbrev S16640x2x64 : Shape := ⟨3, ![16640, 2, 64]⟩
abbrev S_ : Shape := ⟨0, ![]⟩
abbrev S8x64x16640 : Shape := ⟨3, ![8, 64, 16640]⟩
abbrev S2x16640x64 : Shape := ⟨3, ![2, 16640, 64]⟩
abbrev S130x128x2x64 : Shape := ⟨4, ![130, 128, 2, 64]⟩
abbrev S2x130x64x128 : Shape := ⟨4, ![2, 130, 64, 128]⟩
abbrev S2x130x16x128 : Shape := ⟨4, ![2, 130, 16, 128]⟩
abbrev S2x130x80x128 : Shape := ⟨4, ![2, 130, 80, 128]⟩
abbrev S16640x512 : Shape := ⟨2, ![16640, 512]⟩
abbrev S4x64x256 : Shape := ⟨3, ![4, 64, 256]⟩
abbrev S1x16640x64 : Shape := ⟨3, ![1, 16640, 64]⟩
abbrev S1x130x80x128 : Shape := ⟨4, ![1, 130, 80, 128]⟩
abbrev S256x256 : Shape := ⟨2, ![256, 256]⟩
abbrev S2048x256 : Shape := ⟨2, ![2048, 256]⟩
abbrev S1x256 : Shape := ⟨2, ![1, 256]⟩
abbrev S80x256 : Shape := ⟨2, ![80, 256]⟩
abbrev S1x2048x64 : Shape := ⟨3, ![1, 2048, 64]⟩
abbrev S2048x64 : Shape := ⟨2, ![2048, 64]⟩
abbrev S1x64x256 : Shape := ⟨3, ![1, 64, 256]⟩
abbrev S64x256 : Shape := ⟨2, ![64, 256]⟩
abbrev S256 : Shape := ⟨1, ![256]⟩
abbrev S1x1x80x128 : Shape := ⟨4, ![1, 1, 80, 128]⟩
abbrev S80x128 : Shape := ⟨2, ![80, 128]⟩
abbrev S80x2048 : Shape := ⟨2, ![80, 2048]⟩
abbrev S1x256x64 : Shape := ⟨3, ![1, 256, 64]⟩
abbrev S256x64 : Shape := ⟨2, ![256, 64]⟩

abbrev nBuf : Space → Nat
  | .hbm => 28
  | .vmem => 16
  | .smem => 0
  | _ => 0

abbrev bufTy : (tb : Table) → Fin (tcTables nBuf tb) → BufTy
  | .hbm, ⟨0, _⟩ => ⟨S16640x8x64, .f32⟩
  | .hbm, ⟨1, _⟩ => ⟨S16640x2x64, .f32⟩
  | .hbm, ⟨2, _⟩ => ⟨S16640x2x64, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S16640x8x64, .f32⟩
  | .hbm, ⟨8, _⟩ => ⟨S16640x8x64, .f32⟩
  | .hbm, ⟨9, _⟩ => ⟨S8x64x16640, .f32⟩
  | .hbm, ⟨10, _⟩ => ⟨S8x64x16640, .bf16⟩
  | .hbm, ⟨11, _⟩ => ⟨S2x16640x64, .f32⟩
  | .hbm, ⟨12, _⟩ => ⟨S2x16640x64, .bf16⟩
  | .hbm, ⟨13, _⟩ => ⟨S130x128x2x64, .f32⟩
  | .hbm, ⟨14, _⟩ => ⟨S2x130x64x128, .f32⟩
  | .hbm, ⟨15, _⟩ => ⟨S2x130x16x128, .i32⟩
  | .hbm, ⟨16, _⟩ => ⟨S_, .i32⟩
  | .hbm, ⟨17, _⟩ => ⟨S2x130x16x128, .i32⟩
  | .hbm, ⟨18, _⟩ => ⟨S2x130x16x128, .i1⟩
  | .hbm, ⟨19, _⟩ => ⟨S_, .f32⟩
  | .hbm, ⟨20, _⟩ => ⟨S_, .f32⟩
  | .hbm, ⟨21, _⟩ => ⟨S2x130x16x128, .f32⟩
  | .hbm, ⟨22, _⟩ => ⟨S2x130x16x128, .f32⟩
  | .hbm, ⟨23, _⟩ => ⟨S2x130x16x128, .f32⟩
  | .hbm, ⟨24, _⟩ => ⟨S2x130x16x128, .f32⟩
  | .hbm, ⟨25, _⟩ => ⟨S2x130x80x128, .f32⟩
  | .hbm, ⟨26, _⟩ => ⟨S2x130x80x128, .bf16⟩
  | .hbm, ⟨27, _⟩ => ⟨S16640x512, .bf16⟩
  | .local _ .vmem, ⟨0, _⟩ => ⟨S4x64x256, .bf16⟩
  | .local _ .vmem, ⟨1, _⟩ => ⟨S4x64x256, .bf16⟩
  | .local _ .vmem, ⟨2, _⟩ => ⟨S1x16640x64, .bf16⟩
  | .local _ .vmem, ⟨3, _⟩ => ⟨S1x16640x64, .bf16⟩
  | .local _ .vmem, ⟨4, _⟩ => ⟨S1x130x80x128, .bf16⟩
  | .local _ .vmem, ⟨5, _⟩ => ⟨S1x130x80x128, .bf16⟩
  | .local _ .vmem, ⟨6, _⟩ => ⟨S256x256, .bf16⟩
  | .local _ .vmem, ⟨7, _⟩ => ⟨S256x256, .bf16⟩
  | .local _ .vmem, ⟨8, _⟩ => ⟨S2048x256, .f32⟩
  | .local _ .vmem, ⟨9, _⟩ => ⟨S2048x256, .f32⟩
  | .local _ .vmem, ⟨10, _⟩ => ⟨S2048x256, .f32⟩
  | .local _ .vmem, ⟨11, _⟩ => ⟨S2048x256, .f32⟩
  | .local _ .vmem, ⟨12, _⟩ => ⟨S2048x256, .f32⟩
  | .local _ .vmem, ⟨13, _⟩ => ⟨S2048x256, .f32⟩
  | .local _ .vmem, ⟨14, _⟩ => ⟨S2048x256, .f32⟩
  | .local _ .vmem, ⟨15, _⟩ => ⟨S2048x256, .f32⟩
  | _, _ => ⟨S16640x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_c : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_cst_2 : Ref sig .tc := ⟨.hbm, 20, rfl⟩
abbrev main_call0_v0 : Ref sig .tc := ⟨.hbm, 21, rfl⟩
abbrev main_call0_v1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_scratch5 : Ref sig .tc := ⟨.vmem, 13, rfl⟩
abbrev cc0_scratch6 : Ref sig .tc := ⟨.vmem, 14, rfl⟩
abbrev cc0_scratch7 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 65], ![false, false]⟩

def k0_cond1 (i : grid0.Coords) : BitVec 1 :=
  let arg1 : BitVec 32 := BitVec.ofNat 32 (i 1).val
  let c64_i32 : BitVec 32 := 64#32
  let v0 : BitVec 1 := Scalar.cmpi .slt arg1 c64_i32
  let v1 : BitVec 32 := Scalar.extui v0
  let c0_i32 : BitVec 32 := 0#32
  let v2 : BitVec 1 := Scalar.cmpi .ne v1 c0_i32
  v2

def k0_cond2 (i : grid0.Coords) : BitVec 1 :=
  let arg1 : BitVec 32 := BitVec.ofNat 32 (i 1).val
  let c64_i32_0 : BitVec 32 := 64#32
  let v3 : BitVec 1 := Scalar.cmpi .sge arg1 c64_i32_0
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S4x64x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16640x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x130x80x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceIdeal.lean ====
abbrev S16640x8x64 : Shape := ⟨3, ![16640, 8, 64]⟩
abbrev S16640x2x64 : Shape := ⟨3, ![16640, 2, 64]⟩
abbrev S256x2x64 : Shape := ⟨3, ![256, 2, 64]⟩
abbrev S2x256x64 : Shape := ⟨3, ![2, 256, 64]⟩
abbrev S16384x2x64 : Shape := ⟨3, ![16384, 2, 64]⟩
abbrev S2x16384x64 : Shape := ⟨3, ![2, 16384, 64]⟩
abbrev S2x16640x64 : Shape := ⟨3, ![2, 16640, 64]⟩
abbrev S16384x8x64 : Shape := ⟨3, ![16384, 8, 64]⟩
abbrev S16384x2x4x64 : Shape := ⟨4, ![16384, 2, 4, 64]⟩
abbrev S2x4x16384x64 : Shape := ⟨4, ![2, 4, 16384, 64]⟩
abbrev S2x4x16384x16640 : Shape := ⟨4, ![2, 4, 16384, 16640]⟩
abbrev S_ : Shape := ⟨0, ![]⟩
abbrev S2x4x16384 : Shape := ⟨3, ![2, 4, 16384]⟩
abbrev S2x4x16384x1 : Shape := ⟨4, ![2, 4, 16384, 1]⟩
abbrev S256x8x64 : Shape := ⟨3, ![256, 8, 64]⟩
abbrev S256x2x4x64 : Shape := ⟨4, ![256, 2, 4, 64]⟩
abbrev S2x4x256x64 : Shape := ⟨4, ![2, 4, 256, 64]⟩
abbrev S2x4x256x256 : Shape := ⟨4, ![2, 4, 256, 256]⟩
abbrev S2x4x256 : Shape := ⟨3, ![2, 4, 256]⟩
abbrev S2x4x256x1 : Shape := ⟨4, ![2, 4, 256, 1]⟩
abbrev S16384x512 : Shape := ⟨2, ![16384, 512]⟩
abbrev S256x512 : Shape := ⟨2, ![256, 512]⟩
abbrev S16640x512 : Shape := ⟨2, ![16640, 512]⟩

abbrev nBuf : Space → Nat
  | .hbm => 63
  | .vmem => 0
  | .smem => 0
  | _ => 0

abbrev bufTy : (tb : Table) → Fin (tcTables nBuf tb) → BufTy
  | .hbm, ⟨0, _⟩ => ⟨S16640x8x64, .f32⟩
  | .hbm, ⟨1, _⟩ => ⟨S16640x2x64, .f32⟩
  | .hbm, ⟨2, _⟩ => ⟨S16640x2x64, .f32⟩
  | .hbm, ⟨3, _⟩ => ⟨S256x2x64, .f32⟩
  | .hbm, ⟨4, _⟩ => ⟨S2x256x64, .f32⟩
  | .hbm, ⟨5, _⟩ => ⟨S256x2x64, .f32⟩
  | .hbm, ⟨6, _⟩ => ⟨S2x256x64, .f32⟩
  | .hbm, ⟨7, _⟩ => ⟨S16384x2x64, .f32⟩
  | .hbm, ⟨8, _⟩ => ⟨S2x16384x64, .f32⟩
  | .hbm, ⟨9, _⟩ => ⟨S2x16640x64, .f32⟩
  | .hbm, ⟨10, _⟩ => ⟨S16384x2x64, .f32⟩
  | .hbm, ⟨11, _⟩ => ⟨S2x16384x64, .f32⟩
  | .hbm, ⟨12, _⟩ => ⟨S2x16640x64, .f32⟩
  | .hbm, ⟨13, _⟩ => ⟨S16384x8x64, .f32⟩
  | .hbm, ⟨14, _⟩ => ⟨S16384x2x4x64, .f32⟩
  | .hbm, ⟨15, _⟩ => ⟨S2x4x16384x64, .f32⟩
  | .hbm, ⟨16, _⟩ => ⟨S2x4x16384x16640, .f32⟩
  | .hbm, ⟨17, _⟩ => ⟨S_, .f32⟩
  | .hbm, ⟨18, _⟩ => ⟨S2x4x16384x16640, .f32⟩
  | .hbm, ⟨19, _⟩ => ⟨S2x4x16384x16640, .f32⟩
  | .hbm, ⟨20, _⟩ => ⟨S_, .f32⟩
  | .hbm, ⟨21, _⟩ => ⟨S2x4x16384, .f32⟩
  | .hbm, ⟨22, _⟩ => ⟨S_, .f32⟩
  | .hbm, ⟨23, _⟩ => ⟨S2x4x16384, .f32⟩
  | .hbm, ⟨24, _⟩ => ⟨S2x4x16384, .f32⟩
  | .hbm, ⟨25, _⟩ => ⟨S2x4x16384x1, .f32⟩
  | .hbm, ⟨26, _⟩ => ⟨S2x4x16384x16640, .f32⟩
  | .hbm, ⟨27, _⟩ => ⟨S2x4x16384x16640, .f32⟩
  | .hbm, ⟨28, _⟩ => ⟨S2x4x16384x16640, .f32⟩
  | .hbm, ⟨29, _⟩ => ⟨S_, .f32⟩
  | .hbm, ⟨30, _⟩ => ⟨S2x4x16384, .f32⟩
  | .hbm, ⟨31, _⟩ => ⟨S2x4x16384x1, .f32⟩
  | .hbm, ⟨32, _⟩ => ⟨S2x4x16384x16640, .f32⟩
  | .hbm, ⟨33, _⟩ => ⟨S2x4x16384x16640, .f32⟩
  | .hbm, ⟨34, _⟩ => ⟨S2x4x16384x64, .f32⟩
  | .hbm, ⟨35, _⟩ => ⟨S256x8x64, .f32⟩
  | .hbm, ⟨36, _⟩ => ⟨S256x2x4x64, .f32⟩
  | .hbm, ⟨37, _⟩ => ⟨S2x4x256x64, .f32⟩
  | .hbm, ⟨38, _⟩ => ⟨S2x4x256x256, .f32⟩
  | .hbm, ⟨39, _⟩ => ⟨S_, .f32⟩
  | .hbm, ⟨40, _⟩ => ⟨S2x4x256x256, .f32⟩
  | .hbm, ⟨41, _⟩ => ⟨S2x4x256x256, .f32⟩
  | .hbm, ⟨42, _⟩ => ⟨S_, .f32⟩
  | .hbm, ⟨43, _⟩ => ⟨S2x4x256, .f32⟩
  | .hbm, ⟨44, _⟩ => ⟨S_, .f32⟩
  | .hbm, ⟨45, _⟩ => ⟨S2x4x256, .f32⟩
  | .hbm, ⟨46, _⟩ => ⟨S2x4x256, .f32⟩
  | .hbm, ⟨47, _⟩ => ⟨S2x4x256x1, .f32⟩
  | .hbm, ⟨48, _⟩ => ⟨S2x4x256x256, .f32⟩
  | .hbm, ⟨49, _⟩ => ⟨S2x4x256x256, .f32⟩
  | .hbm, ⟨50, _⟩ => ⟨S2x4x256x256, .f32⟩
  | .hbm, ⟨51, _⟩ => ⟨S_, .f32⟩
  | .hbm, ⟨52, _⟩ => ⟨S2x4x256, .f32⟩
  | .hbm, ⟨53, _⟩ => ⟨S2x4x256x1, .f32⟩
  | .hbm, ⟨54, _⟩ => ⟨S2x4x256x256, .f32⟩
  | .hbm, ⟨55, _⟩ => ⟨S2x4x256x256, .f32⟩
  | .hbm, ⟨56, _⟩ => ⟨S2x4x256x64, .f32⟩
  | .hbm, ⟨57, _⟩ => ⟨S16384x2x4x64, .f32⟩
  | .hbm, ⟨58, _⟩ => ⟨S16384x512, .f32⟩
  | .hbm, ⟨59, _⟩ => ⟨S256x2x4x64, .f32⟩
  | .hbm, ⟨60, _⟩ => ⟨S256x512, .f32⟩
  | .hbm, ⟨61, _⟩ => ⟨S16640x512, .f32⟩
  | .hbm, ⟨62, _⟩ => ⟨S16640x512, .bf16⟩
  | _, _ => ⟨S16640x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_cst : Ref sig .tc := ⟨.hbm, 17, rfl⟩
abbrev main_v14 : Ref sig .tc := ⟨.hbm, 18, rfl⟩
abbrev main_v15 : Ref sig .tc := ⟨.hbm, 19, rfl⟩
abbrev main_cst_0 : Ref sig .tc := ⟨.hbm, 20, rfl⟩
abbrev main_v16 : Ref sig .tc := ⟨.hbm, 21, rfl⟩
abbrev main_cst_1 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst_2 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_cst_3 : Ref sig .tc := ⟨.hbm, 39, rfl⟩
abbrev main_v32 : Ref sig .tc := ⟨.hbm, 40, rfl⟩
abbrev main_v33 : Ref sig .tc := ⟨.hbm, 41, rfl⟩
abbrev main_cst_4 : Ref sig .tc := ⟨.hbm, 42, rfl⟩
abbrev main_v34 : Ref sig .tc := ⟨.hbm, 43, rfl⟩
abbrev main_cst_5 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_cst_6 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩

abbrev nD : Nat := 1
abbrev τ : Topo := Topo.v7x

variable {F : FTy → Type} [FloatOps F]
-- ==== Kernel2.lean ====
abbrev S16x2080x1024 : Shape := ⟨3, ![16, 2080, 1024]⟩
abbrev S4x16x1024x2048 : Shape := ⟨4, ![4, 16, 1024, 2048]⟩
abbrev S4x16x2048x1024 : Shape := ⟨4, ![4, 16, 2048, 1024]⟩
abbrev S1x2080x1024 : Shape := ⟨3, ![1, 2080, 1024]⟩
abbrev S1x1x1024x512 : Shape := ⟨4, ![1, 1, 1024, 512]⟩
abbrev S1x1x512x1024 : Shape := ⟨4, ![1, 1, 512, 1024]⟩
abbrev S2080x1024 : Shape := ⟨2, ![2080, 1024]⟩
abbrev S1024x512 : Shape := ⟨2, ![1024, 512]⟩
abbrev S512x1024 : Shape := ⟨2, ![512, 1024]⟩
abbrev S1x1040x1024 : Shape := ⟨3, ![1, 1040, 1024]⟩
abbrev S1040x1024 : Shape := ⟨2, ![1040, 1024]⟩
abbrev S1040x512 : Shape := ⟨2, ![1040, 512]⟩

abbrev nBuf : Space → Nat
  | .hbm => 5
  | .vmem => 11
  | .smem => 0
  | _ => 0

abbrev bufTy : (tb : Table) → Fin (tcTables nBuf tb) → BufTy
  | .hbm, ⟨0, _⟩ => ⟨S16x2080x1024, .bf16⟩
  | .hbm, ⟨1, _⟩ => ⟨S4x16x1024x2048, .f32⟩
  | .hbm, ⟨2, _⟩ => ⟨S4x16x1024x2048, .f32⟩
  | .hbm, ⟨3, _⟩ => ⟨S4x16x2048x1024, .f32⟩
  | .hbm, ⟨4, _⟩ => ⟨S16x2080x1024, .bf16⟩
  | .local _ .vmem, ⟨0, _⟩ => ⟨S1x2080x1024, .bf16⟩
  | .local _ .vmem, ⟨1, _⟩ => ⟨S1x2080x1024, .bf16⟩
  | .local _ .vmem, ⟨2, _⟩ => ⟨S1x1x1024x512, .f32⟩
  | .local _ .vmem, ⟨3, _⟩ => ⟨S1x1x1024x512, .f32⟩
  | .local _ .vmem, ⟨4, _⟩ => ⟨S1x1x1024x512, .f32⟩
  | .local _ .vmem, ⟨5, _⟩ => ⟨S1x1x1024x512, .f32⟩
  | .local _ .vmem, ⟨6, _⟩ => ⟨S1x1x512x1024, .f32⟩
  | .local _ .vmem, ⟨7, _⟩ => ⟨S1x1x512x1024, .f32⟩
  | .local _ .vmem, ⟨8, _⟩ => ⟨S1x2080x1024, .bf16⟩
  | .local _ .vmem, ⟨9, _⟩ => ⟨S1x2080x1024, .bf16⟩
  | .local _ .vmem, ⟨10, _⟩ => ⟨S2080x1024, .f32⟩
  | _, _ => ⟨S16x2080x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 4], ![false, false]⟩

def k0_cond2 (i : grid0.Coords) : BitVec 1 :=
  let arg1 : BitVec 32 := BitVec.ofNat 32 (i 1).val
  let c3_i32 : BitVec 32 := 3#32
  let v52 : BitVec 1 := Scalar.cmpi .eq arg1 c3_i32
  let v53 : BitVec 32 := Scalar.extui v52
  let c0_i32_36 : BitVec 32 := 0#32
  let v54 : BitVec 1 := Scalar.cmpi .ne v53 c0_i32_36
  v54

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat, arg1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat, arg1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2080x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2080x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference2Ideal.lean ====
abbrev S16x2080x1024 : Shape := ⟨3, ![16, 2080, 1024]⟩
abbrev S4x16x1024x2048 : Shape := ⟨4, ![4, 16, 1024, 2048]⟩
abbrev S4x16x2048x1024 : Shape := ⟨4, ![4, 16, 2048, 1024]⟩
abbrev S1x16x1024x2048 : Shape := ⟨4, ![1, 16, 1024, 2048]⟩
abbrev S16x1024x2048 : Shape := ⟨3, ![16, 1024, 2048]⟩
abbrev S16x2080x2048 : Shape := ⟨3, ![16, 2080, 2048]⟩
abbrev S_ : Shape := ⟨0, ![]⟩
abbrev S1x16x2048x1024 : Shape := ⟨4, ![1, 16, 2048, 1024]⟩
abbrev S16x2048x1024 : Shape := ⟨3, ![16, 2048, 1024]⟩

abbrev nBuf : Space → Nat
  | .hbm => 25
  | .vmem => 0
  | .smem => 0
  | _ => 0

abbrev bufTy : (tb : Table) → Fin (tcTables nBuf tb) → BufTy
  | .hbm, ⟨0, _⟩ => ⟨S16x2080x1024, .bf16⟩
  | .hbm, ⟨1, _⟩ => ⟨S4x16x1024x2048, .f32⟩
  | .hbm, ⟨2, _⟩ => ⟨S4x16x1024x2048, .f32⟩
  | .hbm, ⟨3, _⟩ => ⟨S4x16x2048x1024, .f32⟩
  | .hbm, ⟨4, _⟩ => ⟨S16x2080x1024, .f32⟩
  | .hbm, ⟨5, _⟩ => ⟨S1x16x1024x2048, .f32⟩
  | .hbm, ⟨6, _⟩ => ⟨S16x1024x2048, .f32⟩
  | .hbm, ⟨7, _⟩ => ⟨S16x2080x2048, .f32⟩
  | .hbm, ⟨8, _⟩ => ⟨S1x16x1024x2048, .f32⟩
  | .hbm, ⟨9, _⟩ => ⟨S16x1024x2048, .f32⟩
  | .hbm, ⟨10, _⟩ => ⟨S16x2080x2048, .f32⟩
  | .hbm, ⟨11, _⟩ => ⟨S16x2080x2048, .f32⟩
  | .hbm, ⟨12, _⟩ => ⟨S16x2080x2048, .f32⟩
  | .hbm, ⟨13, _⟩ => ⟨S_, .f32⟩
  | .hbm, ⟨14, _⟩ => ⟨S16x2080x2048, .f32⟩
  | .hbm, ⟨15, _⟩ => ⟨S16x2080x2048, .f32⟩
  | .hbm, ⟨16, _⟩ => ⟨S_, .f32⟩
  | .hbm, ⟨17, _⟩ => ⟨S16x2080x2048, .f32⟩
  | .hbm, ⟨18, _⟩ => ⟨S16x2080x2048, .f32⟩
  | .hbm, ⟨19, _⟩ => ⟨S16x2080x2048, .f32⟩
  | .hbm, ⟨20, _⟩ => ⟨S16x2080x2048, .f32⟩
  | .hbm, ⟨21, _⟩ => ⟨S1x16x2048x1024, .f32⟩
  | .hbm, ⟨22, _⟩ => ⟨S16x2048x1024, .f32⟩
  | .hbm, ⟨23, _⟩ => ⟨S16x2080x1024, .f32⟩
  | .hbm, ⟨24, _⟩ => ⟨S16x2080x1024, .bf16⟩
  | _, _ => ⟨S16x2080x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_call0_v5 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩

abbrev nD : Nat := 1
abbrev τ : Topo := Topo.v7x

variable {F : FTy → Type} [FloatOps F]
-- ==== Kernel3.lean ====
abbrev S16640x1024 : Shape := ⟨2, ![16640, 1024]⟩
abbrev S4x2x6x1024 : Shape := ⟨4, ![4, 2, 6, 1024]⟩
abbrev S16640x512 : Shape := ⟨2, ![16640, 512]⟩
abbrev S16640x256 : Shape := ⟨2, ![16640, 256]⟩
abbrev S16384x256 : Shape := ⟨2, ![16384, 256]⟩
abbrev S256x256 : Shape := ⟨2, ![256, 256]⟩
abbrev S4x1024x1024 : Shape := ⟨3, ![4, 1024, 1024]⟩
abbrev S4x1024 : Shape := ⟨2, ![4, 1024]⟩
abbrev S4x1024x16 : Shape := ⟨3, ![4, 1024, 16]⟩
abbrev S_ : Shape := ⟨0, ![]⟩
abbrev S4x1024x128 : Shape := ⟨3, ![4, 1024, 128]⟩
abbrev S4x1x1024 : Shape := ⟨3, ![4, 1, 1024]⟩
abbrev S16640x128 : Shape := ⟨2, ![16640, 128]⟩
abbrev S256x1024 : Shape := ⟨2, ![256, 1024]⟩
abbrev S1x1x6x1024 : Shape := ⟨4, ![1, 1, 6, 1024]⟩
abbrev S256x512 : Shape := ⟨2, ![256, 512]⟩
abbrev S1x1024x1024 : Shape := ⟨3, ![1, 1024, 1024]⟩
abbrev S1x1x1024 : Shape := ⟨3, ![1, 1, 1024]⟩
abbrev S1x1024x128 : Shape := ⟨3, ![1, 1024, 128]⟩
abbrev S256x128 : Shape := ⟨2, ![256, 128]⟩
abbrev S1x512x1024 : Shape := ⟨3, ![1, 512, 1024]⟩
abbrev S512x1024 : Shape := ⟨2, ![512, 1024]⟩
abbrev S1x256x1024 : Shape := ⟨3, ![1, 256, 1024]⟩
abbrev S1x1x1x1024 : Shape := ⟨4, ![1, 1, 1, 1024]⟩
abbrev S1x1024 : Shape := ⟨2, ![1, 1024]⟩
abbrev S256 : Shape := ⟨1, ![256]⟩
abbrev S256x1 : Shape := ⟨2, ![256, 1]⟩
abbrev S1024x128 : Shape := ⟨2, ![1024, 128]⟩

abbrev nBuf : Space → Nat
  | .hbm => 17
  | .vmem => 20
  | .smem => 0
  | _ => 0

abbrev bufTy : (tb : Table) → Fin (tcTables nBuf tb) → BufTy
  | .hbm, ⟨0, _⟩ => ⟨S16640x1024, .f32⟩
  | .hbm, ⟨1, _⟩ => ⟨S4x2x6x1024, .f32⟩
  | .hbm, ⟨2, _⟩ => ⟨S16640x512, .bf16⟩
  | .hbm, ⟨3, _⟩ => ⟨S16640x256, .bf16⟩
  | .hbm, ⟨4, _⟩ => ⟨S16384x256, .bf16⟩
  | .hbm, ⟨5, _⟩ => ⟨S256x256, .bf16⟩
  | .hbm, ⟨6, _⟩ => ⟨S4x1024x1024, .f32⟩
  | .hbm, ⟨7, _⟩ => ⟨S4x1024, .f32⟩
  | .hbm, ⟨8, _⟩ => ⟨S4x1024x16, .f32⟩
  | .hbm, ⟨9, _⟩ => ⟨S_, .i32⟩
  | .hbm, ⟨10, _⟩ => ⟨S_, .f32⟩
  | .hbm, ⟨11, _⟩ => ⟨S4x1024x128, .f32⟩
  | .hbm, ⟨12, _⟩ => ⟨S4x1x1024, .f32⟩
  | .hbm, ⟨13, _⟩ => ⟨S4x1024x1024, .bf16⟩
  | .hbm, ⟨14, _⟩ => ⟨S16640x1024, .f32⟩
  | .hbm, ⟨15, _⟩ => ⟨S16640x1024, .f32⟩
  | .hbm, ⟨16, _⟩ => ⟨S16640x128, .f32⟩
  | .local _ .vmem, ⟨0, _⟩ => ⟨S256x1024, .f32⟩
  | .local _ .vmem, ⟨1, _⟩ => ⟨S256x1024, .f32⟩
  | .local _ .vmem, ⟨2, _⟩ => ⟨S1x1x6x1024, .f32⟩
  | .local _ .vmem, ⟨3, _⟩ => ⟨S1x1x6x1024, .f32⟩
  | .local _ .vmem, ⟨4, _⟩ => ⟨S256x512, .bf16⟩
  | .local _ .vmem, ⟨5, _⟩ => ⟨S256x512, .bf16⟩
  | .local _ .vmem, ⟨6, _⟩ => ⟨S256x256, .bf16⟩
  | .local _ .vmem, ⟨7, _⟩ => ⟨S256x256, .bf16⟩
  | .local _ .vmem, ⟨8, _⟩ => ⟨S256x256, .bf16⟩
  | .local _ .vmem, ⟨9, _⟩ => ⟨S256x256, .bf16⟩
  | .local _ .vmem, ⟨10, _⟩ => ⟨S256x256, .bf16⟩
  | .local _ .vmem, ⟨11, _⟩ => ⟨S1x1024x1024, .bf16⟩
  | .local _ .vmem, ⟨12, _⟩ => ⟨S1x1x1024, .f32⟩
  | .local _ .vmem, ⟨13, _⟩ => ⟨S1x1024x128, .f32⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | .local _ .vmem, ⟨18, _⟩ => ⟨S256x128, .f32⟩
  | .local _ .vmem, ⟨19, _⟩ => ⟨S256x128, .f32⟩
  | _, _ => ⟨S16640x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_call0_v0 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3_0 : Ref sig .tc := ⟨.hbm, 14, rfl⟩
abbrev main_v3_1 : Ref sig .tc := ⟨.hbm, 15, rfl⟩
abbrev main_v3_2 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨1, ![65], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c64_i32 : BitVec 32 := 64#32
  let v0 : BitVec 32 := Scalar.divsi arg0 c64_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c64_i32 c0_i32_1
  let v7 : BitVec 32 := Scalar.extui v6
  let c0_i32_2 : BitVec 32 := 0#32
  let v8 : BitVec 1 := Scalar.cmpi .slt c64_i32 c0_i32_2
  let v9 : BitVec 32 := Scalar.extui v8
  let v10 : BitVec 32 := Scalar.subi v7 v9
  let v11 : BitVec 1 := Scalar.cmpi .ne v5 v10
  let v12 : BitVec 32 := Scalar.remsi arg0 c64_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  let c0_i32_7 : BitVec 32 := 0#32
  ![c0_i32_4.toNat, v16.toNat, c0_i32_5.toNat, c0_i32_6.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference3Ideal.lean ====
abbrev S16640x1024 : Shape := ⟨2, ![16640, 1024]⟩
abbrev S4x2x6x1024 : Shape := ⟨4, ![4, 2, 6, 1024]⟩
abbrev S16640x512 : Shape := ⟨2, ![16640, 512]⟩
abbrev S16640x256 : Shape := ⟨2, ![16640, 256]⟩
abbrev S16384x256 : Shape := ⟨2, ![16384, 256]⟩
abbrev S256x256 : Shape := ⟨2, ![256, 256]⟩
abbrev S4x1024x1024 : Shape := ⟨3, ![4, 1024, 1024]⟩
abbrev S4x1024 : Shape := ⟨2, ![4, 1024]⟩
abbrev S4x1024x16 : Shape := ⟨3, ![4, 1024, 16]⟩
abbrev S16384x1024 : Shape := ⟨2, ![16384, 1024]⟩
abbrev S16384x512 : Shape := ⟨2, ![16384, 512]⟩
abbrev S1x1x6x1024 : Shape := ⟨4, ![1, 1, 6, 1024]⟩
abbrev S6x1024 : Shape := ⟨2, ![6, 1024]⟩
abbrev S1x1024x1024 : Shape := ⟨3, ![1, 1024, 1024]⟩
abbrev S1024x1024 : Shape := ⟨2, ![1024, 1024]⟩
abbrev S1x1024 : Shape := ⟨2, ![1, 1024]⟩
abbrev S1024 : Shape := ⟨1, ![1024]⟩
abbrev S1x1024x16 : Shape := ⟨3, ![1, 1024, 16]⟩
abbrev S1024x16 : Shape := ⟨2, ![1024, 16]⟩
abbrev S_ : Shape := ⟨0, ![]⟩
abbrev S16384 : Shape := ⟨1, ![16384]⟩
abbrev S16384x1 : Shape := ⟨2, ![16384, 1]⟩
abbrev S16384x16 : Shape := ⟨2, ![16384, 16]⟩
abbrev S16384x128 : Shape := ⟨2, ![16384, 128]⟩
abbrev S256x1024 : Shape := ⟨2, ![256, 1024]⟩
abbrev S256x512 : Shape := ⟨2, ![256, 512]⟩
abbrev S256 : Shape := ⟨1, ![256]⟩
abbrev S256x1 : Shape := ⟨2, ![256, 1]⟩
abbrev S256x16 : Shape := ⟨2, ![256, 16]⟩
abbrev S256x128 : Shape := ⟨2, ![256, 128]⟩
abbrev S16640x128 : Shape := ⟨2, ![16640, 128]⟩

abbrev nBuf : Space → Nat
  | .hbm => 146
  | .vmem => 0
  | .smem => 0
  | _ => 0

abbrev hbmTy0_0 (i : Nat) : BufTy := match i % 128 with
  | 0 => ⟨S16640x1024, .f32⟩
  | 1 => ⟨S4x2x6x1024, .f32⟩
  | 2 => ⟨S16640x512, .bf16⟩
  | 3 => ⟨S16640x256, .bf16⟩
  | 4 => ⟨S16384x256, .bf16⟩
  | 5 => ⟨S256x256, .bf16⟩
  | 6 => ⟨S4x1024x1024, .f32⟩
  | 7 => ⟨S4x1024, .f32⟩
  | 8 => ⟨S4x1024x16, .f32⟩
  | 9 => ⟨S16384x1024, .f32⟩
  | 10 => ⟨S16384x512, .bf16⟩
  | 11 => ⟨S16384x256, .bf16⟩
  | 12 => ⟨S1x1x6x1024, .f32⟩
  | 13 => ⟨S6x1024, .f32⟩
  | 14 => ⟨S1x1024x1024, .f32⟩
  | 15 => ⟨S1024x1024, .f32⟩
  | 16 => ⟨S1x1024, .f32⟩
  | 17 => ⟨S1024, .f32⟩
  | 18 => ⟨S1x1024x16, .f32⟩
  | 19 => ⟨S1024x16, .f32⟩
  | 20 => ⟨S16384x1024, .bf16⟩
  | 21 => ⟨S16384x1024, .f32⟩
  | 22 => ⟨S16384x1024, .f32⟩
  | 23 => ⟨S1x1024, .f32⟩
  | 24 => ⟨S1024, .f32⟩
  | 25 => ⟨S1x1024, .f32⟩
  | 26 => ⟨S16384x1024, .f32⟩
  | 27 => ⟨S16384x1024, .f32⟩
  | 28 => ⟨S16384x1024, .f32⟩
  | 29 => ⟨S16384x1024, .f32⟩
  | 30 => ⟨S_, .f32⟩
  | 31 => ⟨S16384, .f32⟩
  | 32 => ⟨S16384x1, .f32⟩
  | 33 => ⟨S_, .f32⟩
  | 34 => ⟨S16384x1, .f32⟩
  | 35 => ⟨S16384x1, .f32⟩
  | 36 => ⟨S_, .f32⟩
  | 37 => ⟨S16384x1, .f32⟩
  | 38 => ⟨S16384x1, .f32⟩
  | 39 => ⟨S16384x1, .f32⟩
  | 40 => ⟨S16384x1024, .f32⟩
  | 41 => ⟨S16384x1024, .f32⟩
  | 42 => ⟨S1x1024, .f32⟩
  | 43 => ⟨S16384x1024, .f32⟩
  | 44 => ⟨S16384x1024, .f32⟩
  | 45 => ⟨S1x1024, .f32⟩
  | 46 => ⟨S1024, .f32⟩
  | 47 => ⟨S1x1024, .f32⟩
  | 48 => ⟨S1024, .f32⟩
  | 49 => ⟨S_, .f32⟩
  | 50 => ⟨S1024, .f32⟩
  | 51 => ⟨S1024, .f32⟩
  | 52 => ⟨S1x1024, .f32⟩
  | 53 => ⟨S16384x1024, .f32⟩
  | 54 => ⟨S16384x1024, .f32⟩
  | 55 => ⟨S1x1024, .f32⟩
  | 56 => ⟨S16384x1024, .f32⟩
  | 57 => ⟨S16384x1024, .f32⟩
  | 58 => ⟨S16384x16, .f32⟩
  | 59 => ⟨S_, .f32⟩
  | 60 => ⟨S16384, .f32⟩
  | 61 => ⟨S_, .f32⟩
  | 62 => ⟨S16384, .f32⟩
  | 63 => ⟨S16384, .f32⟩
  | 64 => ⟨S16384x1, .f32⟩
  | 65 => ⟨S16384x16, .f32⟩
  | 66 => ⟨S16384x16, .f32⟩
  | 67 => ⟨S16384x16, .f32⟩
  | 68 => ⟨S_, .f32⟩
  | 69 => ⟨S16384, .f32⟩
  | 70 => ⟨S16384x1, .f32⟩
  | 71 => ⟨S16384x16, .f32⟩
  | 72 => ⟨S16384x16, .f32⟩
  | 73 => ⟨S_, .i32⟩
  | 74 => ⟨S_, .f32⟩
  | 75 => ⟨S16384x128, .f32⟩
  | 76 => ⟨S256x1024, .f32⟩
  | 77 => ⟨S256x512, .bf16⟩
  | 78 => ⟨S256x256, .bf16⟩
  | 79 => ⟨S1x1x6x1024, .f32⟩
  | 80 => ⟨S6x1024, .f32⟩
  | 81 => ⟨S1x1024x1024, .f32⟩
  | 82 => ⟨S1024x1024, .f32⟩
  | 83 => ⟨S1x1024, .f32⟩
  | 84 => ⟨S1024, .f32⟩
  | 85 => ⟨S1x1024x16, .f32⟩
  | 86 => ⟨S1024x16, .f32⟩
  | 87 => ⟨S256x1024, .bf16⟩
  | 88 => ⟨S256x1024, .f32⟩
  | 89 => ⟨S256x1024, .f32⟩
  | 90 => ⟨S1x1024, .f32⟩
  | 91 => ⟨S1024, .f32⟩
  | 92 => ⟨S1x1024, .f32⟩
  | 93 => ⟨S256x1024, .f32⟩
  | 94 => ⟨S256x1024, .f32⟩
  | 95 => ⟨S256x1024, .f32⟩
  | 96 => ⟨S256x1024, .f32⟩
  | 97 => ⟨S_, .f32⟩
  | 98 => ⟨S256, .f32⟩
  | 99 => ⟨S256x1, .f32⟩
  | 100 => ⟨S_, .f32⟩
  | 101 => ⟨S256x1, .f32⟩
  | 102 => ⟨S256x1, .f32⟩
  | 103 => ⟨S_, .f32⟩
  | 104 => ⟨S256x1, .f32⟩
  | 105 => ⟨S256x1, .f32⟩
  | 106 => ⟨S256x1, .f32⟩
  | 107 => ⟨S256x1024, .f32⟩
  | 108 => ⟨S256x1024, .f32⟩
  | 109 => ⟨S1x1024, .f32⟩
  | 110 => ⟨S256x1024, .f32⟩
  | 111 => ⟨S256x1024, .f32⟩
  | 112 => ⟨S1x1024, .f32⟩
  | 113 => ⟨S1024, .f32⟩
  | 114 => ⟨S1x1024, .f32⟩
  | 115 => ⟨S1024, .f32⟩
  | 116 => ⟨S_, .f32⟩
  | 117 => ⟨S1024, .f32⟩
  | 118 => ⟨S1024, .f32⟩
  | 119 => ⟨S1x1024, .f32⟩
  | 120 => ⟨S256x1024, .f32⟩
  | 121 => ⟨S256x1024, .f32⟩
  | 122 => ⟨S1x1024, .f32⟩
  | 123 => ⟨S256x1024, .f32⟩
  | 124 => ⟨S256x1024, .f32⟩
  | 125 => ⟨S256x16, .f32⟩
  | 126 => ⟨S_, .f32⟩
  | 127 => ⟨S256, .f32⟩
  | _ => ⟨S16640x1024, .f32⟩

abbrev hbmTy0_1 (i : Nat) : BufTy := match i % 128 with
  | 0 => ⟨S_, .f32⟩
  | 1 => ⟨S256, .f32⟩
  | 2 => ⟨S256, .f32⟩
  | 3 => ⟨S256x1, .f32⟩
  | 4 => ⟨S256x16, .f32⟩
  | 5 => ⟨S256x16, .f32⟩
  | 6 => ⟨S256x16, .f32⟩
  | 7 => ⟨S_, .f32⟩
  | 8 => ⟨S256, .f32⟩
  | 9 => ⟨S256x1, .f32⟩
  | 10 => ⟨S256x16, .f32⟩
  | 11 => ⟨S256x16, .f32⟩
  | 12 => ⟨S_, .i32⟩
  | 13 => ⟨S_, .f32⟩
  | 14 => ⟨S256x128, .f32⟩
  | 15 => ⟨S16640x1024, .f32⟩
  | 16 => ⟨S16640x1024, .f32⟩
  | 17 => ⟨S16640x128, .f32⟩
  | _ => ⟨S16640x1024, .f32⟩

abbrev hbmTy (i : Nat) : BufTy := match i / 128 with
  | 0 => hbmTy0_0 i
  | 1 => hbmTy0_1 i
  | _ => ⟨S16640x1024, .f32⟩

abbrev bufTy : (tb : Table) → Fin (tcTables nBuf tb) → BufTy
  | .hbm, ⟨i, _⟩ => hbmTy i
  | _, _ => ⟨S16640x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst : Ref sig .tc := ⟨.hbm, 30, rfl⟩
abbrev main_v21 : Ref sig .tc := ⟨.hbm, 31, rfl⟩
abbrev main_v22 : Ref sig .tc := ⟨.hbm, 32, rfl⟩
abbrev main_cst_0 : Ref sig .tc := ⟨.hbm, 33, rfl⟩
abbrev main_v23 : Ref sig .tc := ⟨.hbm, 34, rfl⟩
abbrev main_v24 : Ref sig .tc := ⟨.hbm, 35, rfl⟩
abbrev main_cst_1 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst_2 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_cst_3 : Ref sig .tc := ⟨.hbm, 59, rfl⟩
abbrev main_v46 : Ref sig .tc := ⟨.hbm, 60, rfl⟩
abbrev main_cst_4 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_cst_5 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_c : Ref sig .tc := ⟨.hbm, 73, rfl⟩
abbrev main_call0_v0 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_cst_6 : Ref sig .tc := ⟨.hbm, 97, rfl⟩
abbrev main_v79 : Ref sig .tc := ⟨.hbm, 98, rfl⟩
abbrev main_v80 : Ref sig .tc := ⟨.hbm, 99, rfl⟩
abbrev main_cst_7 : Ref sig .tc := ⟨.hbm, 100, rfl⟩
abbrev main_v81 : Ref sig .tc := ⟨.hbm, 101, rfl⟩
abbrev main_v82 : Ref sig .tc := ⟨.hbm, 102, rfl⟩
abbrev main_cst_8 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_cst_9 : Ref sig .tc := ⟨.hbm, 116, rfl⟩
abbrev main_v95 : Ref sig .tc := ⟨.hbm, 117, rfl⟩
abbrev main_v96 : Ref sig .tc := ⟨.hbm, 118, rfl⟩
abbrev main_v97 : Ref sig .tc := ⟨.hbm, 119, rfl⟩
abbrev main_v98 : Ref sig .tc := ⟨.hbm, 120, rfl⟩
abbrev main_v99 : Ref sig .tc := ⟨.hbm, 121, rfl⟩
abbrev main_v100 : Ref sig .tc := ⟨.hbm, 122, rfl⟩
abbrev main_v101 : Ref sig .tc := ⟨.hbm, 123, rfl⟩
abbrev main_v102 : Ref sig .tc := ⟨.hbm, 124, rfl⟩
abbrev main_v103 : Ref sig .tc := ⟨.hbm, 125, rfl⟩
abbrev main_cst_10 : Ref sig .tc := ⟨.hbm, 126, rfl⟩
abbrev main_v104 : Ref sig .tc := ⟨.hbm, 127, rfl⟩
abbrev main_cst_11 : Ref sig .tc := ⟨.hbm, 128, rfl⟩
abbrev main_v105 : Ref sig .tc := ⟨.hbm, 129, rfl⟩
abbrev main_v106 : Ref sig .tc := ⟨.hbm, 130, rfl⟩
abbrev main_v107 : Ref sig .tc := ⟨.hbm, 131, rfl⟩
abbrev main_v108 : Ref sig .tc := ⟨.hbm, 132, rfl⟩
abbrev main_v109 : Ref sig .tc := ⟨.hbm, 133, rfl⟩
abbrev main_v110 : Ref sig .tc := ⟨.hbm, 134, rfl⟩
abbrev main_cst_12 : Ref sig .tc := ⟨.hbm, 135, rfl⟩
abbrev main_v111 : Ref sig .tc := ⟨.hbm, 136, rfl⟩
abbrev main_v112 : Ref sig .tc := ⟨.hbm, 137, rfl⟩
abbrev main_v113 : Ref sig .tc := ⟨.hbm, 138, rfl⟩
abbrev main_v114 : Ref sig .tc := ⟨.hbm, 139, rfl⟩
abbrev main_c_13 : Ref sig .tc := ⟨.hbm, 140, rfl⟩
abbrev main_call1_v0 : Ref sig .tc := ⟨.hbm, 141, rfl⟩
abbrev main_v115 : Ref sig .tc := ⟨.hbm, 142, rfl⟩
abbrev main_v116 : Ref sig .tc := ⟨.hbm, 143, rfl⟩
abbrev main_v117 : Ref sig .tc := ⟨.hbm, 144, rfl⟩
abbrev main_v118 : Ref sig .tc := ⟨.hbm, 145, rfl⟩

abbrev nD : Nat := 1
abbrev τ : Topo := Topo.v7x

variable {F : FTy → Type} [FloatOps F]
-- ==== Kernel4.lean ====
abbrev S16640x1024 : Shape := ⟨2, ![16640, 1024]⟩
abbrev S4x2x6x1024 : Shape := ⟨4, ![4, 2, 6, 1024]⟩
abbrev S4x1024 : Shape := ⟨2, ![4, 1024]⟩
abbrev S4x1024x1536 : Shape := ⟨3, ![4, 1024, 1536]⟩
abbrev S4x64 : Shape := ⟨2, ![4, 64]⟩
abbrev S4x256 : Shape := ⟨2, ![4, 256]⟩
abbrev S4x4x128x128 : Shape := ⟨4, ![4, 4, 128, 128]⟩
abbrev S4x4x128 : Shape := ⟨3, ![4, 4, 128]⟩
abbrev S256x512 : Shape := ⟨2, ![256, 512]⟩
abbrev S256 : Shape := ⟨1, ![256]⟩
abbrev S64 : Shape := ⟨1, ![64]⟩
abbrev S256x64 : Shape := ⟨2, ![256, 64]⟩
abbrev S16 : Shape := ⟨1, ![16]⟩
abbrev S_ : Shape := ⟨0, ![]⟩
abbrev S16384x1 : Shape := ⟨2, ![16384, 1]⟩
abbrev S1x16 : Shape := ⟨2, ![1, 16]⟩
abbrev S16384x16 : Shape := ⟨2, ![16384, 16]⟩
abbrev S16384x64 : Shape := ⟨2, ![16384, 64]⟩
abbrev S16640x64 : Shape := ⟨2, ![16640, 64]⟩
abbrev S1x16640x1x64 : Shape := ⟨4, ![1, 16640, 1, 64]⟩
abbrev S1x16640x2x64 : Shape := ⟨4, ![1, 16640, 2, 64]⟩
abbrev S16640x128 : Shape := ⟨2, ![16640, 128]⟩
abbrev S1x4x1x64 : Shape := ⟨4, ![1, 4, 1, 64]⟩
abbrev S1x4x8x64 : Shape := ⟨4, ![1, 4, 8, 64]⟩
abbrev S4x512 : Shape := ⟨2, ![4, 512]⟩
abbrev S4x1x512 : Shape := ⟨3, ![4, 1, 512]⟩
abbrev S1x4x2x64 : Shape := ⟨4, ![1, 4, 2, 64]⟩
abbrev S4x128 : Shape := ⟨2, ![4, 128]⟩
abbrev S4x1x128 : Shape := ⟨3, ![4, 1, 128]⟩
abbrev S4x128x4x128 : Shape := ⟨4, ![4, 128, 4, 128]⟩
abbrev S4x128x512 : Shape := ⟨3, ![4, 128, 512]⟩
abbrev S4x128x4 : Shape := ⟨3, ![4, 128, 4]⟩
abbrev S4x128x4x64 : Shape := ⟨4, ![4, 128, 4, 64]⟩
abbrev S4x128x256 : Shape := ⟨3, ![4, 128, 256]⟩
abbrev S4x1x1024 : Shape := ⟨3, ![4, 1, 1024]⟩
abbrev S4x1x256 : Shape := ⟨3, ![4, 1, 256]⟩
abbrev S512 : Shape := ⟨1, ![512]⟩
abbrev S8x64 : Shape := ⟨2, ![8, 64]⟩
abbrev S512x1 : Shape := ⟨2, ![512, 1]⟩
abbrev S1x512 : Shape := ⟨2, ![1, 512]⟩
abbrev S512x512 : Shape := ⟨2, ![512, 512]⟩
abbrev S16x2x16 : Shape := ⟨3, ![16, 2, 16]⟩
abbrev S8x64x16640 : Shape := ⟨3, ![8, 64, 16640]⟩
abbrev S2x16640x64 : Shape := ⟨3, ![2, 16640, 64]⟩
abbrev S2x130x80x128 : Shape := ⟨4, ![2, 130, 80, 128]⟩
abbrev S16640x256 : Shape := ⟨2, ![16640, 256]⟩
abbrev S16640x512 : Shape := ⟨2, ![16640, 512]⟩
abbrev S256x1024 : Shape := ⟨2, ![256, 1024]⟩
abbrev S1x1x6x1024 : Shape := ⟨4, ![1, 1, 6, 1024]⟩
abbrev S1x1x1024 : Shape := ⟨3, ![1, 1, 1024]⟩
abbrev S1x1024x1536 : Shape := ⟨3, ![1, 1024, 1536]⟩
abbrev S256x128 : Shape := ⟨2, ![256, 128]⟩
abbrev S1x1x512 : Shape := ⟨3, ![1, 1, 512]⟩
abbrev S1x1x128 : Shape := ⟨3, ![1, 1, 128]⟩
abbrev S1x1x256 : Shape := ⟨3, ![1, 1, 256]⟩
abbrev S1x128x512 : Shape := ⟨3, ![1, 128, 512]⟩
abbrev S1x128x256 : Shape := ⟨3, ![1, 128, 256]⟩
abbrev S8x64x256 : Shape := ⟨3, ![8, 64, 256]⟩
abbrev S2x256x64 : Shape := ⟨3, ![2, 256, 64]⟩
abbrev S2x2x80x128 : Shape := ⟨4, ![2, 2, 80, 128]⟩
abbrev S256x256 : Shape := ⟨2, ![256, 256]⟩
abbrev S1x1x1x1024 : Shape := ⟨4, ![1, 1, 1, 1024]⟩
abbrev S1x1024 : Shape := ⟨2, ![1, 1024]⟩
abbrev S256x1 : Shape := ⟨2, ![256, 1]⟩
abbrev S1024x1536 : Shape := ⟨2, ![1024, 1536]⟩
abbrev S256x1536 : Shape := ⟨2, ![256, 1536]⟩
abbrev S512x256 : Shape := ⟨2, ![512, 256]⟩
abbrev S64x256 : Shape := ⟨2, ![64, 256]⟩
abbrev S1x64x256 : Shape := ⟨3, ![1, 64, 256]⟩
abbrev S1x128 : Shape := ⟨2, ![1, 128]⟩
abbrev S128x128 : Shape := ⟨2, ![128, 128]⟩
abbrev S128x256 : Shape := ⟨2, ![128, 256]⟩
abbrev S16x128 : Shape := ⟨2, ![16, 128]⟩
abbrev S1x256x64 : Shape := ⟨3, ![1, 256, 64]⟩
abbrev S64x128 : Shape := ⟨2, ![64, 128]⟩
abbrev S1x1x64x128 : Shape := ⟨4, ![1, 1, 64, 128]⟩
abbrev S1x1x16x128 : Shape := ⟨4, ![1, 1, 16, 128]⟩
abbrev S1x256 : Shape := ⟨2, ![1, 256]⟩
abbrev S128x512 : Shape := ⟨2, ![128, 512]⟩

abbrev nBuf : Space → Nat
  | .hbm => 124
  | .vmem => 28
  | .smem => 0
  | _ => 0

abbrev bufTy : (tb : Table) → Fin (tcTables nBuf tb) → BufTy
  | .hbm, ⟨0, _⟩ => ⟨S16640x1024, .f32⟩
  | .hbm, ⟨1, _⟩ => ⟨S4x2x6x1024, .f32⟩
  | .hbm, ⟨2, _⟩ => ⟨S4x1024, .f32⟩
  | .hbm, ⟨3, _⟩ => ⟨S4x1024x1536, .f32⟩
  | .hbm, ⟨4, _⟩ => ⟨S4x64, .f32⟩
  | .hbm, ⟨5, _⟩ => ⟨S4x64, .f32⟩
  | .hbm, ⟨6, _⟩ => ⟨S4x256, .f32⟩
  | .hbm, ⟨7, _⟩ => ⟨S4x4x128x128, .f32⟩
  | .hbm, ⟨8, _⟩ => ⟨S4x4x128, .f32⟩
  | .hbm, ⟨9, _⟩ => ⟨S256x512, .bf16⟩
  | .hbm, ⟨10, _⟩ => ⟨S256, .f32⟩
  | .hbm, ⟨11, _⟩ => ⟨S64, .f32⟩
  | .hbm, ⟨12, _⟩ => ⟨S256x64, .f32⟩
  | .hbm, ⟨13, _⟩ => ⟨S256x64, .f32⟩
  | .hbm, ⟨14, _⟩ => ⟨S16, .f32⟩
  | .hbm, ⟨15, _⟩ => ⟨S_, .f32⟩
  | .hbm, ⟨16, _⟩ => ⟨S16, .f32⟩
  | .hbm, ⟨17, _⟩ => ⟨S16, .f32⟩
  | .hbm, ⟨18, _⟩ => ⟨S_, .f32⟩
  | .hbm, ⟨19, _⟩ => ⟨S16, .f32⟩
  | .hbm, ⟨20, _⟩ => ⟨S16, .f32⟩
  | .hbm, ⟨21, _⟩ => ⟨S_, .f32⟩
  | .hbm, ⟨22, _⟩ => ⟨S16, .f32⟩
  | .hbm, ⟨23, _⟩ => ⟨S16, .f32⟩
  | .hbm, ⟨24, _⟩ => ⟨S_, .f32⟩
  | .hbm, ⟨25, _⟩ => ⟨S16, .f32⟩
  | .hbm, ⟨26, _⟩ => ⟨S16, .f32⟩
  | .hbm, ⟨27, _⟩ => ⟨S_, .f32⟩
  | .hbm, ⟨28, _⟩ => ⟨S16, .f32⟩
  | .hbm, ⟨29, _⟩ => ⟨S16, .f32⟩
  | .hbm, ⟨30, _⟩ => ⟨S16384x1, .f32⟩
  | .hbm, ⟨31, _⟩ => ⟨S1x16, .f32⟩
  | .hbm, ⟨32, _⟩ => ⟨S16384x16, .f32⟩
  | .hbm, ⟨33, _⟩ => ⟨S16384x16, .f32⟩
  | .hbm, ⟨34, _⟩ => ⟨S16384x16, .f32⟩
  | .hbm, ⟨35, _⟩ => ⟨S16384x1, .f32⟩
  | .hbm, ⟨36, _⟩ => ⟨S1x16, .f32⟩
  | .hbm, ⟨37, _⟩ => ⟨S16384x16, .f32⟩
  | .hbm, ⟨38, _⟩ => ⟨S16384x16, .f32⟩
  | .hbm, ⟨39, _⟩ => ⟨S16384x16, .f32⟩
  | .hbm, ⟨40, _⟩ => ⟨S16384x16, .f32⟩
  | .hbm, ⟨41, _⟩ => ⟨S16384x16, .f32⟩
  | .hbm, ⟨42, _⟩ => ⟨S16384x16, .f32⟩
  | .hbm, ⟨43, _⟩ => ⟨S16384x16, .f32⟩
  | .hbm, ⟨44, _⟩ => ⟨S16384x64, .f32⟩
  | .hbm, ⟨45, _⟩ => ⟨S16384x16, .f32⟩
  | .hbm, ⟨46, _⟩ => ⟨S16384x16, .f32⟩
  | .hbm, ⟨47, _⟩ => ⟨S16384x16, .f32⟩
  | .hbm, ⟨48, _⟩ => ⟨S16384x16, .f32⟩
  | .hbm, ⟨49, _⟩ => ⟨S16384x64, .f32⟩
  | .hbm, ⟨50, _⟩ => ⟨S_, .f32⟩
  | .hbm, ⟨51, _⟩ => ⟨S256x64, .f32⟩
  | .hbm, ⟨52, _⟩ => ⟨S16640x64, .f32⟩
  | .hbm, ⟨53, _⟩ => ⟨S_, .f32⟩
  | .hbm, ⟨54, _⟩ => ⟨S256x64, .f32⟩
  | .hbm, ⟨55, _⟩ => ⟨S16640x64, .f32⟩
  | .hbm, ⟨56, _⟩ => ⟨S1x16640x1x64, .f32⟩
  | .hbm, ⟨57, _⟩ => ⟨S1x16640x2x64, .f32⟩
  | .hbm, ⟨58, _⟩ => ⟨S16640x128, .f32⟩
  | .hbm, ⟨59, _⟩ => ⟨S1x16640x1x64, .f32⟩
  | .hbm, ⟨60, _⟩ => ⟨S1x16640x2x64, .f32⟩
  | .hbm, ⟨61, _⟩ => ⟨S16640x128, .f32⟩
  | .hbm, ⟨62, _⟩ => ⟨S4x1024x1536, .bf16⟩
  | .hbm, ⟨63, _⟩ => ⟨S1x4x1x64, .f32⟩
  | .hbm, ⟨64, _⟩ => ⟨S1x4x8x64, .f32⟩
  | .hbm, ⟨65, _⟩ => ⟨S4x512, .f32⟩
  | .hbm, ⟨66, _⟩ => ⟨S4x1x512, .f32⟩
  | .hbm, ⟨67, _⟩ => ⟨S1x4x1x64, .f32⟩
  | .hbm, ⟨68, _⟩ => ⟨S1x4x2x64, .f32⟩
  | .hbm, ⟨69, _⟩ => ⟨S4x128, .f32⟩
  | .hbm, ⟨70, _⟩ => ⟨S4x1x128, .f32⟩
  | .hbm, ⟨71, _⟩ => ⟨S4x128x4x128, .f32⟩
  | .hbm, ⟨72, _⟩ => ⟨S4x128x512, .f32⟩
  | .hbm, ⟨73, _⟩ => ⟨S4x128x512, .bf16⟩
  | .hbm, ⟨74, _⟩ => ⟨S4x128x4, .f32⟩
  | .hbm, ⟨75, _⟩ => ⟨S4x128x4x64, .f32⟩
  | .hbm, ⟨76, _⟩ => ⟨S4x128x256, .f32⟩
  | .hbm, ⟨77, _⟩ => ⟨S4x1x1024, .f32⟩
  | .hbm, ⟨78, _⟩ => ⟨S4x1x256, .f32⟩
  | .hbm, ⟨79, _⟩ => ⟨S512, .i32⟩
  | .hbm, ⟨80, _⟩ => ⟨S8x64, .i32⟩
  | .hbm, ⟨81, _⟩ => ⟨S512, .i32⟩
  | .hbm, ⟨82, _⟩ => ⟨S512x1, .i32⟩
  | .hbm, ⟨83, _⟩ => ⟨S1x512, .i32⟩
  | .hbm, ⟨84, _⟩ => ⟨S512x512, .i32⟩
  | .hbm, ⟨85, _⟩ => ⟨S512x512, .i32⟩
  | .hbm, ⟨86, _⟩ => ⟨S512x512, .i1⟩
  | .hbm, ⟨87, _⟩ => ⟨S_, .f32⟩
  | .hbm, ⟨88, _⟩ => ⟨S_, .f32⟩
  | .hbm, ⟨89, _⟩ => ⟨S512x512, .f32⟩
  | .hbm, ⟨90, _⟩ => ⟨S512x512, .f32⟩
  | .hbm, ⟨91, _⟩ => ⟨S512x512, .f32⟩
  | .hbm, ⟨92, _⟩ => ⟨S512x512, .bf16⟩
  | .hbm, ⟨93, _⟩ => ⟨S16x2x16, .i32⟩
  | .hbm, ⟨94, _⟩ => ⟨S512, .i32⟩
  | .hbm, ⟨95, _⟩ => ⟨S512x1, .i32⟩
  | .hbm, ⟨96, _⟩ => ⟨S_, .i32⟩
  | .hbm, ⟨97, _⟩ => ⟨S512, .i32⟩
  | .hbm, ⟨98, _⟩ => ⟨S512, .i32⟩
  | .hbm, ⟨99, _⟩ => ⟨S_, .i32⟩
  | .hbm, ⟨100, _⟩ => ⟨S512, .i32⟩
  | .hbm, ⟨101, _⟩ => ⟨S512, .i32⟩
  | .hbm, ⟨102, _⟩ => ⟨S512, .i32⟩
  | .hbm, ⟨103, _⟩ => ⟨S1x512, .i32⟩
  | .hbm, ⟨104, _⟩ => ⟨S512x512, .i32⟩
  | .hbm, ⟨105, _⟩ => ⟨S512x512, .i32⟩
  | .hbm, ⟨106, _⟩ => ⟨S512x512, .i1⟩
  | .hbm, ⟨107, _⟩ => ⟨S_, .i32⟩
  | .hbm, ⟨108, _⟩ => ⟨S512, .i32⟩
  | .hbm, ⟨109, _⟩ => ⟨S512, .i32⟩
  | .hbm, ⟨110, _⟩ => ⟨S_, .i32⟩
  | .hbm, ⟨111, _⟩ => ⟨S512, .i32⟩
  | .hbm, ⟨112, _⟩ => ⟨S512, .i32⟩
  | .hbm, ⟨113, _⟩ => ⟨S_, .i32⟩
  | .hbm, ⟨114, _⟩ => ⟨S_, .i32⟩
  | .hbm, ⟨115, _⟩ => ⟨S512x512, .i32⟩
  | .hbm, ⟨116, _⟩ => ⟨S512x512, .i32⟩
  | .hbm, ⟨117, _⟩ => ⟨S512x512, .i32⟩
  | .hbm, ⟨118, _⟩ => ⟨S512x512, .bf16⟩
  | .hbm, ⟨119, _⟩ => ⟨S8x64x16640, .bf16⟩
  | .hbm, ⟨120, _⟩ => ⟨S2x16640x64, .bf16⟩
  | .hbm, ⟨121, _⟩ => ⟨S2x130x80x128, .bf16⟩
  | .hbm, ⟨122, _⟩ => ⟨S16640x256, .bf16⟩
  | .hbm, ⟨123, _⟩ => ⟨S16640x512, .bf16⟩
  | .local _ .vmem, ⟨0, _⟩ => ⟨S256x1024, .f32⟩
  | .local _ .vmem, ⟨1, _⟩ => ⟨S256x1024, .f32⟩
  | .local _ .vmem, ⟨2, _⟩ => ⟨S1x1x6x1024, .f32⟩
  | .local _ .vmem, ⟨3, _⟩ => ⟨S1x1x6x1024, .f32⟩
  | .local _ .vmem, ⟨4, _⟩ => ⟨S1x1x1024, .f32⟩
  | .local _ .vmem, ⟨5, _⟩ => ⟨S1x1024x1536, .bf16⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S1x1x512, .f32⟩
  | .local _ .vmem, ⟨11, _⟩ => ⟨S1x1x128, .f32⟩
  | .local _ .vmem, ⟨12, _⟩ => ⟨S512x512, .bf16⟩
  | .local _ .vmem, ⟨13, _⟩ => ⟨S512x512, .bf16⟩
  | .local _ .vmem, ⟨14, _⟩ => ⟨S1x1x256, .f32⟩
  | .local _ .vmem, ⟨15, _⟩ => ⟨S1x128x512, .bf16⟩
  | .local _ .vmem, ⟨16, _⟩ => ⟨S1x128x256, .f32⟩
  | .local _ .vmem, ⟨17, _⟩ => ⟨S256x512, .bf16⟩
  | .local _ .vmem, ⟨18, _⟩ => ⟨S8x64x256, .bf16⟩
  | .local _ .vmem, ⟨19, _⟩ => ⟨S8x64x256, .bf16⟩
  | .local _ .vmem, ⟨20, _⟩ => ⟨S2x256x64, .bf16⟩
  | .local _ .vmem, ⟨21, _⟩ => ⟨S2x256x64, .bf16⟩
  | .local _ .vmem, ⟨22, _⟩ => ⟨S2x2x80x128, .bf16⟩
  | .local _ .vmem, ⟨23, _⟩ => ⟨S2x2x80x128, .bf16⟩
  | .local _ .vmem, ⟨24, _⟩ => ⟨S256x256, .bf16⟩
  | .local _ .vmem, ⟨25, _⟩ => ⟨S256x256, .bf16⟩
  | .local _ .vmem, ⟨26, _⟩ => ⟨S256x512, .bf16⟩
  | .local _ .vmem, ⟨27, _⟩ => ⟨S256x512, .bf16⟩
  | _, _ => ⟨S16640x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst : Ref sig .tc := ⟨.hbm, 15, rfl⟩
abbrev main_v5 : Ref sig .tc := ⟨.hbm, 16, rfl⟩
abbrev main_v6 : Ref sig .tc := ⟨.hbm, 17, rfl⟩
abbrev main_cst_0 : Ref sig .tc := ⟨.hbm, 18, rfl⟩
abbrev main_v7 : Ref sig .tc := ⟨.hbm, 19, rfl⟩
abbrev main_v8 : Ref sig .tc := ⟨.hbm, 20, rfl⟩
abbrev main_cst_1 : Ref sig .tc := ⟨.hbm, 21, rfl⟩
abbrev main_v9 : Ref sig .tc := ⟨.hbm, 22, rfl⟩
abbrev main_v10 : Ref sig .tc := ⟨.hbm, 23, rfl⟩
abbrev main_cst_2 : Ref sig .tc := ⟨.hbm, 24, rfl⟩
abbrev main_v11 : Ref sig .tc := ⟨.hbm, 25, rfl⟩
abbrev main_v12 : Ref sig .tc := ⟨.hbm, 26, rfl⟩
abbrev main_cst_3 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_4 : Ref sig .tc := ⟨.hbm, 50, rfl⟩
abbrev main_v35 : Ref sig .tc := ⟨.hbm, 51, rfl⟩
abbrev main_v36 : Ref sig .tc := ⟨.hbm, 52, rfl⟩
abbrev main_cst_5 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_cst_6 : Ref sig .tc := ⟨.hbm, 87, rfl⟩
abbrev main_cst_7 : Ref sig .tc := ⟨.hbm, 88, rfl⟩
abbrev main_call0_v0 : Ref sig .tc := ⟨.hbm, 89, rfl⟩
abbrev main_call0_v1 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_c : Ref sig .tc := ⟨.hbm, 96, rfl⟩
abbrev main_v75 : Ref sig .tc := ⟨.hbm, 97, rfl⟩
abbrev main_v76 : Ref sig .tc := ⟨.hbm, 98, rfl⟩
abbrev main_c_8 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_c_9 : Ref sig .tc := ⟨.hbm, 107, rfl⟩
abbrev main_v84 : Ref sig .tc := ⟨.hbm, 108, rfl⟩
abbrev main_v85 : Ref sig .tc := ⟨.hbm, 109, rfl⟩
abbrev main_c_10 : Ref sig .tc := ⟨.hbm, 110, rfl⟩
abbrev main_v86 : Ref sig .tc := ⟨.hbm, 111, rfl⟩
abbrev main_v87 : Ref sig .tc := ⟨.hbm, 112, rfl⟩
abbrev main_c_11 : Ref sig .tc := ⟨.hbm, 113, rfl⟩
abbrev main_call1_v0 : Ref sig .tc := ⟨.hbm, 114, rfl⟩
abbrev main_call1_v1 : Ref sig .tc := ⟨.hbm, 115, rfl⟩
abbrev main_call1_v2 : Ref sig .tc := ⟨.hbm, 116, rfl⟩
abbrev main_v88 : Ref sig .tc := ⟨.hbm, 117, rfl⟩
abbrev main_v89 : Ref sig .tc := ⟨.hbm, 118, rfl⟩
abbrev main_v90_0 : Ref sig .tc := ⟨.hbm, 119, rfl⟩
abbrev main_v90_1 : Ref sig .tc := ⟨.hbm, 120, rfl⟩
abbrev main_v90_2 : Ref sig .tc := ⟨.hbm, 121, rfl⟩
abbrev main_v90_3 : Ref sig .tc := ⟨.hbm, 122, rfl⟩
abbrev main_v90_4 : Ref sig .tc := ⟨.hbm, 123, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg14_1 : Ref sig .tc := ⟨.vmem, 19, rfl⟩
abbrev cc0_stg15_0 : Ref sig .tc := ⟨.vmem, 20, rfl⟩
abbrev cc0_stg15_1 : Ref sig .tc := ⟨.vmem, 21, rfl⟩
abbrev cc0_stg16_0 : Ref sig .tc := ⟨.vmem, 22, rfl⟩
abbrev cc0_stg16_1 : Ref sig .tc := ⟨.vmem, 23, rfl⟩
abbrev cc0_stg17_0 : Ref sig .tc := ⟨.vmem, 24, rfl⟩
abbrev cc0_stg17_1 : Ref sig .tc := ⟨.vmem, 25, rfl⟩
abbrev cc0_stg18_0 : Ref sig .tc := ⟨.vmem, 26, rfl⟩
abbrev cc0_stg18_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem14_0 : DmaSem sig := 18
abbrev cc0_sem14_1 : DmaSem sig := 19
abbrev cc0_sem15_0 : DmaSem sig := 20
abbrev cc0_sem15_1 : DmaSem sig := 21
abbrev cc0_sem16_0 : DmaSem sig := 22
abbrev cc0_sem16_1 : DmaSem sig := 23
abbrev cc0_sem17_0 : DmaSem sig := 24
abbrev cc0_sem17_1 : DmaSem sig := 25
abbrev cc0_sem18_0 : DmaSem sig := 26
abbrev cc0_sem18_1 : DmaSem sig := 27

abbrev nD : Nat := 1
abbrev τ : Topo := Topo.v7x

variable {F : FTy → Type} [FloatOps F]

abbrev grid0 : Pipeline.Grid := ⟨1, ![65], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c64_i32 : BitVec 32 := 64#32
  let v0 : BitVec 32 := Scalar.divsi arg0 c64_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c64_i32 c0_i32_1
  let v7 : BitVec 32 := Scalar.extui v6
  let c0_i32_2 : BitVec 32 := 0#32
  let v8 : BitVec 1 := Scalar.cmpi .slt c64_i32 c0_i32_2
  let v9 : BitVec 32 := Scalar.extui v8
  let v10 : BitVec 32 := Scalar.subi v7 v9
  let v11 : BitVec 1 := Scalar.cmpi .ne v5 v10
  let v12 : BitVec 32 := Scalar.remsi arg0 c64_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  let c0_i32_7 : BitVec 32 := 0#32
  ![c0_i32_4.toNat, v16.toNat, c0_i32_5.toNat, c0_i32_6.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_16 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024x1536 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128x512 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x128x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S256x512 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S8x64x256 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S2x256x64 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S2x2x80x128 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x256 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x512 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]
-- ==== Kernel4Ideal.lean ====
variable {F : FTy → Type} [FloatOps F] [Named F]
def κ : String → Option EReal := fun
  | "query_scale" => some (((1 / 8) * (Real.log 2)⁻¹ : ℝ) : EReal)
  | _ => none
-- ==== Reference4Ideal.lean ====
abbrev S16640x1024 : Shape := ⟨2, ![16640, 1024]⟩
abbrev S4x2x6x1024 : Shape := ⟨4, ![4, 2, 6, 1024]⟩
abbrev S4x1024 : Shape := ⟨2, ![4, 1024]⟩
abbrev S4x1024x1536 : Shape := ⟨3, ![4, 1024, 1536]⟩
abbrev S4x64 : Shape := ⟨2, ![4, 64]⟩
abbrev S4x256 : Shape := ⟨2, ![4, 256]⟩
abbrev S4x4x128x128 : Shape := ⟨4, ![4, 4, 128, 128]⟩
abbrev S4x4x128 : Shape := ⟨3, ![4, 4, 128]⟩
abbrev S256x512 : Shape := ⟨2, ![256, 512]⟩
abbrev S1x1024 : Shape := ⟨2, ![1, 1024]⟩
abbrev S1024 : Shape := ⟨1, ![1024]⟩
abbrev S_ : Shape := ⟨0, ![]⟩
abbrev S16640 : Shape := ⟨1, ![16640]⟩
abbrev S16640x1 : Shape := ⟨2, ![16640, 1]⟩
abbrev S1x1x1x1024 : Shape := ⟨4, ![1, 1, 1, 1024]⟩
abbrev S16384x1024 : Shape := ⟨2, ![16384, 1024]⟩
abbrev S256x1024 : Shape := ⟨2, ![256, 1024]⟩
abbrev S1x1024x1536 : Shape := ⟨3, ![1, 1024, 1536]⟩
abbrev S1024x1536 : Shape := ⟨2, ![1024, 1536]⟩
abbrev S16640x1536 : Shape := ⟨2, ![16640, 1536]⟩
abbrev S16640x128 : Shape := ⟨2, ![16640, 128]⟩
abbrev S16640x256 : Shape := ⟨2, ![16640, 256]⟩
abbrev S130x128x2x64 : Shape := ⟨4, ![130, 128, 2, 64]⟩
abbrev S2x130x64x128 : Shape := ⟨4, ![2, 130, 64, 128]⟩
abbrev S2x130x1x128 : Shape := ⟨4, ![2, 130, 1, 128]⟩
abbrev S2x130x15x128 : Shape := ⟨4, ![2, 130, 15, 128]⟩
abbrev S2x130x80x128 : Shape := ⟨4, ![2, 130, 80, 128]⟩
abbrev S16640x512 : Shape := ⟨2, ![16640, 512]⟩

abbrev nBuf : Space → Nat
  | .hbm => 63
  | .vmem => 0
  | .smem => 0
  | _ => 0

abbrev bufTy : (tb : Table) → Fin (tcTables nBuf tb) → BufTy
  | .hbm, ⟨0, _⟩ => ⟨S16640x1024, .f32⟩
  | .hbm, ⟨1, _⟩ => ⟨S4x2x6x1024, .f32⟩
  | .hbm, ⟨2, _⟩ => ⟨S4x1024, .f32⟩
  | .hbm, ⟨3, _⟩ => ⟨S4x1024x1536, .f32⟩
  | .hbm, ⟨4, _⟩ => ⟨S4x64, .f32⟩
  | .hbm, ⟨5, _⟩ => ⟨S4x64, .f32⟩
  | .hbm, ⟨6, _⟩ => ⟨S4x256, .f32⟩
  | .hbm, ⟨7, _⟩ => ⟨S4x4x128x128, .f32⟩
  | .hbm, ⟨8, _⟩ => ⟨S4x4x128, .f32⟩
  | .hbm, ⟨9, _⟩ => ⟨S256x512, .bf16⟩
  | .hbm, ⟨10, _⟩ => ⟨S1x1024, .f32⟩
  | .hbm, ⟨11, _⟩ => ⟨S1024, .f32⟩
  | .hbm, ⟨12, _⟩ => ⟨S16640x1024, .f32⟩
  | .hbm, ⟨13, _⟩ => ⟨S_, .f32⟩
  | .hbm, ⟨14, _⟩ => ⟨S16640, .f32⟩
  | .hbm, ⟨15, _⟩ => ⟨S16640x1, .f32⟩
  | .hbm, ⟨16, _⟩ => ⟨S_, .f32⟩
  | .hbm, ⟨17, _⟩ => ⟨S16640x1, .f32⟩
  | .hbm, ⟨18, _⟩ => ⟨S16640x1, .f32⟩
  | .hbm, ⟨19, _⟩ => ⟨S_, .f32⟩
  | .hbm, ⟨20, _⟩ => ⟨S16640x1, .f32⟩
  | .hbm, ⟨21, _⟩ => ⟨S16640x1, .f32⟩
  | .hbm, ⟨22, _⟩ => ⟨S16640x1, .f32⟩
  | .hbm, ⟨23, _⟩ => ⟨S16640x1024, .f32⟩
  | .hbm, ⟨24, _⟩ => ⟨S16640x1024, .f32⟩
  | .hbm, ⟨25, _⟩ => ⟨S1x1024, .f32⟩
  | .hbm, ⟨26, _⟩ => ⟨S16640x1024, .f32⟩
  | .hbm, ⟨27, _⟩ => ⟨S16640x1024, .f32⟩
  | .hbm, ⟨28, _⟩ => ⟨S1x1x1x1024, .f32⟩
  | .hbm, ⟨29, _⟩ => ⟨S1024, .f32⟩
  | .hbm, ⟨30, _⟩ => ⟨S16384x1024, .f32⟩
  | .hbm, ⟨31, _⟩ => ⟨S1x1x1x1024, .f32⟩
  | .hbm, ⟨32, _⟩ => ⟨S1024, .f32⟩
  | .hbm, ⟨33, _⟩ => ⟨S256x1024, .f32⟩
  | .hbm, ⟨34, _⟩ => ⟨S16640x1024, .f32⟩
  | .hbm, ⟨35, _⟩ => ⟨S1x1x1x1024, .f32⟩
  | .hbm, ⟨36, _⟩ => ⟨S1024, .f32⟩
  | .hbm, ⟨37, _⟩ => ⟨S16384x1024, .f32⟩
  | .hbm, ⟨38, _⟩ => ⟨S1x1x1x1024, .f32⟩
  | .hbm, ⟨39, _⟩ => ⟨S1024, .f32⟩
  | .hbm, ⟨40, _⟩ => ⟨S256x1024, .f32⟩
  | .hbm, ⟨41, _⟩ => ⟨S16640x1024, .f32⟩
  | .hbm, ⟨42, _⟩ => ⟨S_, .f32⟩
  | .hbm, ⟨43, _⟩ => ⟨S16640x1024, .f32⟩
  | .hbm, ⟨44, _⟩ => ⟨S16640x1024, .f32⟩
  | .hbm, ⟨45, _⟩ => ⟨S16640x1024, .f32⟩
  | .hbm, ⟨46, _⟩ => ⟨S16640x1024, .f32⟩
  | .hbm, ⟨47, _⟩ => ⟨S1x1024x1536, .f32⟩
  | .hbm, ⟨48, _⟩ => ⟨S1024x1536, .f32⟩
  | .hbm, ⟨49, _⟩ => ⟨S16640x1536, .f32⟩
  | .hbm, ⟨50, _⟩ => ⟨S16640x128, .f32⟩
  | .hbm, ⟨51, _⟩ => ⟨S16640x256, .f32⟩
  | .hbm, ⟨52, _⟩ => ⟨S130x128x2x64, .f32⟩
  | .hbm, ⟨53, _⟩ => ⟨S2x130x64x128, .f32⟩
  | .hbm, ⟨54, _⟩ => ⟨S_, .f32⟩
  | .hbm, ⟨55, _⟩ => ⟨S2x130x1x128, .f32⟩
  | .hbm, ⟨56, _⟩ => ⟨S_, .f32⟩
  | .hbm, ⟨57, _⟩ => ⟨S2x130x15x128, .f32⟩
  | .hbm, ⟨58, _⟩ => ⟨S2x130x80x128, .f32⟩
  | .hbm, ⟨59, _⟩ => ⟨S256x512, .f32⟩
  | .hbm, ⟨60, _⟩ => ⟨S16640x512, .f32⟩
  | .hbm, ⟨61, _⟩ => ⟨S2x130x80x128, .bf16⟩
  | .hbm, ⟨62, _⟩ => ⟨S16640x512, .bf16⟩
  | _, _ => ⟨S16640x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_cst : Ref sig .tc := ⟨.hbm, 13, rfl⟩
abbrev main_v3 : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_cst_1 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_2 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_3 : Ref sig .tc := ⟨.hbm, 54, rfl⟩
abbrev main_v40 : Ref sig .tc := ⟨.hbm, 55, rfl⟩
abbrev main_cst_4 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩

abbrev nD : Nat := 1
abbrev τ : Topo := Topo.v7x

variable {F : FTy → Type} [FloatOps F]
-- ==== Kernel5.lean ====
abbrev S16x1024 : Shape := ⟨2, ![16, 1024]⟩
abbrev S4x1024x6144 : Shape := ⟨3, ![4, 1024, 6144]⟩
abbrev S4x6144 : Shape := ⟨2, ![4, 6144]⟩
abbrev S4x1x6144 : Shape := ⟨3, ![4, 1, 6144]⟩
abbrev S4x16x6144 : Shape := ⟨3, ![4, 16, 6144]⟩
abbrev S1x1024x1024 : Shape := ⟨3, ![1, 1024, 1024]⟩
abbrev S1x1x1024 : Shape := ⟨3, ![1, 1, 1024]⟩
abbrev S1x16x1024 : Shape := ⟨3, ![1, 16, 1024]⟩
abbrev S1024x1024 : Shape := ⟨2, ![1024, 1024]⟩
abbrev S1x1024 : Shape := ⟨2, ![1, 1024]⟩

abbrev nBuf : Space → Nat
  | .hbm => 5
  | .vmem => 7
  | .smem => 0
  | _ => 0

abbrev bufTy : (tb : Table) → Fin (tcTables nBuf tb) → BufTy
  | .hbm, ⟨0, _⟩ => ⟨S16x1024, .f32⟩
  | .hbm, ⟨1, _⟩ => ⟨S4x1024x6144, .f32⟩
  | .hbm, ⟨2, _⟩ => ⟨S4x6144, .f32⟩
  | .hbm, ⟨3, _⟩ => ⟨S4x1x6144, .f32⟩
  | .hbm, ⟨4, _⟩ => ⟨S4x16x6144, .f32⟩
  | .local _ .vmem, ⟨0, _⟩ => ⟨S16x1024, .f32⟩
  | .local _ .vmem, ⟨1, _⟩ => ⟨S1x1024x1024, .f32⟩
  | .local _ .vmem, ⟨2, _⟩ => ⟨S1x1024x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x16x1024, .f32⟩
  | .local _ .vmem, ⟨6, _⟩ => ⟨S1x16x1024, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference5Ideal.lean ====
abbrev S16x1024 : Shape := ⟨2, ![16, 1024]⟩
abbrev S4x1024x6144 : Shape := ⟨3, ![4, 1024, 6144]⟩
abbrev S4x6144 : Shape := ⟨2, ![4, 6144]⟩
abbrev S_ : Shape := ⟨0, ![]⟩
abbrev S4x6144x16 : Shape := ⟨3, ![4, 6144, 16]⟩
abbrev S4x16x6144 : Shape := ⟨3, ![4, 16, 6144]⟩
abbrev S4x1x6144 : Shape := ⟨3, ![4, 1, 6144]⟩

abbrev nBuf : Space → Nat
  | .hbm => 17
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S4x1024x6144, .f32⟩
  | .hbm, ⟨2, _⟩ => ⟨S4x6144, .f32⟩
  | .hbm, ⟨3, _⟩ => ⟨S16x1024, .f32⟩
  | .hbm, ⟨4, _⟩ => ⟨S16x1024, .f32⟩
  | .hbm, ⟨5, _⟩ => ⟨S_, .f32⟩
  | .hbm, ⟨6, _⟩ => ⟨S16x1024, .f32⟩
  | .hbm, ⟨7, _⟩ => ⟨S16x1024, .f32⟩
  | .hbm, ⟨8, _⟩ => ⟨S_, .f32⟩
  | .hbm, ⟨9, _⟩ => ⟨S16x1024, .f32⟩
  | .hbm, ⟨10, _⟩ => ⟨S16x1024, .f32⟩
  | .hbm, ⟨11, _⟩ => ⟨S16x1024, .f32⟩
  | .hbm, ⟨12, _⟩ => ⟨S4x6144x16, .f32⟩
  | .hbm, ⟨13, _⟩ => ⟨S4x16x6144, .f32⟩
  | .hbm, ⟨14, _⟩ => ⟨S4x1x6144, .f32⟩
  | .hbm, ⟨15, _⟩ => ⟨S4x16x6144, .f32⟩
  | .hbm, ⟨16, _⟩ => ⟨S4x16x6144, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩

abbrev nD : Nat := 1
abbrev τ : Topo := Topo.v7x

variable {F : FTy → Type} [FloatOps F]
-- ==== Kernel6.lean ====
abbrev S16640x1024 : Shape := ⟨2, ![16640, 1024]⟩
abbrev S4x2x6x1024 : Shape := ⟨4, ![4, 2, 6, 1024]⟩
abbrev S4x1024 : Shape := ⟨2, ![4, 1024]⟩
abbrev S4x1024x1536 : Shape := ⟨3, ![4, 1024, 1536]⟩
abbrev S4x64 : Shape := ⟨2, ![4, 64]⟩
abbrev S4x256 : Shape := ⟨2, ![4, 256]⟩
abbrev S4x4x128x128 : Shape := ⟨4, ![4, 4, 128, 128]⟩
abbrev S4x4x128 : Shape := ⟨3, ![4, 4, 128]⟩
abbrev S256x512 : Shape := ⟨2, ![256, 512]⟩
abbrev S256 : Shape := ⟨1, ![256]⟩
abbrev S64 : Shape := ⟨1, ![64]⟩
abbrev S256x64 : Shape := ⟨2, ![256, 64]⟩
abbrev S16 : Shape := ⟨1, ![16]⟩
abbrev S_ : Shape := ⟨0, ![]⟩
abbrev S16384x1 : Shape := ⟨2, ![16384, 1]⟩
abbrev S1x16 : Shape := ⟨2, ![1, 16]⟩
abbrev S16384x16 : Shape := ⟨2, ![16384, 16]⟩
abbrev S16384x64 : Shape := ⟨2, ![16384, 64]⟩
abbrev S16640x64 : Shape := ⟨2, ![16640, 64]⟩
abbrev S1x16640x1x64 : Shape := ⟨4, ![1, 16640, 1, 64]⟩
abbrev S1x16640x2x64 : Shape := ⟨4, ![1, 16640, 2, 64]⟩
abbrev S16640x128 : Shape := ⟨2, ![16640, 128]⟩
abbrev S1x4x1x64 : Shape := ⟨4, ![1, 4, 1, 64]⟩
abbrev S1x4x8x64 : Shape := ⟨4, ![1, 4, 8, 64]⟩
abbrev S4x512 : Shape := ⟨2, ![4, 512]⟩
abbrev S4x1x512 : Shape := ⟨3, ![4, 1, 512]⟩
abbrev S1x4x2x64 : Shape := ⟨4, ![1, 4, 2, 64]⟩
abbrev S4x128 : Shape := ⟨2, ![4, 128]⟩
abbrev S4x1x128 : Shape := ⟨3, ![4, 1, 128]⟩
abbrev S4x128x4x128 : Shape := ⟨4, ![4, 128, 4, 128]⟩
abbrev S4x128x512 : Shape := ⟨3, ![4, 128, 512]⟩
abbrev S4x128x4 : Shape := ⟨3, ![4, 128, 4]⟩
abbrev S4x128x4x64 : Shape := ⟨4, ![4, 128, 4, 64]⟩
abbrev S4x128x256 : Shape := ⟨3, ![4, 128, 256]⟩
abbrev S4x1x1024 : Shape := ⟨3, ![4, 1, 1024]⟩
abbrev S4x1x256 : Shape := ⟨3, ![4, 1, 256]⟩
abbrev S512 : Shape := ⟨1, ![512]⟩
abbrev S8x64 : Shape := ⟨2, ![8, 64]⟩
abbrev S512x1 : Shape := ⟨2, ![512, 1]⟩
abbrev S1x512 : Shape := ⟨2, ![1, 512]⟩
abbrev S512x512 : Shape := ⟨2, ![512, 512]⟩
abbrev S16x2x16 : Shape := ⟨3, ![16, 2, 16]⟩
abbrev S8x64x16640 : Shape := ⟨3, ![8, 64, 16640]⟩
abbrev S2x16640x64 : Shape := ⟨3, ![2, 16640, 64]⟩
abbrev S2x130x80x128 : Shape := ⟨4, ![2, 130, 80, 128]⟩
abbrev S16640x256 : Shape := ⟨2, ![16640, 256]⟩
abbrev S16640x512 : Shape := ⟨2, ![16640, 512]⟩
abbrev S256x1024 : Shape := ⟨2, ![256, 1024]⟩
abbrev S1x1x6x1024 : Shape := ⟨4, ![1, 1, 6, 1024]⟩
abbrev S1x1x1024 : Shape := ⟨3, ![1, 1, 1024]⟩
abbrev S1x1024x1536 : Shape := ⟨3, ![1, 1024, 1536]⟩
abbrev S256x128 : Shape := ⟨2, ![256, 128]⟩
abbrev S1x1x512 : Shape := ⟨3, ![1, 1, 512]⟩
abbrev S1x1x128 : Shape := ⟨3, ![1, 1, 128]⟩
abbrev S1x1x256 : Shape := ⟨3, ![1, 1, 256]⟩
abbrev S1x128x512 : Shape := ⟨3, ![1, 128, 512]⟩
abbrev S1x128x256 : Shape := ⟨3, ![1, 128, 256]⟩
abbrev S8x64x256 : Shape := ⟨3, ![8, 64, 256]⟩
abbrev S2x256x64 : Shape := ⟨3, ![2, 256, 64]⟩
abbrev S2x2x80x128 : Shape := ⟨4, ![2, 2, 80, 128]⟩
abbrev S256x256 : Shape := ⟨2, ![256, 256]⟩
abbrev S1x1x1x1024 : Shape := ⟨4, ![1, 1, 1, 1024]⟩
abbrev S1x1024 : Shape := ⟨2, ![1, 1024]⟩
abbrev S256x1 : Shape := ⟨2, ![256, 1]⟩
abbrev S1024x1536 : Shape := ⟨2, ![1024, 1536]⟩
abbrev S256x1536 : Shape := ⟨2, ![256, 1536]⟩
abbrev S512x256 : Shape := ⟨2, ![512, 256]⟩
abbrev S64x256 : Shape := ⟨2, ![64, 256]⟩
abbrev S1x64x256 : Shape := ⟨3, ![1, 64, 256]⟩
abbrev S1x128 : Shape := ⟨2, ![1, 128]⟩
abbrev S128x128 : Shape := ⟨2, ![128, 128]⟩
abbrev S128x256 : Shape := ⟨2, ![128, 256]⟩
abbrev S16x128 : Shape := ⟨2, ![16, 128]⟩
abbrev S1x256x64 : Shape := ⟨3, ![1, 256, 64]⟩
abbrev S64x128 : Shape := ⟨2, ![64, 128]⟩
abbrev S1x1x64x128 : Shape := ⟨4, ![1, 1, 64, 128]⟩
abbrev S1x1x16x128 : Shape := ⟨4, ![1, 1, 16, 128]⟩
abbrev S1x256 : Shape := ⟨2, ![1, 256]⟩
abbrev S128x512 : Shape := ⟨2, ![128, 512]⟩

abbrev nBuf : Space → Nat
  | .hbm => 124
  | .vmem => 28
  | .smem => 0
  | _ => 0

abbrev bufTy : (tb : Table) → Fin (tcTables nBuf tb) → BufTy
  | .hbm, ⟨0, _⟩ => ⟨S16640x1024, .f32⟩
  | .hbm, ⟨1, _⟩ => ⟨S4x2x6x1024, .f32⟩
  | .hbm, ⟨2, _⟩ => ⟨S4x1024, .f32⟩
  | .hbm, ⟨3, _⟩ => ⟨S4x1024x1536, .f32⟩
  | .hbm, ⟨4, _⟩ => ⟨S4x64, .f32⟩
  | .hbm, ⟨5, _⟩ => ⟨S4x64, .f32⟩
  | .hbm, ⟨6, _⟩ => ⟨S4x256, .f32⟩
  | .hbm, ⟨7, _⟩ => ⟨S4x4x128x128, .f32⟩
  | .hbm, ⟨8, _⟩ => ⟨S4x4x128, .f32⟩
  | .hbm, ⟨9, _⟩ => ⟨S256x512, .bf16⟩
  | .hbm, ⟨10, _⟩ => ⟨S256, .f32⟩
  | .hbm, ⟨11, _⟩ => ⟨S64, .f32⟩
  | .hbm, ⟨12, _⟩ => ⟨S256x64, .f32⟩
  | .hbm, ⟨13, _⟩ => ⟨S256x64, .f32⟩
  | .hbm, ⟨14, _⟩ => ⟨S16, .f32⟩
  | .hbm, ⟨15, _⟩ => ⟨S_, .f32⟩
  | .hbm, ⟨16, _⟩ => ⟨S16, .f32⟩
  | .hbm, ⟨17, _⟩ => ⟨S16, .f32⟩
  | .hbm, ⟨18, _⟩ => ⟨S_, .f32⟩
  | .hbm, ⟨19, _⟩ => ⟨S16, .f32⟩
  | .hbm, ⟨20, _⟩ => ⟨S16, .f32⟩
  | .hbm, ⟨21, _⟩ => ⟨S_, .f32⟩
  | .hbm, ⟨22, _⟩ => ⟨S16, .f32⟩
  | .hbm, ⟨23, _⟩ => ⟨S16, .f32⟩
  | .hbm, ⟨24, _⟩ => ⟨S_, .f32⟩
  | .hbm, ⟨25, _⟩ => ⟨S16, .f32⟩
  | .hbm, ⟨26, _⟩ => ⟨S16, .f32⟩
  | .hbm, ⟨27, _⟩ => ⟨S_, .f32⟩
  | .hbm, ⟨28, _⟩ => ⟨S16, .f32⟩
  | .hbm, ⟨29, _⟩ => ⟨S16, .f32⟩
  | .hbm, ⟨30, _⟩ => ⟨S16384x1, .f32⟩
  | .hbm, ⟨31, _⟩ => ⟨S1x16, .f32⟩
  | .hbm, ⟨32, _⟩ => ⟨S16384x16, .f32⟩
  | .hbm, ⟨33, _⟩ => ⟨S16384x16, .f32⟩
  | .hbm, ⟨34, _⟩ => ⟨S16384x16, .f32⟩
  | .hbm, ⟨35, _⟩ => ⟨S16384x1, .f32⟩
  | .hbm, ⟨36, _⟩ => ⟨S1x16, .f32⟩
  | .hbm, ⟨37, _⟩ => ⟨S16384x16, .f32⟩
  | .hbm, ⟨38, _⟩ => ⟨S16384x16, .f32⟩
  | .hbm, ⟨39, _⟩ => ⟨S16384x16, .f32⟩
  | .hbm, ⟨40, _⟩ => ⟨S16384x16, .f32⟩
  | .hbm, ⟨41, _⟩ => ⟨S16384x16, .f32⟩
  | .hbm, ⟨42, _⟩ => ⟨S16384x16, .f32⟩
  | .hbm, ⟨43, _⟩ => ⟨S16384x16, .f32⟩
  | .hbm, ⟨44, _⟩ => ⟨S16384x64, .f32⟩
  | .hbm, ⟨45, _⟩ => ⟨S16384x16, .f32⟩
  | .hbm, ⟨46, _⟩ => ⟨S16384x16, .f32⟩
  | .hbm, ⟨47, _⟩ => ⟨S16384x16, .f32⟩
  | .hbm, ⟨48, _⟩ => ⟨S16384x16, .f32⟩
  | .hbm, ⟨49, _⟩ => ⟨S16384x64, .f32⟩
  | .hbm, ⟨50, _⟩ => ⟨S_, .f32⟩
  | .hbm, ⟨51, _⟩ => ⟨S256x64, .f32⟩
  | .hbm, ⟨52, _⟩ => ⟨S16640x64, .f32⟩
  | .hbm, ⟨53, _⟩ => ⟨S_, .f32⟩
  | .hbm, ⟨54, _⟩ => ⟨S256x64, .f32⟩
  | .hbm, ⟨55, _⟩ => ⟨S16640x64, .f32⟩
  | .hbm, ⟨56, _⟩ => ⟨S1x16640x1x64, .f32⟩
  | .hbm, ⟨57, _⟩ => ⟨S1x16640x2x64, .f32⟩
  | .hbm, ⟨58, _⟩ => ⟨S16640x128, .f32⟩
  | .hbm, ⟨59, _⟩ => ⟨S1x16640x1x64, .f32⟩
  | .hbm, ⟨60, _⟩ => ⟨S1x16640x2x64, .f32⟩
  | .hbm, ⟨61, _⟩ => ⟨S16640x128, .f32⟩
  | .hbm, ⟨62, _⟩ => ⟨S4x1024x1536, .bf16⟩
  | .hbm, ⟨63, _⟩ => ⟨S1x4x1x64, .f32⟩
  | .hbm, ⟨64, _⟩ => ⟨S1x4x8x64, .f32⟩
  | .hbm, ⟨65, _⟩ => ⟨S4x512, .f32⟩
  | .hbm, ⟨66, _⟩ => ⟨S4x1x512, .f32⟩
  | .hbm, ⟨67, _⟩ => ⟨S1x4x1x64, .f32⟩
  | .hbm, ⟨68, _⟩ => ⟨S1x4x2x64, .f32⟩
  | .hbm, ⟨69, _⟩ => ⟨S4x128, .f32⟩
  | .hbm, ⟨70, _⟩ => ⟨S4x1x128, .f32⟩
  | .hbm, ⟨71, _⟩ => ⟨S4x128x4x128, .f32⟩
  | .hbm, ⟨72, _⟩ => ⟨S4x128x512, .f32⟩
  | .hbm, ⟨73, _⟩ => ⟨S4x128x512, .bf16⟩
  | .hbm, ⟨74, _⟩ => ⟨S4x128x4, .f32⟩
  | .hbm, ⟨75, _⟩ => ⟨S4x128x4x64, .f32⟩
  | .hbm, ⟨76, _⟩ => ⟨S4x128x256, .f32⟩
  | .hbm, ⟨77, _⟩ => ⟨S4x1x1024, .f32⟩
  | .hbm, ⟨78, _⟩ => ⟨S4x1x256, .f32⟩
  | .hbm, ⟨79, _⟩ => ⟨S512, .i32⟩
  | .hbm, ⟨80, _⟩ => ⟨S8x64, .i32⟩
  | .hbm, ⟨81, _⟩ => ⟨S512, .i32⟩
  | .hbm, ⟨82, _⟩ => ⟨S512x1, .i32⟩
  | .hbm, ⟨83, _⟩ => ⟨S1x512, .i32⟩
  | .hbm, ⟨84, _⟩ => ⟨S512x512, .i32⟩
  | .hbm, ⟨85, _⟩ => ⟨S512x512, .i32⟩
  | .hbm, ⟨86, _⟩ => ⟨S512x512, .i1⟩
  | .hbm, ⟨87, _⟩ => ⟨S_, .f32⟩
  | .hbm, ⟨88, _⟩ => ⟨S_, .f32⟩
  | .hbm, ⟨89, _⟩ => ⟨S512x512, .f32⟩
  | .hbm, ⟨90, _⟩ => ⟨S512x512, .f32⟩
  | .hbm, ⟨91, _⟩ => ⟨S512x512, .f32⟩
  | .hbm, ⟨92, _⟩ => ⟨S512x512, .bf16⟩
  | .hbm, ⟨93, _⟩ => ⟨S16x2x16, .i32⟩
  | .hbm, ⟨94, _⟩ => ⟨S512, .i32⟩
  | .hbm, ⟨95, _⟩ => ⟨S512x1, .i32⟩
  | .hbm, ⟨96, _⟩ => ⟨S_, .i32⟩
  | .hbm, ⟨97, _⟩ => ⟨S512, .i32⟩
  | .hbm, ⟨98, _⟩ => ⟨S512, .i32⟩
  | .hbm, ⟨99, _⟩ => ⟨S_, .i32⟩
  | .hbm, ⟨100, _⟩ => ⟨S512, .i32⟩
  | .hbm, ⟨101, _⟩ => ⟨S512, .i32⟩
  | .hbm, ⟨102, _⟩ => ⟨S512, .i32⟩
  | .hbm, ⟨103, _⟩ => ⟨S1x512, .i32⟩
  | .hbm, ⟨104, _⟩ => ⟨S512x512, .i32⟩
  | .hbm, ⟨105, _⟩ => ⟨S512x512, .i32⟩
  | .hbm, ⟨106, _⟩ => ⟨S512x512, .i1⟩
  | .hbm, ⟨107, _⟩ => ⟨S_, .i32⟩
  | .hbm, ⟨108, _⟩ => ⟨S512, .i32⟩
  | .hbm, ⟨109, _⟩ => ⟨S512, .i32⟩
  | .hbm, ⟨110, _⟩ => ⟨S_, .i32⟩
  | .hbm, ⟨111, _⟩ => ⟨S512, .i32⟩
  | .hbm, ⟨112, _⟩ => ⟨S512, .i32⟩
  | .hbm, ⟨113, _⟩ => ⟨S_, .i32⟩
  | .hbm, ⟨114, _⟩ => ⟨S_, .i32⟩
  | .hbm, ⟨115, _⟩ => ⟨S512x512, .i32⟩
  | .hbm, ⟨116, _⟩ => ⟨S512x512, .i32⟩
  | .hbm, ⟨117, _⟩ => ⟨S512x512, .i32⟩
  | .hbm, ⟨118, _⟩ => ⟨S512x512, .bf16⟩
  | .hbm, ⟨119, _⟩ => ⟨S8x64x16640, .bf16⟩
  | .hbm, ⟨120, _⟩ => ⟨S2x16640x64, .bf16⟩
  | .hbm, ⟨121, _⟩ => ⟨S2x130x80x128, .bf16⟩
  | .hbm, ⟨122, _⟩ => ⟨S16640x256, .bf16⟩
  | .hbm, ⟨123, _⟩ => ⟨S16640x512, .bf16⟩
  | .local _ .vmem, ⟨0, _⟩ => ⟨S256x1024, .f32⟩
  | .local _ .vmem, ⟨1, _⟩ => ⟨S256x1024, .f32⟩
  | .local _ .vmem, ⟨2, _⟩ => ⟨S1x1x6x1024, .f32⟩
  | .local _ .vmem, ⟨3, _⟩ => ⟨S1x1x6x1024, .f32⟩
  | .local _ .vmem, ⟨4, _⟩ => ⟨S1x1x1024, .f32⟩
  | .local _ .vmem, ⟨5, _⟩ => ⟨S1x1024x1536, .bf16⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S1x1x512, .f32⟩
  | .local _ .vmem, ⟨11, _⟩ => ⟨S1x1x128, .f32⟩
  | .local _ .vmem, ⟨12, _⟩ => ⟨S512x512, .bf16⟩
  | .local _ .vmem, ⟨13, _⟩ => ⟨S512x512, .bf16⟩
  | .local _ .vmem, ⟨14, _⟩ => ⟨S1x1x256, .f32⟩
  | .local _ .vmem, ⟨15, _⟩ => ⟨S1x128x512, .bf16⟩
  | .local _ .vmem, ⟨16, _⟩ => ⟨S1x128x256, .f32⟩
  | .local _ .vmem, ⟨17, _⟩ => ⟨S256x512, .bf16⟩
  | .local _ .vmem, ⟨18, _⟩ => ⟨S8x64x256, .bf16⟩
  | .local _ .vmem, ⟨19, _⟩ => ⟨S8x64x256, .bf16⟩
  | .local _ .vmem, ⟨20, _⟩ => ⟨S2x256x64, .bf16⟩
  | .local _ .vmem, ⟨21, _⟩ => ⟨S2x256x64, .bf16⟩
  | .local _ .vmem, ⟨22, _⟩ => ⟨S2x2x80x128, .bf16⟩
  | .local _ .vmem, ⟨23, _⟩ => ⟨S2x2x80x128, .bf16⟩
  | .local _ .vmem, ⟨24, _⟩ => ⟨S256x256, .bf16⟩
  | .local _ .vmem, ⟨25, _⟩ => ⟨S256x256, .bf16⟩
  | .local _ .vmem, ⟨26, _⟩ => ⟨S256x512, .bf16⟩
  | .local _ .vmem, ⟨27, _⟩ => ⟨S256x512, .bf16⟩
  | _, _ => ⟨S16640x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst : Ref sig .tc := ⟨.hbm, 15, rfl⟩
abbrev main_v5 : Ref sig .tc := ⟨.hbm, 16, rfl⟩
abbrev main_v6 : Ref sig .tc := ⟨.hbm, 17, rfl⟩
abbrev main_cst_0 : Ref sig .tc := ⟨.hbm, 18, rfl⟩
abbrev main_v7 : Ref sig .tc := ⟨.hbm, 19, rfl⟩
abbrev main_v8 : Ref sig .tc := ⟨.hbm, 20, rfl⟩
abbrev main_cst_1 : Ref sig .tc := ⟨.hbm, 21, rfl⟩
abbrev main_v9 : Ref sig .tc := ⟨.hbm, 22, rfl⟩
abbrev main_v10 : Ref sig .tc := ⟨.hbm, 23, rfl⟩
abbrev main_cst_2 : Ref sig .tc := ⟨.hbm, 24, rfl⟩
abbrev main_v11 : Ref sig .tc := ⟨.hbm, 25, rfl⟩
abbrev main_v12 : Ref sig .tc := ⟨.hbm, 26, rfl⟩
abbrev main_cst_3 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_4 : Ref sig .tc := ⟨.hbm, 50, rfl⟩
abbrev main_v35 : Ref sig .tc := ⟨.hbm, 51, rfl⟩
abbrev main_v36 : Ref sig .tc := ⟨.hbm, 52, rfl⟩
abbrev main_cst_5 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_cst_6 : Ref sig .tc := ⟨.hbm, 87, rfl⟩
abbrev main_cst_7 : Ref sig .tc := ⟨.hbm, 88, rfl⟩
abbrev main_call0_v0 : Ref sig .tc := ⟨.hbm, 89, rfl⟩
abbrev main_call0_v1 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_c : Ref sig .tc := ⟨.hbm, 96, rfl⟩
abbrev main_v75 : Ref sig .tc := ⟨.hbm, 97, rfl⟩
abbrev main_v76 : Ref sig .tc := ⟨.hbm, 98, rfl⟩
abbrev main_c_8 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_c_9 : Ref sig .tc := ⟨.hbm, 107, rfl⟩
abbrev main_v84 : Ref sig .tc := ⟨.hbm, 108, rfl⟩
abbrev main_v85 : Ref sig .tc := ⟨.hbm, 109, rfl⟩
abbrev main_c_10 : Ref sig .tc := ⟨.hbm, 110, rfl⟩
abbrev main_v86 : Ref sig .tc := ⟨.hbm, 111, rfl⟩
abbrev main_v87 : Ref sig .tc := ⟨.hbm, 112, rfl⟩
abbrev main_c_11 : Ref sig .tc := ⟨.hbm, 113, rfl⟩
abbrev main_call1_v0 : Ref sig .tc := ⟨.hbm, 114, rfl⟩
abbrev main_call1_v1 : Ref sig .tc := ⟨.hbm, 115, rfl⟩
abbrev main_call1_v2 : Ref sig .tc := ⟨.hbm, 116, rfl⟩
abbrev main_v88 : Ref sig .tc := ⟨.hbm, 117, rfl⟩
abbrev main_v89 : Ref sig .tc := ⟨.hbm, 118, rfl⟩
abbrev main_v90_0 : Ref sig .tc := ⟨.hbm, 119, rfl⟩
abbrev main_v90_1 : Ref sig .tc := ⟨.hbm, 120, rfl⟩
abbrev main_v90_2 : Ref sig .tc := ⟨.hbm, 121, rfl⟩
abbrev main_v90_3 : Ref sig .tc := ⟨.hbm, 122, rfl⟩
abbrev main_v90_4 : Ref sig .tc := ⟨.hbm, 123, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg14_1 : Ref sig .tc := ⟨.vmem, 19, rfl⟩
abbrev cc0_stg15_0 : Ref sig .tc := ⟨.vmem, 20, rfl⟩
abbrev cc0_stg15_1 : Ref sig .tc := ⟨.vmem, 21, rfl⟩
abbrev cc0_stg16_0 : Ref sig .tc := ⟨.vmem, 22, rfl⟩
abbrev cc0_stg16_1 : Ref sig .tc := ⟨.vmem, 23, rfl⟩
abbrev cc0_stg17_0 : Ref sig .tc := ⟨.vmem, 24, rfl⟩
abbrev cc0_stg17_1 : Ref sig .tc := ⟨.vmem, 25, rfl⟩
abbrev cc0_stg18_0 : Ref sig .tc := ⟨.vmem, 26, rfl⟩
abbrev cc0_stg18_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem14_0 : DmaSem sig := 18
abbrev cc0_sem14_1 : DmaSem sig := 19
abbrev cc0_sem15_0 : DmaSem sig := 20
abbrev cc0_sem15_1 : DmaSem sig := 21
abbrev cc0_sem16_0 : DmaSem sig := 22
abbrev cc0_sem16_1 : DmaSem sig := 23
abbrev cc0_sem17_0 : DmaSem sig := 24
abbrev cc0_sem17_1 : DmaSem sig := 25
abbrev cc0_sem18_0 : DmaSem sig := 26
abbrev cc0_sem18_1 : DmaSem sig := 27

abbrev nD : Nat := 1
abbrev τ : Topo := Topo.v7x

variable {F : FTy → Type} [FloatOps F]

abbrev grid0 : Pipeline.Grid := ⟨1, ![65], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c64_i32 : BitVec 32 := 64#32
  let v0 : BitVec 32 := Scalar.divsi arg0 c64_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c64_i32 c0_i32_1
  let v7 : BitVec 32 := Scalar.extui v6
  let c0_i32_2 : BitVec 32 := 0#32
  let v8 : BitVec 1 := Scalar.cmpi .slt c64_i32 c0_i32_2
  let v9 : BitVec 32 := Scalar.extui v8
  let v10 : BitVec 32 := Scalar.subi v7 v9
  let v11 : BitVec 1 := Scalar.cmpi .ne v5 v10
  let v12 : BitVec 32 := Scalar.remsi arg0 c64_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  let c0_i32_7 : BitVec 32 := 0#32
  ![c0_i32_4.toNat, v16.toNat, c0_i32_5.toNat, c0_i32_6.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_16 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024x1536 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128x512 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x128x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S256x512 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S8x64x256 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S2x256x64 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S2x2x80x128 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x256 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x512 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]
-- ==== Kernel6Ideal.lean ====
variable {F : FTy → Type} [FloatOps F] [Named F]
def κ : String → Option EReal := fun
  | "query_scale" => some (((1 / 8) * (Real.log 2)⁻¹ : ℝ) : EReal)
  | _ => none
-- ==== Reference6Ideal.lean ====
abbrev S16640x1024 : Shape := ⟨2, ![16640, 1024]⟩
abbrev S4x2x6x1024 : Shape := ⟨4, ![4, 2, 6, 1024]⟩
abbrev S4x1024 : Shape := ⟨2, ![4, 1024]⟩
abbrev S4x1024x1536 : Shape := ⟨3, ![4, 1024, 1536]⟩
abbrev S4x64 : Shape := ⟨2, ![4, 64]⟩
abbrev S4x256 : Shape := ⟨2, ![4, 256]⟩
abbrev S4x4x128x128 : Shape := ⟨4, ![4, 4, 128, 128]⟩
abbrev S4x4x128 : Shape := ⟨3, ![4, 4, 128]⟩
abbrev S256x512 : Shape := ⟨2, ![256, 512]⟩
abbrev S1x1024 : Shape := ⟨2, ![1, 1024]⟩
abbrev S1024 : Shape := ⟨1, ![1024]⟩
abbrev S_ : Shape := ⟨0, ![]⟩
abbrev S16640 : Shape := ⟨1, ![16640]⟩
abbrev S16640x1 : Shape := ⟨2, ![16640, 1]⟩
abbrev S1x1x1x1024 : Shape := ⟨4, ![1, 1, 1, 1024]⟩
abbrev S16384x1024 : Shape := ⟨2, ![16384, 1024]⟩
abbrev S256x1024 : Shape := ⟨2, ![256, 1024]⟩
abbrev S1x1024x1536 : Shape := ⟨3, ![1, 1024, 1536]⟩
abbrev S1024x1536 : Shape := ⟨2, ![1024, 1536]⟩
abbrev S16640x1536 : Shape := ⟨2, ![16640, 1536]⟩
abbrev S16640x512 : Shape := ⟨2, ![16640, 512]⟩
abbrev S16640x256 : Shape := ⟨2, ![16640, 256]⟩
abbrev S16640x4x64 : Shape := ⟨3, ![16640, 4, 64]⟩
abbrev S1x256 : Shape := ⟨2, ![1, 256]⟩
abbrev S256 : Shape := ⟨1, ![256]⟩
abbrev S16640x4 : Shape := ⟨2, ![16640, 4]⟩
abbrev S16640x4x1 : Shape := ⟨3, ![16640, 4, 1]⟩
abbrev S1x4x64 : Shape := ⟨3, ![1, 4, 64]⟩
abbrev S130x128x4x64 : Shape := ⟨4, ![130, 128, 4, 64]⟩
abbrev S1x4x128x128 : Shape := ⟨4, ![1, 4, 128, 128]⟩
abbrev S4x128x128 : Shape := ⟨3, ![4, 128, 128]⟩
abbrev S4x130x64x128 : Shape := ⟨4, ![4, 130, 64, 128]⟩
abbrev S1x4x128 : Shape := ⟨3, ![1, 4, 128]⟩
abbrev S4x128 : Shape := ⟨2, ![4, 128]⟩
abbrev S128x4 : Shape := ⟨2, ![128, 4]⟩
abbrev S128x4x1 : Shape := ⟨3, ![128, 4, 1]⟩
abbrev S1x128x4x1 : Shape := ⟨4, ![1, 128, 4, 1]⟩

abbrev nBuf : Space → Nat
  | .hbm => 105
  | .vmem => 0
  | .smem => 0
  | _ => 0

abbrev bufTy : (tb : Table) → Fin (tcTables nBuf tb) → BufTy
  | .hbm, ⟨0, _⟩ => ⟨S16640x1024, .f32⟩
  | .hbm, ⟨1, _⟩ => ⟨S4x2x6x1024, .f32⟩
  | .hbm, ⟨2, _⟩ => ⟨S4x1024, .f32⟩
  | .hbm, ⟨3, _⟩ => ⟨S4x1024x1536, .f32⟩
  | .hbm, ⟨4, _⟩ => ⟨S4x64, .f32⟩
  | .hbm, ⟨5, _⟩ => ⟨S4x64, .f32⟩
  | .hbm, ⟨6, _⟩ => ⟨S4x256, .f32⟩
  | .hbm, ⟨7, _⟩ => ⟨S4x4x128x128, .f32⟩
  | .hbm, ⟨8, _⟩ => ⟨S4x4x128, .f32⟩
  | .hbm, ⟨9, _⟩ => ⟨S256x512, .bf16⟩
  | .hbm, ⟨10, _⟩ => ⟨S1x1024, .f32⟩
  | .hbm, ⟨11, _⟩ => ⟨S1024, .f32⟩
  | .hbm, ⟨12, _⟩ => ⟨S16640x1024, .f32⟩
  | .hbm, ⟨13, _⟩ => ⟨S_, .f32⟩
  | .hbm, ⟨14, _⟩ => ⟨S16640, .f32⟩
  | .hbm, ⟨15, _⟩ => ⟨S16640x1, .f32⟩
  | .hbm, ⟨16, _⟩ => ⟨S_, .f32⟩
  | .hbm, ⟨17, _⟩ => ⟨S16640x1, .f32⟩
  | .hbm, ⟨18, _⟩ => ⟨S16640x1, .f32⟩
  | .hbm, ⟨19, _⟩ => ⟨S_, .f32⟩
  | .hbm, ⟨20, _⟩ => ⟨S16640x1, .f32⟩
  | .hbm, ⟨21, _⟩ => ⟨S16640x1, .f32⟩
  | .hbm, ⟨22, _⟩ => ⟨S16640x1, .f32⟩
  | .hbm, ⟨23, _⟩ => ⟨S16640x1024, .f32⟩
  | .hbm, ⟨24, _⟩ => ⟨S16640x1024, .f32⟩
  | .hbm, ⟨25, _⟩ => ⟨S1x1024, .f32⟩
  | .hbm, ⟨26, _⟩ => ⟨S16640x1024, .f32⟩
  | .hbm, ⟨27, _⟩ => ⟨S16640x1024, .f32⟩
  | .hbm, ⟨28, _⟩ => ⟨S1x1x1x1024, .f32⟩
  | .hbm, ⟨29, _⟩ => ⟨S1024, .f32⟩
  | .hbm, ⟨30, _⟩ => ⟨S16384x1024, .f32⟩
  | .hbm, ⟨31, _⟩ => ⟨S1x1x1x1024, .f32⟩
  | .hbm, ⟨32, _⟩ => ⟨S1024, .f32⟩
  | .hbm, ⟨33, _⟩ => ⟨S256x1024, .f32⟩
  | .hbm, ⟨34, _⟩ => ⟨S16640x1024, .f32⟩
  | .hbm, ⟨35, _⟩ => ⟨S1x1x1x1024, .f32⟩
  | .hbm, ⟨36, _⟩ => ⟨S1024, .f32⟩
  | .hbm, ⟨37, _⟩ => ⟨S16384x1024, .f32⟩
  | .hbm, ⟨38, _⟩ => ⟨S1x1x1x1024, .f32⟩
  | .hbm, ⟨39, _⟩ => ⟨S1024, .f32⟩
  | .hbm, ⟨40, _⟩ => ⟨S256x1024, .f32⟩
  | .hbm, ⟨41, _⟩ => ⟨S16640x1024, .f32⟩
  | .hbm, ⟨42, _⟩ => ⟨S_, .f32⟩
  | .hbm, ⟨43, _⟩ => ⟨S16640x1024, .f32⟩
  | .hbm, ⟨44, _⟩ => ⟨S16640x1024, .f32⟩
  | .hbm, ⟨45, _⟩ => ⟨S16640x1024, .f32⟩
  | .hbm, ⟨46, _⟩ => ⟨S16640x1024, .f32⟩
  | .hbm, ⟨47, _⟩ => ⟨S1x1024x1536, .f32⟩
  | .hbm, ⟨48, _⟩ => ⟨S1024x1536, .f32⟩
  | .hbm, ⟨49, _⟩ => ⟨S16640x1536, .f32⟩
  | .hbm, ⟨50, _⟩ => ⟨S16640x512, .f32⟩
  | .hbm, ⟨51, _⟩ => ⟨S16640x512, .f32⟩
  | .hbm, ⟨52, _⟩ => ⟨S16640x512, .f32⟩
  | .hbm, ⟨53, _⟩ => ⟨S_, .f32⟩
  | .hbm, ⟨54, _⟩ => ⟨S16640x512, .f32⟩
  | .hbm, ⟨55, _⟩ => ⟨S16640x512, .f32⟩
  | .hbm, ⟨56, _⟩ => ⟨S16640x512, .f32⟩
  | .hbm, ⟨57, _⟩ => ⟨S_, .f32⟩
  | .hbm, ⟨58, _⟩ => ⟨S16640x512, .f32⟩
  | .hbm, ⟨59, _⟩ => ⟨S16640x512, .f32⟩
  | .hbm, ⟨60, _⟩ => ⟨S16640x512, .f32⟩
  | .hbm, ⟨61, _⟩ => ⟨S_, .f32⟩
  | .hbm, ⟨62, _⟩ => ⟨S16640x512, .f32⟩
  | .hbm, ⟨63, _⟩ => ⟨S16640x512, .f32⟩
  | .hbm, ⟨64, _⟩ => ⟨S_, .f32⟩
  | .hbm, ⟨65, _⟩ => ⟨S16640x512, .f32⟩
  | .hbm, ⟨66, _⟩ => ⟨S16640x512, .f32⟩
  | .hbm, ⟨67, _⟩ => ⟨S16640x512, .f32⟩
  | .hbm, ⟨68, _⟩ => ⟨S16640x256, .f32⟩
  | .hbm, ⟨69, _⟩ => ⟨S16640x256, .f32⟩
  | .hbm, ⟨70, _⟩ => ⟨S16640x4x64, .f32⟩
  | .hbm, ⟨71, _⟩ => ⟨S1x256, .f32⟩
  | .hbm, ⟨72, _⟩ => ⟨S256, .f32⟩
  | .hbm, ⟨73, _⟩ => ⟨S4x64, .f32⟩
  | .hbm, ⟨74, _⟩ => ⟨S16640x4x64, .f32⟩
  | .hbm, ⟨75, _⟩ => ⟨S_, .f32⟩
  | .hbm, ⟨76, _⟩ => ⟨S16640x4, .f32⟩
  | .hbm, ⟨77, _⟩ => ⟨S16640x4x1, .f32⟩
  | .hbm, ⟨78, _⟩ => ⟨S_, .f32⟩
  | .hbm, ⟨79, _⟩ => ⟨S16640x4x1, .f32⟩
  | .hbm, ⟨80, _⟩ => ⟨S16640x4x1, .f32⟩
  | .hbm, ⟨81, _⟩ => ⟨S_, .f32⟩
  | .hbm, ⟨82, _⟩ => ⟨S16640x4x1, .f32⟩
  | .hbm, ⟨83, _⟩ => ⟨S16640x4x1, .f32⟩
  | .hbm, ⟨84, _⟩ => ⟨S16640x4x1, .f32⟩
  | .hbm, ⟨85, _⟩ => ⟨S16640x4x64, .f32⟩
  | .hbm, ⟨86, _⟩ => ⟨S16640x4x64, .f32⟩
  | .hbm, ⟨87, _⟩ => ⟨S1x4x64, .f32⟩
  | .hbm, ⟨88, _⟩ => ⟨S16640x4x64, .f32⟩
  | .hbm, ⟨89, _⟩ => ⟨S16640x4x64, .f32⟩
  | .hbm, ⟨90, _⟩ => ⟨S130x128x4x64, .f32⟩
  | .hbm, ⟨91, _⟩ => ⟨S1x4x128x128, .f32⟩
  | .hbm, ⟨92, _⟩ => ⟨S4x128x128, .f32⟩
  | .hbm, ⟨93, _⟩ => ⟨S4x130x64x128, .f32⟩
  | .hbm, ⟨94, _⟩ => ⟨S130x128x4x64, .f32⟩
  | .hbm, ⟨95, _⟩ => ⟨S1x4x128, .f32⟩
  | .hbm, ⟨96, _⟩ => ⟨S4x128, .f32⟩
  | .hbm, ⟨97, _⟩ => ⟨S128x4, .f32⟩
  | .hbm, ⟨98, _⟩ => ⟨S128x4x1, .f32⟩
  | .hbm, ⟨99, _⟩ => ⟨S1x128x4x1, .f32⟩
  | .hbm, ⟨100, _⟩ => ⟨S130x128x4x64, .f32⟩
  | .hbm, ⟨101, _⟩ => ⟨S130x128x4x64, .f32⟩
  | .hbm, ⟨102, _⟩ => ⟨S16640x256, .f32⟩
  | .hbm, ⟨103, _⟩ => ⟨S16640x256, .f32⟩
  | .hbm, ⟨104, _⟩ => ⟨S16640x256, .bf16⟩
  | _, _ => ⟨S16640x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_cst : Ref sig .tc := ⟨.hbm, 13, rfl⟩
abbrev main_v3 : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_cst_1 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_2 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_3 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_4 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_cst_5 : Ref sig .tc := ⟨.hbm, 61, rfl⟩
abbrev main_v45 : Ref sig .tc := ⟨.hbm, 62, rfl⟩
abbrev main_v46 : Ref sig .tc := ⟨.hbm, 63, rfl⟩
abbrev main_cst_6 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_cst_7 : Ref sig .tc := ⟨.hbm, 75, rfl⟩
abbrev main_v57 : Ref sig .tc := ⟨.hbm, 76, rfl⟩
abbrev main_v58 : Ref sig .tc := ⟨.hbm, 77, rfl⟩
abbrev main_cst_8 : Ref sig .tc := ⟨.hbm, 78, rfl⟩
abbrev main_v59 : Ref sig .tc := ⟨.hbm, 79, rfl⟩
abbrev main_v60 : Ref sig .tc := ⟨.hbm, 80, rfl⟩
abbrev main_cst_9 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩

abbrev nD : Nat := 1
abbrev τ : Topo := Topo.v7x

variable {F : FTy → Type} [FloatOps F]
-- ==== Proof.AttnOps.lean ====
/- What one grid point of the attention kernel computes, as vector operations: the scores of a chunk of keys, their
   maximum, the chunk's values, one step of the running softmax, and a query head's whole pass over the keys. The
   kernel's printed terms are these compositions written out chunk by chunk and head by head (AttnPoint.lean). -/
module

public import proofs.«01_k».proof.Proof.Gen.KernelIdeal.Skeleton
public import Idealize.ShloMosaic.Lib.Pipeline.ValueKit

@[expose] public section

set_option maxRecDepth 16384

noncomputable section

namespace Cert.KernelIdeal.Attn

open Cert.KernelIdeal Cert.KernelIdeal.Gen Idealize.ShloMosaic

variable {F : FTy → Type} [FloatOps F]

/-- The keys' rows from row `o` on: a chunk of 2048. -/
def keys (x1 : Vec F S1x16640x64 .bf16) (o : ℕ) (h : o + 2048 ≤ 16640) : Vec F S1x2048x64 .bf16 :=
  View.ld x1 (Rect.unit ![0, o, 0] ![1, 2048, 64] (by intro a; fin_cases a <;> simp <;> omega))

/-- The context keys: the last 256 rows. -/
def keysC (x1 : Vec F S1x16640x64 .bf16) : Vec F S1x256x64 .bf16 :=
  View.ld x1 (Rect.unit ![0, 16384, 0] ![1, 256, 64] inb_S1x16640x64_S1x256x64_0_16384_0)

/-- The queries of head `g` of the group. -/
def queries (x0 : Vec F S4x64x256 .bf16) (g : ℕ) (h : g < 4) : Vec F S1x64x256 .bf16 :=
  View.ld x0 (Rect.unit ![g, 0, 0] ![1, 64, 256] (by intro a; fin_cases a <;> simp <;> omega))

/-- The transposed values of the 128 keys of row block `j`, under the row of ones. -/
def vals (x2 : Vec F S1x130x80x128 .bf16) (j : ℕ) (h : j < 130) : FVec F S80x128 .bf16 :=
  shapeCast S80x128 (View.ld x2 (Rect.unit ![0, j, 0, 0] ![1, 1, 80, 128] (by intro a; fin_cases a <;> simp <;> omega)) : Vec F S1x1x80x128 .bf16)
    shapeCasts_S1x1x80x128_S80x128

/-- The transposed values of a chunk of 2048 keys, from row block `j` on. -/
def chunk (x2 : Vec F S1x130x80x128 .bf16) (j : ℕ) (h : j + 16 ≤ 130) : FVec F S80x2048 .bf16 :=
  concatenate S80x2048 1
    [⟨S80x128, vals x2 (j + 0) (by omega)⟩, ⟨S80x128, vals x2 (j + 1) (by omega)⟩, ⟨S80x128, vals x2 (j + 2) (by omega)⟩, ⟨S80x128, vals x2 (j + 3) (by omega)⟩,
     ⟨S80x128, vals x2 (j + 4) (by omega)⟩, ⟨S80x128, vals x2 (j + 5) (by omega)⟩, ⟨S80x128, vals x2 (j + 6) (by omega)⟩, ⟨S80x128, vals x2 (j + 7) (by omega)⟩,
     ⟨S80x128, vals x2 (j + 8) (by omega)⟩, ⟨S80x128, vals x2 (j + 9) (by omega)⟩, ⟨S80x128, vals x2 (j + 10) (by omega)⟩, ⟨S80x128, vals x2 (j + 11) (by omega)⟩,
     ⟨S80x128, vals x2 (j + 12) (by omega)⟩, ⟨S80x128, vals x2 (j + 13) (by omega)⟩, ⟨S80x128, vals x2 (j + 14) (by omega)⟩, ⟨S80x128, vals x2 (j + 15) (by omega)⟩]
    concatenates_S80x128_S80x128_S80x128_S80x128_S80x128_S80x128_S80x128_S80x128_S80x128_S80x128_S80x128_S80x128_S80x128_S80x128_S80x128_S80x128_S80x2048_d1

/-- The transposed values of the context keys. -/
def chunkC (x2 : Vec F S1x130x80x128 .bf16) : FVec F S80x256 .bf16 :=
  concatenate S80x256 1 [⟨S80x128, vals x2 128 (by omega)⟩, ⟨S80x128, vals x2 129 (by omega)⟩] concatenates_S80x128_S80x128_S80x256_d1

/-- The scores of a chunk of keys against 256 queries. -/
def scores (k : Vec F S1x2048x64 .bf16) (q : Vec F S1x64x256 .bf16) : FVec F S2048x256 .f32 :=
  matmul dot_S2048x64_S64x256_S2048x256_1_0_0_1_n_n none (shapeCast S2048x64 k shapeCasts_S1x2048x64_S2048x64 : FVec F S2048x64 .bf16)
    (shapeCast S64x256 q shapeCasts_S1x64x256_S64x256 : FVec F S64x256 .bf16) (constant S2048x256 .f32 0x00000000#32)

/-- The scores of the context keys. -/
def scoresC (k : Vec F S1x256x64 .bf16) (q : Vec F S1x64x256 .bf16) : FVec F S256x256 .f32 :=
  matmul dot_S256x64_S64x256_S256x256_1_0_0_1_n_n none (shapeCast S256x64 k shapeCasts_S1x256x64_S256x64 : FVec F S256x64 .bf16)
    (shapeCast S64x256 q shapeCasts_S1x64x256_S64x256 : FVec F S64x256 .bf16) (constant S256x256 .f32 0x00000000#32)

/-- The greatest score of each query in the chunk. -/
def top (s : FVec F S2048x256 .f32) : FVec F S1x256 .f32 :=
  shapeCast S1x256 (multiReduction .maximumf [0] S256 s 0xFF800000#32 reduces_S2048x256_S256 (.inl rfl) rfl) shapeCasts_S256_S1x256

/-- The same over the context keys. -/
def topC (s : FVec F S256x256 .f32) : FVec F S1x256 .f32 :=
  shapeCast S1x256 (multiReduction .maximumf [0] S256 s 0xFF800000#32 reduces_S256x256_S256 (.inl rfl) rfl) shapeCasts_S256_S1x256

/-- One step of the running softmax over a chunk with scores `s` and values `v`: the accumulator, rescaled from the
    maximum `m` to the larger of `m` and `t`, and the chunk's weighted values added. -/
def step (m t : FVec F S1x256 .f32) (s : FVec F S2048x256 .f32) (v : FVec F S80x2048 .bf16) (acc : FVec F S80x256 .f32) : FVec F S80x256 .f32 :=
  addf (mulf (broadcastTo S80x256 (exp2 (subf m (maximumf m t))) broadcasts_S1x256_S80x256) acc)
    (matmul dot_S80x2048_S2048x256_S80x256_1_0_0_1_n_n none v
      (truncf .bf16 (exp2 (subf (shapeCast S2048x256 s shapeCasts_S2048x256_S2048x256) (broadcastTo S2048x256 (maximumf m t) broadcasts_S1x256_S2048x256))) bitsLt_bf16_f32)
      (constant S80x256 .f32 0x00000000#32))

/-- The step over the context keys. -/
def stepC (m t : FVec F S1x256 .f32) (s : FVec F S256x256 .f32) (v : FVec F S80x256 .bf16) (acc : FVec F S80x256 .f32) : FVec F S80x256 .f32 :=
  addf (mulf (broadcastTo S80x256 (exp2 (subf m (maximumf m t))) broadcasts_S1x256_S80x256) acc)
    (matmul dot_S80x256_S256x256_S80x256_1_0_0_1_n_n none v
      (truncf .bf16 (exp2 (subf (shapeCast S256x256 s shapeCasts_S256x256_S256x256) (broadcastTo S256x256 (maximumf m t) broadcasts_S1x256_S256x256))) bitsLt_bf16_f32)
      (constant S80x256 .f32 0x00000000#32))

/-- The maximum before any key. -/
def m₀ : FVec F S1x256 .f32 := broadcast S1x256 (Scalar.ofBits .f32 0xFF800000#32 : F .f32)

/-- The accumulator before any key. -/
def acc₀ : FVec F S80x256 .f32 := broadcast S80x256 (Scalar.ofBits .f32 0x00000000#32 : F .f32)

/-- A head's running maximum after `c` chunks of latent keys. -/
def mAt (x1 : Vec F S1x16640x64 .bf16) (q : Vec F S1x64x256 .bf16) : (c : ℕ) → 2048 * c ≤ 16384 → FVec F S1x256 .f32
  | 0, _ => m₀
  | c + 1, h => maximumf (mAt x1 q c (by omega)) (top (scores (keys x1 (2048 * c) (by omega)) q))

/-- A head's accumulator after `c` chunks of latent keys. -/
def accAt (x1 : Vec F S1x16640x64 .bf16) (x2 : Vec F S1x130x80x128 .bf16) (q : Vec F S1x64x256 .bf16) : (c : ℕ) → 2048 * c ≤ 16384 → FVec F S80x256 .f32
  | 0, _ => acc₀
  | c + 1, h => step (mAt x1 q c (by omega)) (top (scores (keys x1 (2048 * c) (by omega)) q)) (scores (keys x1 (2048 * c) (by omega)) q)
      (chunk x2 (16 * c) (by omega)) (accAt x1 x2 q c (by omega))

/-- A latent tile's head: eight chunks of latent keys, then the context keys. -/
def headL (x1 : Vec F S1x16640x64 .bf16) (x2 : Vec F S1x130x80x128 .bf16) (q : Vec F S1x64x256 .bf16) : FVec F S80x256 .f32 :=
  stepC (mAt x1 q 8 (by omega)) (topC (scoresC (keysC x1) q)) (scoresC (keysC x1) q) (chunkC x2) (accAt x1 x2 q 8 (by omega))

/-- A context tile's head: the context keys alone. -/
def headC (x1 : Vec F S1x16640x64 .bf16) (x2 : Vec F S1x130x80x128 .bf16) (q : Vec F S1x64x256 .bf16) : FVec F S80x256 .f32 :=
  stepC m₀ (topC (scoresC (keysC x1) q)) (scoresC (keysC x1) q) (chunkC x2) acc₀

/-- A head's weighted values over its summed weights. -/
def quot (acc : FVec F S80x256 .f32) : FVec F S64x256 .f32 :=
  divf (extractStridedSlice S64x256 ![0, 0] acc slices_S80x256_o0_0_S64x256)
    (broadcastTo S64x256 (extractStridedSlice S1x256 ![64, 0] acc slices_S80x256_o64_0_S1x256) broadcasts_S1x256_S64x256)

/-- The block that is written: the four heads side by side, one row per query. -/
def block (a0 a1 a2 a3 : FVec F S80x256 .f32) : FVec F S256x256 .bf16 :=
  truncf .bf16 (transpose S256x256 [1, 0]
    (concatenate S256x256 0 [⟨S64x256, quot a0⟩, ⟨S64x256, quot a1⟩, ⟨S64x256, quot a2⟩, ⟨S64x256, quot a3⟩]
      concatenates_S64x256_S64x256_S64x256_S64x256_S256x256_d0) transposes_S256x256_p1_0_S256x256) bitsLt_bf16_f32

end Cert.KernelIdeal.Attn

end
-- ==== Proof.AttnPoint.lean ====
/- A grid point of the attention kernel: the block it leaves is the four heads of AttnOps.lean side by side, over the
   latent chunks and the context at a latent tile, over the context alone at a context tile. -/
module

public import proofs.«01_k».proof.Proof.Gen.KernelIdeal.Frame
public import proofs.«01_k».proof.Proof.AttnOps
public import Idealize.ShloMosaic.Lib.Pipeline.ReadBack

@[expose] public section

set_option maxRecDepth 16384

noncomputable section

namespace Cert.KernelIdeal.Attn

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ)

/-- A context tile: the context keys alone. -/
theorem outB (c : Dev nD) (t : Fin cfg0.N) (h0 : ¬t.val % 65 ≤ 63) (h1 : t.val % 65 = 64) :
    outsAt0 m c t.val t.isLt = block
      (headC (iblk m c 1 t) (iblk m c 2 t) (queries (iblk m c 0 t) 0 (by omega)))
      (headC (iblk m c 1 t) (iblk m c 2 t) (queries (iblk m c 0 t) 1 (by omega)))
      (headC (iblk m c 1 t) (iblk m c 2 t) (queries (iblk m c 0 t) 2 (by omega)))
      (headC (iblk m c 1 t) (iblk m c 2 t) (queries (iblk m c 0 t) 3 (by omega))) := by
  rw [outsAt0_B m c t h0 h1]
  frame_open
  simp (disch := decide) only [↓ View.readCov_skip, ↓ View.readCov_cons_toLoadRect, ↓ View.readCov_fill]
  frame_out
  generalize (iblk m c 0 t) = x0
  generalize (iblk m c 1 t) = x1
  generalize (iblk m c 2 t) = x2
  rfl

/-- A latent tile: the latent keys chunk by chunk, then the context keys. -/
theorem outA (c : Dev nD) (t : Fin cfg0.N) (h0 : t.val % 65 ≤ 63) (h1 : ¬t.val % 65 = 64) :
    outsAt0 m c t.val t.isLt = block
      (headL (iblk m c 1 t) (iblk m c 2 t) (queries (iblk m c 0 t) 0 (by omega)))
      (headL (iblk m c 1 t) (iblk m c 2 t) (queries (iblk m c 0 t) 1 (by omega)))
      (headL (iblk m c 1 t) (iblk m c 2 t) (queries (iblk m c 0 t) 2 (by omega)))
      (headL (iblk m c 1 t) (iblk m c 2 t) (queries (iblk m c 0 t) 3 (by omega))) := by
  rw [outsAt0_A m c t h0 h1]
  frame_open
  simp (disch := decide) only [↓ View.readCov_skip, ↓ View.readCov_cons_toLoadRect, ↓ View.readCov_fill]
  frame_out
  generalize (iblk m c 0 t) = x0
  generalize (iblk m c 1 t) = x1
  generalize (iblk m c 2 t) = x2
  rfl

end Cert.KernelIdeal.Attn

end
-- ==== Proof.Softmax.lean ====
/- The mathematics of the attention call, over extended reals and free of any program: a softmax that is
   accumulated chunk by chunk over the keys, with a running maximum and in base two, ends at the weighted sum of
   the values whose weights are the softmax of the scores. The scores are real numbers; the values may be any
   extended reals. -/
module

public import Idealize.ShloMosaic.PureOps.Ideal

@[expose] public section

noncomputable section

namespace Cert.Softmax

open Idealize.ShloMosaic

/-- A nonnegative real factor moves into a finite sum of extended reals. -/
theorem mul_sum_real {ι : Type} (c : ℝ) (hc : 0 ≤ c) (S : Finset ι) (f : ι → EReal) :
    (c : EReal) * ∑ i ∈ S, f i = ∑ i ∈ S, (c : EReal) * f i := by
  classical
  induction S using Finset.induction_on with
  | empty => simp
  | insert a S ha ih =>
    rw [Finset.sum_insert ha, Finset.sum_insert ha,
      EReal.left_distrib_of_nonneg_of_ne_top (by exact_mod_cast hc) (EReal.coe_ne_top c), ih]

/-- A finite sum of real numbers is the same sum taken in the extended reals. -/
theorem coe_sum {ι : Type} (S : Finset ι) (f : ι → ℝ) : ((∑ i ∈ S, f i : ℝ) : EReal) = ∑ i ∈ S, (f i : EReal) := by
  classical
  induction S using Finset.induction_on with
  | empty => simp
  | insert a S ha ih => rw [Finset.sum_insert ha, Finset.sum_insert ha, EReal.coe_add, ih]

/-- The maximum of finitely many real numbers, at least one, is a real number. -/
theorem fold_max_real {n : ℕ} (hn : 0 < n) (f : Fin n → EReal) (hf : ∀ k, ∃ r : ℝ, f k = r) :
    ∃ M : ℝ, Finset.univ.fold max (⊥ : EReal) f = M := by
  have htop : Finset.univ.fold max (⊥ : EReal) f ≠ ⊤ := by
    apply ne_of_lt
    rw [Finset.fold_max_lt]
    refine ⟨bot_lt_top, fun k _ => ?_⟩
    obtain ⟨r, hr⟩ := hf k
    rw [hr]; exact EReal.coe_lt_top r
  have hbot : Finset.univ.fold max (⊥ : EReal) f ≠ ⊥ := by
    apply ne_of_gt
    obtain ⟨r, hr⟩ := hf ⟨0, hn⟩
    refine lt_of_lt_of_le (EReal.bot_lt_coe r) ?_
    rw [Finset.le_fold_max]
    exact Or.inr ⟨⟨0, hn⟩, Finset.mem_univ _, hr.ge⟩
  exact ⟨_, (EReal.coe_toReal htop hbot).symm⟩

/-- A power of two as an exponential. -/
theorem exp2_real (r : ℝ) : Ideal.exp2 (r : EReal) = ((Real.exp (r * Real.log 2) : ℝ) : EReal) := by
  rw [Ideal.exp2_coe]
  congr 1
  show (2 : ℝ) ^ r = _
  rw [Real.rpow_def_of_pos (by norm_num), mul_comm]

/-- What is held after the first `b` keys: a real number `m`, and the values of those keys weighted by two to the
    power of their scores less `m`. That `m` is the greatest score does not enter. -/
def Part (s : ℕ → ℝ) (v : ℕ → EReal) (b : ℕ) (m acc : EReal) : Prop :=
  ∃ M : ℝ, m = M ∧ acc = ∑ i ∈ Finset.range b, v i * Ideal.exp2 ((s i : EReal) - m)

/-- One more chunk of `n` keys: the old sum is rescaled to the new maximum, the chunk's own terms are added. -/
theorem Part.step {s : ℕ → ℝ} {v : ℕ → EReal} {b : ℕ} {m acc : EReal} (h : Part s v b m acc) (n : ℕ) (mx : EReal)
    (hmx : ∃ r : ℝ, mx = r) :
    Part s v (b + n) (max m mx)
      (Ideal.exp2 (m - max m mx) * acc + ∑ k : Fin n, v (b + k) * Ideal.exp2 ((s (b + k) : EReal) - max m mx)) := by
  obtain ⟨M, hm, hacc⟩ := h
  obtain ⟨X, hX⟩ := hmx
  have hmax : max m mx = ((max M X : ℝ) : EReal) := by rw [hm, hX]; exact (EReal.coe_strictMono.monotone.map_max).symm
  refine ⟨max M X, hmax, ?_⟩
  rw [hmax, hacc, hm]
  generalize max M X = M'
  rw [Finset.sum_range_add, ← Finset.sum_range (n := n) (fun k => v (b + k) * Ideal.exp2 ((s (b + k) : EReal) - (M' : EReal)))]
  congr 1
  rw [← EReal.coe_sub, exp2_real, mul_sum_real _ (Real.exp_pos _).le]
  refine Finset.sum_congr rfl fun i _ => ?_
  rw [← EReal.coe_sub, ← EReal.coe_sub, exp2_real, exp2_real, mul_left_comm, ← EReal.coe_mul, ← Real.exp_add]
  congr 3
  ring_nf

/-- The first chunk, from the maximum `-∞` and the sum zero. -/
theorem Part.start (s : ℕ → ℝ) (v : ℕ → EReal) (n : ℕ) (mx : EReal) (hmx : ∃ r : ℝ, mx = r) :
    Part s v n (max ⊥ mx)
      (Ideal.exp2 (⊥ - max ⊥ mx) * 0 + ∑ k : Fin n, v k * Ideal.exp2 ((s k : EReal) - max ⊥ mx)) := by
  obtain ⟨X, hX⟩ := hmx
  rw [max_eq_right bot_le, hX]
  exact ⟨X, rfl, by rw [mul_zero, zero_add, ← Finset.sum_range (n := n) (fun k => v k * Ideal.exp2 ((s k : EReal) - (X : EReal)))]⟩

/-- The softmax weight of key `i` among the first `n` keys, whose scores are `t`. -/
def weight (t : ℕ → ℝ) (n i : ℕ) : ℝ := Real.exp (t i) / ∑ j ∈ Finset.range n, Real.exp (t j)

/-- A weight does not change when one number is taken from every score. -/
theorem weight_shift (t : ℕ → ℝ) (n i : ℕ) (c : ℝ) :
    Real.exp (t i - c) / ∑ j ∈ Finset.range n, Real.exp (t j - c) = weight t n i := by
  have h : ∀ x, Real.exp (x - c) = Real.exp x * Real.exp (-c) := fun x => by rw [← Real.exp_add, sub_eq_add_neg]
  simp only [h, ← Finset.sum_mul]
  exact mul_div_mul_right _ _ (Real.exp_pos _).ne'

/-- The sum of exponentials over at least one key is positive. -/
theorem sum_exp_pos (t : ℕ → ℝ) {n : ℕ} (hn : 0 < n) : 0 < ∑ j ∈ Finset.range n, Real.exp (t j) :=
  Finset.sum_pos (fun _ _ => Real.exp_pos _) ⟨0, Finset.mem_range.2 hn⟩

/-- The division at the end: the weighted values over the sum of the weights, both held against the same `m`,
    is the softmax-weighted sum of the values. The scores `s` are in base two, `t` in base `e`. -/
theorem Part.finish {s t : ℕ → ℝ} {v one : ℕ → EReal} {n : ℕ} (hn : 0 < n) {m acc l : EReal} (h : Part s v n m acc)
    (hl : Part s one n m l) (hone : ∀ i, i < n → one i = 1) (hst : ∀ i, s i * Real.log 2 = t i) :
    Ideal.div acc l = ∑ i ∈ Finset.range n, (weight t n i : EReal) * v i := by
  obtain ⟨M, hm, hacc⟩ := h
  obtain ⟨_, _, hl⟩ := hl
  subst hm
  have he : ∀ i, Ideal.exp2 ((s i : EReal) - (M : EReal)) = ((Real.exp (t i - M * Real.log 2) : ℝ) : EReal) := fun i => by
    rw [← EReal.coe_sub, exp2_real, sub_mul, hst]
  have hl' : l = ((∑ i ∈ Finset.range n, Real.exp (t i - M * Real.log 2) : ℝ) : EReal) := by
    rw [hl, coe_sum]
    exact Finset.sum_congr rfl fun i hi => by rw [hone i (Finset.mem_range.1 hi), one_mul, he]
  have hpos := sum_exp_pos (fun i => t i - M * Real.log 2) hn
  rw [hl', Ideal.div_coe hpos.ne', hacc, mul_comm, mul_sum_real _ (one_div_pos.2 hpos).le]
  refine Finset.sum_congr rfl fun i _ => ?_
  rw [he, mul_comm (v i), ← mul_assoc, ← EReal.coe_mul, ← weight_shift t n i (M * Real.log 2), one_div_mul_eq_div]

/-- The softmax weight as the reference writes it, with any real number taken from the scores. -/
theorem div_exp (t : ℕ → ℝ) {n : ℕ} (hn : 0 < n) (i : ℕ) (M : ℝ) :
    Ideal.div (Ideal.exp ((t i : EReal) - (M : EReal))) (∑ j ∈ Finset.range n, Ideal.exp ((t j : EReal) - (M : EReal)))
      = (weight t n i : EReal) := by
  have he : ∀ i, Ideal.exp ((t i : EReal) - (M : EReal)) = ((Real.exp (t i - M) : ℝ) : EReal) := fun i => by
    rw [← EReal.coe_sub, Ideal.exp_coe]
  simp only [he]
  have hpos := sum_exp_pos (fun i => t i - M) hn
  rw [← coe_sum, Ideal.div_coe hpos.ne', ← EReal.coe_mul, ← weight_shift t n i M, mul_one_div]

end Cert.Softmax

end
-- ==== Proof.AttnValue.lean ====
/- The attention kernel's head at an index, over the extended reals: where the scores are real numbers, the quotient
   that is written is the softmax-weighted sum of the values (Softmax.lean) over the keys that the tile attends to. -/
module

public import proofs.«01_k».proof.Proof.AttnOps
public import proofs.«01_k».proof.Proof.Softmax
public import Idealize.ShloMosaic.Lib.Pointwise

@[expose] public section

set_option maxRecDepth 16384

noncomputable section

namespace Cert.KernelIdeal.Attn

open Cert.KernelIdeal Cert.KernelIdeal.Gen Idealize.ShloMosaic Cert.Softmax

/-- The pattern of the first maximum is `-∞`. -/
theorem ofBits_neg_inf : Ideal.ofBits .f32 0xFF800000#32 = ⊥ := by
  simp [Ideal.ofBits, Ideal.ieee]

/-- A chunk's scores: the products of its keys with the queries, summed over the head's coordinates. -/
theorem scores_at (x1 : FVec Ideal S1x16640x64 .bf16) (q : FVec Ideal S1x64x256 .bf16) (o : ℕ) (h : o + 2048 ≤ 16640) (k : Fin 2048) (r : Fin 256) :
    scores (F := Ideal) (keys x1 o h) q (ix2 k r) = ∑ e : Fin 64, x1 (ix3 0 ⟨o + k, by omega⟩ e) * q (ix3 0 e r) := by
  pointwise [scores, keys]

/-- The context's scores. -/
theorem scoresC_at (x1 : FVec Ideal S1x16640x64 .bf16) (q : FVec Ideal S1x64x256 .bf16) (k : Fin 256) (r : Fin 256) :
    scoresC (F := Ideal) (keysC x1) q (ix2 k r) = ∑ e : Fin 64, x1 (ix3 0 ⟨16384 + k, by omega⟩ e) * q (ix3 0 e r) := by
  pointwise [scoresC, keysC]

/-- A chunk's greatest score. -/
theorem top_at (s : FVec Ideal S2048x256 .f32) (r : Fin 256) :
    top s (ix2 0 r) = Finset.univ.fold max ⊥ fun k : Fin 2048 => s (ix2 k r) := by
  pointwise [top]
  rw [ofBits_neg_inf]

/-- The context's greatest score. -/
theorem topC_at (s : FVec Ideal S256x256 .f32) (r : Fin 256) :
    topC s (ix2 0 r) = Finset.univ.fold max ⊥ fun k : Fin 256 => s (ix2 k r) := by
  pointwise [topC]
  rw [ofBits_neg_inf]

/-- One step, read. -/
theorem step_at (m t : FVec Ideal S1x256 .f32) (s : FVec Ideal S2048x256 .f32) (v : FVec Ideal S80x2048 .bf16) (acc : FVec Ideal S80x256 .f32)
    (d : Fin 80) (r : Fin 256) :
    step m t s v acc (ix2 d r) = Ideal.exp2 (m (ix2 0 r) - max (m (ix2 0 r)) (t (ix2 0 r))) * acc (ix2 d r)
      + ∑ k : Fin 2048, v (ix2 d k) * Ideal.exp2 (s (ix2 k r) - max (m (ix2 0 r)) (t (ix2 0 r))) := by
  pointwise [step]
  rfl

/-- The step over the context keys, read. -/
theorem stepC_at (m t : FVec Ideal S1x256 .f32) (s : FVec Ideal S256x256 .f32) (v : FVec Ideal S80x256 .bf16) (acc : FVec Ideal S80x256 .f32)
    (d : Fin 80) (r : Fin 256) :
    stepC m t s v acc (ix2 d r) = Ideal.exp2 (m (ix2 0 r) - max (m (ix2 0 r)) (t (ix2 0 r))) * acc (ix2 d r)
      + ∑ k : Fin 256, v (ix2 d k) * Ideal.exp2 (s (ix2 k r) - max (m (ix2 0 r)) (t (ix2 0 r))) := by
  pointwise [stepC]
  rfl

/-- The division by the row of summed weights. -/
theorem quot_at (acc : FVec Ideal S80x256 .f32) (d : Fin 64) (r : Fin 256) :
    quot acc (ix2 d r) = Ideal.div (acc (ix2 ⟨d, by omega⟩ r)) (acc (ix2 64 r)) := by
  pointwise [quot]

theorem m₀_at (r : Fin 256) : m₀ (F := Ideal) (ix2 0 r) = ⊥ := by
  pointwise [m₀]
  rw [ofBits_neg_inf]

theorem acc₀_at (d : Fin 80) (r : Fin 256) : acc₀ (F := Ideal) (ix2 d r) = 0 := by
  pointwise [acc₀]

/-- A block of 128 keys' values without its unit axes. -/
theorem cast_at (x : FVec Ideal S1x1x80x128 .bf16) (d : Fin 80) (l : Fin 128) :
   shapeCast S80x128 x shapeCasts_S1x1x80x128_S80x128 (ix2 d l) = x (ix4 0 0 d l) := by
  pointwise

/-- The values of row block `j`, read. -/
theorem vals_at (x2 : FVec Ideal S1x130x80x128 .bf16) (j : ℕ) (h : j < 130) (d : Fin 80) (l : Fin 128) :
    vals (F := Ideal) x2 j h (ix2 d l) = x2 (ix4 0 ⟨j, h⟩ d l) := by
  unfold vals
  refine (cast_at _ d l).trans ?_
  refine View.ld_unit_apply_of _ _ _ _ _ (ix4 0 ⟨j, h⟩ d l) ?_
  intro a
  fin_cases a <;> simp

/-- Sixteen blocks of 128 columns side by side. -/
theorem concat_at (w : ℕ → FVec Ideal S80x128 .bf16) (d : Fin 80) (k : Fin 2048) :
    concatenate S80x2048 1
    [⟨S80x128, w 0⟩, ⟨S80x128, w 1⟩, ⟨S80x128, w 2⟩, ⟨S80x128, w 3⟩, ⟨S80x128, w 4⟩, ⟨S80x128, w 5⟩, ⟨S80x128, w 6⟩, ⟨S80x128, w 7⟩,
     ⟨S80x128, w 8⟩, ⟨S80x128, w 9⟩, ⟨S80x128, w 10⟩, ⟨S80x128, w 11⟩, ⟨S80x128, w 12⟩, ⟨S80x128, w 13⟩, ⟨S80x128, w 14⟩, ⟨S80x128, w 15⟩]
    concatenates_S80x128_S80x128_S80x128_S80x128_S80x128_S80x128_S80x128_S80x128_S80x128_S80x128_S80x128_S80x128_S80x128_S80x128_S80x128_S80x128_S80x2048_d1 (ix2 d k) = w (k / 128) (ix2 d ⟨k % 128, by omega⟩) := by
  refine concatenate_ofFn_apply (t := S80x2048) (s₁ := S80x128) 1 (fun n : Fin 16 => w n)
    concatenates_S80x128_S80x128_S80x128_S80x128_S80x128_S80x128_S80x128_S80x128_S80x128_S80x128_S80x128_S80x128_S80x128_S80x128_S80x128_S80x128_S80x2048_d1
    rfl 128 rfl (ix2 d k) ⟨k / 128, by omega⟩ rfl _ rfl ?_
  intro b hb
  fin_cases b
  · rfl
  · exact absurd rfl hb

/-- Two blocks of 128 columns side by side. -/
theorem concatC_at (w : ℕ → FVec Ideal S80x128 .bf16) (d : Fin 80) (k : Fin 256) :
    concatenate S80x256 1 [⟨S80x128, w 0⟩, ⟨S80x128, w 1⟩] concatenates_S80x128_S80x128_S80x256_d1 (ix2 d k) = w (k / 128) (ix2 d ⟨k % 128, by omega⟩) := by
  refine concatenate_ofFn_apply (t := S80x256) (s₁ := S80x128) 1 (fun n : Fin 2 => w n) concatenates_S80x128_S80x128_S80x256_d1
    rfl 128 rfl (ix2 d k) ⟨k / 128, by omega⟩ rfl _ rfl ?_
  intro b hb
  fin_cases b
  · rfl
  · exact absurd rfl hb

/-- A chunk's values: column `k` is the key `k` places after the first key of row block `j`. -/
theorem chunk_at (x2 : FVec Ideal S1x130x80x128 .bf16) (j : ℕ) (h : j + 16 ≤ 130) (d : Fin 80) (k : Fin 2048) :
    chunk (F := Ideal) x2 j h (ix2 d k) = x2 (ix4 0 ⟨j + k / 128, by omega⟩ d ⟨k % 128, by omega⟩) := by
  refine .trans ?_ (vals_at x2 (j + k / 128) (by omega) d ⟨k % 128, by omega⟩)
  refine (concat_at (fun i => if hi : i < 16 then vals x2 (j + i) (by omega) else vals x2 0 (by omega)) d k).trans ?_
  rw [dif_pos (by omega)]

/-- The context's values. -/
theorem chunkC_at (x2 : FVec Ideal S1x130x80x128 .bf16) (d : Fin 80) (k : Fin 256) :
    chunkC (F := Ideal) x2 (ix2 d k) = x2 (ix4 0 ⟨128 + k / 128, by omega⟩ d ⟨k % 128, by omega⟩) := by
  refine .trans ?_ (vals_at x2 (128 + k / 128) (by omega) d ⟨k % 128, by omega⟩)
  refine (concatC_at (fun i => if hi : i < 2 then vals x2 (128 + i) (by omega) else vals x2 0 (by omega)) d k).trans ?_
  rw [dif_pos (by omega)]

/-- The four heads side by side: column `64 g + d` of row `r` is head `g`'s quotient `d`. -/
theorem block_at (a : ℕ → FVec Ideal S80x256 .f32) (r : Fin 256) (c : Fin 256) :
    block (a 0) (a 1) (a 2) (a 3) (ix2 r c) = quot (a (c / 64)) (ix2 ⟨c % 64, by omega⟩ r) := by
  have hc : concatenate S256x256 0 [⟨S64x256, quot (a 0)⟩, ⟨S64x256, quot (a 1)⟩, ⟨S64x256, quot (a 2)⟩, ⟨S64x256, quot (a 3)⟩]
      concatenates_S64x256_S64x256_S64x256_S64x256_S256x256_d0 (ix2 c r) = quot (a (c / 64)) (ix2 ⟨c % 64, by omega⟩ r) := by
    refine concatenate_ofFn_apply (t := S256x256) (s₁ := S64x256) 0 (fun n : Fin 4 => quot (a n)) concatenates_S64x256_S64x256_S64x256_S64x256_S256x256_d0
      rfl 64 rfl (ix2 c r) ⟨c / 64, by omega⟩ rfl _ rfl ?_
    intro b hb
    fin_cases b
    · exact absurd rfl hb
    · rfl
  rw [← hc]
  unfold block
  generalize concatenate S256x256 0 _ _ = z
  pointwise

/-- Row `d` of the value operand at key `i`. -/
def val (x2 : FVec Ideal S1x130x80x128 .bf16) (d : Fin 80) (i : ℕ) : EReal :=
  if h : i < 16640 then x2 (ix4 0 ⟨i / 128, by omega⟩ d ⟨i % 128, by omega⟩) else 0

/-- The score of key `i` of the operand against query `r` is the real number `s i`. -/
def IsScore (x1 : FVec Ideal S1x16640x64 .bf16) (q : FVec Ideal S1x64x256 .bf16) (r : Fin 256) (s : ℕ → ℝ) : Prop :=
  ∀ i (h : i < 16640), ∑ e : Fin 64, x1 (ix3 0 ⟨i, h⟩ e) * q (ix3 0 e r) = (s i : EReal)

variable {x1 : FVec Ideal S1x16640x64 .bf16} {x2 : FVec Ideal S1x130x80x128 .bf16} {q : FVec Ideal S1x64x256 .bf16} {r : Fin 256} {s : ℕ → ℝ}

theorem val_chunk (c : ℕ) (hc : 2048 * c + 2048 ≤ 16384) (d : Fin 80) (k : Fin 2048) :
    chunk (F := Ideal) x2 (16 * c) (by omega) (ix2 d k) = val x2 d (2048 * c + k) := by
  rw [chunk_at, val, dif_pos (by omega)]
  congr 2 <;> ext1 <;> simp only [] <;> omega

theorem val_chunkC (d : Fin 80) (k : Fin 256) : chunkC (F := Ideal) x2 (ix2 d k) = val x2 d (16384 + k) := by
  rw [chunkC_at, val, dif_pos (by omega)]
  congr 2 <;> ext1 <;> simp only [] <;> omega

theorem top_real (hs : IsScore x1 q r s) (c : ℕ) (hc : 2048 * c + 2048 ≤ 16384) :
    ∃ M : ℝ, top (scores (F := Ideal) (keys x1 (2048 * c) (by omega)) q) (ix2 0 r) = M := by
  rw [top_at]
  exact fold_max_real (by norm_num) _ fun k => ⟨_, (scores_at ..).trans (hs _ _)⟩

theorem topC_real (hs : IsScore x1 q r s) : ∃ M : ℝ, topC (scoresC (F := Ideal) (keysC x1) q) (ix2 0 r) = M := by
  rw [topC_at]
  exact fold_max_real (by norm_num) _ fun k => ⟨_, (scoresC_at ..).trans (hs _ _)⟩

/-- A step over chunk `c`, in the scores and the values by key. -/
theorem step_eq (hs : IsScore x1 q r s) (m t : FVec Ideal S1x256 .f32) (c : ℕ) (hc : 2048 * c + 2048 ≤ 16384) (acc : FVec Ideal S80x256 .f32) (d : Fin 80) :
    step m t (scores (F := Ideal) (keys x1 (2048 * c) (by omega)) q) (chunk (F := Ideal) x2 (16 * c) (by omega)) acc (ix2 d r)
      = Ideal.exp2 (m (ix2 0 r) - max (m (ix2 0 r)) (t (ix2 0 r))) * acc (ix2 d r)
        + ∑ k : Fin 2048, val x2 d (2048 * c + k) * Ideal.exp2 ((s (2048 * c + k) : EReal) - max (m (ix2 0 r)) (t (ix2 0 r))) := by
  rw [step_at]
  congr 1
  refine Finset.sum_congr rfl fun k _ => ?_
  rw [val_chunk c hc, scores_at, hs]

/-- The step over the context keys, in the scores and the values by key. -/
theorem stepC_eq (hs : IsScore x1 q r s) (m t : FVec Ideal S1x256 .f32) (acc : FVec Ideal S80x256 .f32) (d : Fin 80) :
    stepC m t (scoresC (F := Ideal) (keysC x1) q) (chunkC (F := Ideal) x2) acc (ix2 d r)
      = Ideal.exp2 (m (ix2 0 r) - max (m (ix2 0 r)) (t (ix2 0 r))) * acc (ix2 d r)
        + ∑ k : Fin 256, val x2 d (16384 + k) * Ideal.exp2 ((s (16384 + k) : EReal) - max (m (ix2 0 r)) (t (ix2 0 r))) := by
  rw [stepC_at]
  congr 1
  refine Finset.sum_congr rfl fun k _ => ?_
  rw [val_chunkC, scoresC_at, hs]

/-- After `c + 1` chunks the accumulator holds the weighted values of the first `2048 (c + 1)` keys. -/
theorem accAt_part (hs : IsScore x1 q r s) (d : Fin 80) : ∀ (c : ℕ) (hc : 2048 * (c + 1) ≤ 16384),
    Part s (val x2 d) (2048 * (c + 1)) (mAt (F := Ideal) x1 q (c + 1) hc (ix2 0 r)) (accAt (F := Ideal) x1 x2 q (c + 1) hc (ix2 d r))
  | 0, hc => by
    have h := Part.start s (val x2 d) 2048 _ (top_real hs 0 (by omega))
    rw [accAt, step_eq hs _ _ 0 (by omega)]
    simp only [mAt, accAt, m₀_at, acc₀_at, maximumf_apply, Nat.mul_zero, Nat.zero_add] at h ⊢
    exact h
  | c + 1, hc => by
    have h := (accAt_part hs d c (by omega)).step 2048 _ (top_real hs (c + 1) (by omega))
    rw [accAt, step_eq hs _ _ (c + 1) (by omega)]
    exact h

/-- The greatest score of a latent tile's query, as the pass leaves it. -/
def maxL (x1 : FVec Ideal S1x16640x64 .bf16) (q : FVec Ideal S1x64x256 .bf16) (r : Fin 256) : EReal :=
  max (mAt (F := Ideal) x1 q 8 (by omega) (ix2 0 r)) (topC (scoresC (F := Ideal) (keysC x1) q) (ix2 0 r))

/-- A latent tile's head has passed all keys. -/
theorem headL_part (hs : IsScore x1 q r s) (d : Fin 80) : Part s (val x2 d) 16640 (maxL x1 q r) (headL (F := Ideal) x1 x2 q (ix2 d r)) := by
  have h := (accAt_part (x2 := x2) hs d 7 (by omega)).step 256 _ (topC_real hs)
  rw [headL, stepC_eq hs]
  exact h

/-- A context tile's head has passed the context keys. -/
theorem headC_part (hs : IsScore x1 q r s) (d : Fin 80) :
    Part (fun i => s (16384 + i)) (fun i => val x2 d (16384 + i)) 256 (max ⊥ (topC (scoresC (F := Ideal) (keysC x1) q) (ix2 0 r)))
      (headC (F := Ideal) x1 x2 q (ix2 d r)) := by
  have h := Part.start (fun i => s (16384 + i)) (fun i => val x2 d (16384 + i)) 256 _ (topC_real hs)
  rw [headC, stepC_eq hs, m₀_at, acc₀_at]
  exact h

/-- What a latent tile writes for a query: the softmax over all keys of the scores `t`, applied to the values. -/
theorem quotL (hs : IsScore x1 q r s) {t : ℕ → ℝ} (hst : ∀ i, s i * Real.log 2 = t i) (hone : ∀ i, i < 16640 → val x2 64 i = 1) (d : Fin 64) :
    quot (headL (F := Ideal) x1 x2 q) (ix2 d r) = ∑ i ∈ Finset.range 16640, (weight t 16640 i : EReal) * val x2 ⟨d, by omega⟩ i := by
  rw [quot_at]
  exact (headL_part hs _).finish (by norm_num) (headL_part hs 64) hone hst

/-- What a context tile writes for a query: the softmax over the context keys. -/
theorem quotC (hs : IsScore x1 q r s) {t : ℕ → ℝ} (hst : ∀ i, s i * Real.log 2 = t i) (hone : ∀ i, i < 16640 → val x2 64 i = 1) (d : Fin 64) :
    quot (headC (F := Ideal) x1 x2 q) (ix2 d r)
      = ∑ i ∈ Finset.range 256, (weight (fun i => t (16384 + i)) 256 i : EReal) * val x2 ⟨d, by omega⟩ (16384 + i) := by
  rw [quot_at]
  exact (headC_part hs _).finish (by norm_num) (headC_part hs 64) (fun i hi => hone _ (by omega)) fun i => hst _

end Cert.KernelIdeal.Attn

end
-- ==== Proof.AttnHost.lean ====
/- The attention call's operands as the host lays them out, and the blocks of them that a grid point holds. -/
module

public import proofs.«01_k».proof.Proof.Gen.KernelIdeal.Frame
public import Idealize.ShloMosaic.Lib.Pipeline.ValueKit
public import Idealize.ShloMosaic.Lib.Pointwise

@[expose] public section

set_option maxRecDepth 16384

noncomputable section

namespace Cert.KernelIdeal.Attn

open Cert.KernelIdeal Cert.KernelIdeal.Gen Idealize.ShloMosaic Idealize.ShloMosaic.TcCoe Idealize.SL.Sem

variable (m : (ℓ : Loc nD τ sig) → Buf (Elt Ideal) ℓ)

/-- The factor on the queries: an eighth over the logarithm of two. -/
def scale : EReal := Ideal.div (Ideal.ofBits .f32 0x3E000000#32) (Ideal.log (Ideal.ofBits .f32 0x40000000#32))

/-- Where each window's block lies: the grid runs over the 65 query tiles of group 0, then of group 1. -/
theorem idx : ∀ t : Fin cfg0.N, win0_0.index t = ![t.val / 65, 0, t.val % 65] ∧ win0_1.index t = ![t.val / 65, 0, 0]
    ∧ win0_2.index t = ![t.val / 65, 0, 0, 0] ∧ win0_3.index t = ![t.val % 65, t.val / 65] :=
  (by decide +kernel : ∀ t : Fin grid0.N, _)

/-- The queries: scaled, then laid out by head, coordinate and token. -/
theorem qt_at (c : Dev nD) (h : Fin 8) (e : Fin 64) (n : Fin 16640) :
    V m c main_v5 (ix3 h e n) = (show EReal from m ((c : Thread nD τ).loc main_arg0) (ix3 n h e)) * scale := by
  simp only [V, hostOps0, hostOps0_1, hostOps0_2, List.flatten_cons, List.flatten_nil, List.append_nil, List.cons_append, List.nil_append]
  entry_read
  pointwise
  rfl

/-- The keys by group and token. -/
theorem kt_at (c : Dev nD) (h : Fin 2) (n : Fin 16640) (e : Fin 64) :
    V m c main_v7 (ix3 h n e) = m ((c : Thread nD τ).loc main_arg1) (ix3 n h e) := by
  simp only [V, hostOps0, hostOps0_1, hostOps0_2, List.flatten_cons, List.flatten_nil, List.append_nil, List.cons_append, List.nil_append]
  entry_read
  pointwise

/-- The values by group, 128 tokens' transposed values at a time. -/
theorem vt_at (c : Dev nD) (h : Fin 2) (b : Fin 130) (d : Fin 64) (l : Fin 128) :
    V m c main_v16 (ix4 h b ⟨d, by omega⟩ l) = m ((c : Thread nD τ).loc main_arg2) (ix3 ⟨128 * b + l, by omega⟩ h d) := by
  simp only [V, hostOps0, hostOps0_1, hostOps0_2, List.flatten_cons, List.flatten_nil, List.append_nil, List.cons_append, List.nil_append]
  entry_read
  pointwise
  congr 2
  ext1
  exact congrArg (· + l.val) (Nat.mul_comm ..)

/-- The row of ones below the values. -/
theorem vt_one (c : Dev nD) (h : Fin 2) (b : Fin 130) (l : Fin 128) : V m c main_v16 (ix4 h b 64 l) = (1 : EReal) := by
  simp only [V, hostOps0, hostOps0_1, hostOps0_2, List.flatten_cons, List.flatten_nil, List.append_nil, List.cons_append, List.nil_append]
  entry_read
  pointwise
  show (select (cmpi .eq (iotaInDim S2x130x16x128 32 2) (broadcastInDim S2x130x16x128 ![] bcast_S_S2x130x16x128 (constantI S_ 32 0#32)))
    (broadcastInDim S2x130x16x128 ![] bcast_S_S2x130x16x128 (constant S_ .f32 0x3F800000#32))
    (broadcastInDim S2x130x16x128 ![] bcast_S_S2x130x16x128 (constant S_ .f32 0x00000000#32)) : FVec Ideal S2x130x16x128 .f32) (ix4 h b 0 l) = 1
  pointwise

/-- The query block of a grid point. -/
theorem blk0_at (c : Dev nD) (t : Fin cfg0.N) (g : Fin 4) (e : Fin 64) (r : Fin 256) (h : 4 * (t.val / 65) + g < 8) (n : 256 * (t.val % 65) + r < 16640) :
    iblk m c 0 t (ix3 g e r) = V m c main_v5 (ix3 ⟨4 * (t.val / 65) + g, h⟩ e ⟨256 * (t.val % 65) + r, n⟩) := by
  blk_ext [iblk, idx t]

theorem blk1_at (c : Dev nD) (t : Fin cfg0.N) (h : t.val / 65 < 2) (n : Fin 16640) (e : Fin 64) :
    iblk m c 1 t (ix3 0 n e) = V m c main_v7 (ix3 ⟨t.val / 65, h⟩ n e) := by
  blk_ext [iblk, idx t]

theorem blk2_at (c : Dev nD) (t : Fin cfg0.N) (h : t.val / 65 < 2) (b : Fin 130) (d : Fin 80) (l : Fin 128) :
    iblk m c 2 t (ix4 0 b d l) = V m c main_v16 (ix4 ⟨t.val / 65, h⟩ b d l) := by
  blk_ext [iblk, idx t]

end Cert.KernelIdeal.Attn

end
-- ==== Proof.AttnSpec.lean ====
/- What the attention call computes, over the extended reals: the softmax of the scores of the keys that a token attends
   to, applied to the values. -/
module

public import proofs.«01_k».proof.Proof.Softmax

@[expose] public section

noncomputable section

namespace Cert.Softmax

open Idealize.ShloMosaic

/-- The score of key `i` for token `n` in head `h`; four heads share a group of keys. -/
def score (q : Fin 16640 → Fin 8 → Fin 64 → EReal) (k : Fin 16640 → Fin 2 → Fin 64 → EReal) (n : Fin 16640) (h : Fin 8) (i : ℕ) : ℝ :=
  if hi : i < 16640 then (∑ e, (q n h e).toReal * (k ⟨i, hi⟩ ⟨h / 4, by omega⟩ e).toReal) * (1 / 8) else 0

/-- Coordinate `d` of the value of key `i` in group `g`. -/
def value (v : Fin 16640 → Fin 2 → Fin 64 → EReal) (g : Fin 2) (d : Fin 64) (i : ℕ) : EReal :=
  if hi : i < 16640 then v ⟨i, hi⟩ g d else 0

/-- The attention's result: a latent token (the first 16384) attends to all keys, a context token to the context keys. -/
def attn (q : Fin 16640 → Fin 8 → Fin 64 → EReal) (k v : Fin 16640 → Fin 2 → Fin 64 → EReal) (n : Fin 16640) (h : Fin 8) (d : Fin 64) : EReal :=
  if n.val < 16384 then
    ∑ i ∈ Finset.range 16640, (weight (score q k n h) 16640 i : EReal) * value v ⟨h / 4, by omega⟩ d i
  else
    ∑ i ∈ Finset.range 256, (weight (fun i => score q k n h (16384 + i)) 256 i : EReal) * value v ⟨h / 4, by omega⟩ d (16384 + i)

end Cert.Softmax

end
-- ==== Proof.AttnArray.lean ====
/- The attention call's result array: at every token and column the softmax-weighted values of AttnSpec.lean, where
   the queries and the keys are numbers. -/
module

public import proofs.«01_k».proof.Proof.AttnPoint
public import proofs.«01_k».proof.Proof.AttnValue
public import proofs.«01_k».proof.Proof.AttnHost
public import proofs.«01_k».proof.Proof.AttnSpec

@[expose] public section

set_option maxRecDepth 16384

noncomputable section

namespace Cert.KernelIdeal.Attn

open Cert.KernelIdeal Cert.KernelIdeal.Gen Idealize.ShloMosaic Idealize.ShloMosaic.TcCoe Idealize.SL.Sem Cert.Softmax

/-- The factor on the queries is the real number `(1/8) / log 2`. -/
theorem scale_real : scale = ((1 / 8 / Real.log 2 : ℝ) : EReal) := by
  have h2 : Ideal.ofBits .f32 0x40000000#32 = ((2 : ℝ) : EReal) := by
    simp [Ideal.ofBits, Ideal.ieee]; rw [← EReal.coe_mul]; norm_num
  have h8 : Ideal.ofBits .f32 0x3E000000#32 = ((1 / 8 : ℝ) : EReal) := by
    simp [Ideal.ofBits, Ideal.ieee]; rw [← EReal.coe_mul]; norm_num
  have hl : Real.log 2 ≠ 0 := (Real.log_pos (by norm_num)).ne'
  rw [scale, h2, h8, Ideal.log_coe, if_neg (by norm_num), Ideal.div_coe hl, ← EReal.coe_mul, mul_one_div]

/-- The queries of a head, read. -/
theorem queries_at (x0 : FVec Ideal S4x64x256 .bf16) (g : ℕ) (h : g < 4) (e : Fin 64) (r : Fin 256) :
    queries (F := Ideal) x0 g h (ix3 0 e r) = x0 (ix3 ⟨g, h⟩ e r) := by
  unfold queries
  refine View.ld_unit_apply_of _ _ _ _ _ (ix3 ⟨g, h⟩ e r) ?_
  intro a
  fin_cases a <;> simp

variable (m : (ℓ : Loc nD τ sig) → Buf (Elt Ideal) ℓ) (c : Dev nD)

/-- The queries by token, head and coordinate. -/
def qs (n : Fin 16640) (h : Fin 8) (e : Fin 64) : EReal := m ((c : Thread nD τ).loc main_arg0) (ix3 n h e)
/-- The keys by token, group and coordinate. -/
def ks (n : Fin 16640) (g : Fin 2) (e : Fin 64) : EReal := m ((c : Thread nD τ).loc main_arg1) (ix3 n g e)
/-- The values by token, group and coordinate. -/
def vs (n : Fin 16640) (g : Fin 2) (e : Fin 64) : EReal := m ((c : Thread nD τ).loc main_arg2) (ix3 n g e)

variable {m c} (hq : ∀ n h e, ∃ x : ℝ, qs m c n h e = x) (hk : ∀ n g e, ∃ x : ℝ, ks m c n g e = x)

include hq hk in
/-- The scores that a grid point's head computes: those of AttnSpec.lean over the logarithm of two. -/
theorem isScore (t : Fin cfg0.N) (g : ℕ) (hg : g < 4) (r : Fin 256) (hh : 4 * (t.val / 65) + g < 8) (hn : 256 * (t.val % 65) + r.val < 16640) :
    IsScore (iblk m c 1 t) (queries (iblk m c 0 t) g hg) r
      (fun i => score (qs m c) (ks m c) ⟨256 * (t.val % 65) + r, hn⟩ ⟨4 * (t.val / 65) + g, hh⟩ i / Real.log 2) := by
  intro i hi
  have ht : t.val / 65 < 2 := by omega
  have hterm : ∀ e : Fin 64, (show EReal from iblk m c 1 t (ix3 0 ⟨i, hi⟩ e)) * (show EReal from queries (F := Ideal) (iblk m c 0 t) g hg (ix3 0 e r))
      = (((qs m c ⟨256 * (t.val % 65) + r, hn⟩ ⟨4 * (t.val / 65) + g, hh⟩ e).toReal * (ks m c ⟨i, hi⟩ ⟨t.val / 65, ht⟩ e).toReal
        * (1 / 8 / Real.log 2) : ℝ) : EReal) := by
    intro e
    rw [queries_at, blk1_at m c t ht, blk0_at m c t ⟨g, hg⟩ e r hh hn, kt_at, qt_at, scale_real]
    obtain ⟨x, hx⟩ := hq ⟨256 * (t.val % 65) + r, hn⟩ ⟨4 * (t.val / 65) + g, hh⟩ e
    obtain ⟨y, hy⟩ := hk ⟨i, hi⟩ ⟨t.val / 65, ht⟩ e
    rw [hx, hy]
    unfold qs at hx
    unfold ks at hy
    rw [hx, hy]
    simp only [EReal.toReal_coe, ← EReal.coe_mul]
    congr 1
    ring
  have hg4 : (⟨(4 * (t.val / 65) + g) / 4, by omega⟩ : Fin 2) = ⟨t.val / 65, ht⟩ := by
    ext1; show (4 * (t.val / 65) + g) / 4 = t.val / 65; omega
  simp only [score, dif_pos hi, hg4]
  refine (Finset.sum_congr rfl fun e _ => hterm e).trans ?_
  rw [← coe_sum, ← Finset.sum_mul]
  congr 1
  ring

/-- The values that a grid point holds. -/
theorem val_eq (t : Fin cfg0.N) (ht : t.val / 65 < 2) (d : Fin 64) (i : ℕ) :
    val (iblk m c 2 t) ⟨d, by omega⟩ i = value (vs m c) ⟨t.val / 65, ht⟩ d i := by
  unfold val value
  by_cases hi : i < 16640
  · rw [dif_pos hi, dif_pos hi, blk2_at m c t ht, vt_at]
    unfold vs
    congr 2
    ext1
    show 128 * (i / 128) + i % 128 = i
    omega
  · rw [dif_neg hi, dif_neg hi]

/-- The row of ones that a grid point holds. -/
theorem val_one (t : Fin cfg0.N) (i : ℕ) (hi : i < 16640) : val (iblk m c 2 t) 64 i = 1 := by
  have ht : t.val / 65 < 2 := by have := t.isLt; have h : cfg0.N = 130 := rfl; omega
  rw [val, dif_pos hi, blk2_at m c t ht, vt_one]

include hq hk in
/-- What a grid point leaves in its block. -/
theorem out_at (t : Fin cfg0.N) (r : Fin 256) (w : Fin 256) (hh : 4 * (t.val / 65) + w / 64 < 8) (hn : 256 * (t.val % 65) + r.val < 16640) :
    outsAt0 m c t.val t.isLt (ix2 r w)
      = attn (qs m c) (ks m c) (vs m c) ⟨256 * (t.val % 65) + r, hn⟩ ⟨4 * (t.val / 65) + w / 64, hh⟩ ⟨w % 64, by omega⟩ := by
  have hl : Real.log 2 ≠ 0 := (Real.log_pos (by norm_num)).ne'
  have ht : t.val / 65 < 2 := by omega
  have hg4 : (⟨(4 * (t.val / 65) + w / 64) / 4, by omega⟩ : Fin 2) = ⟨t.val / 65, ht⟩ := by
    ext1; show (4 * (t.val / 65) + w.val / 64) / 4 = t.val / 65; omega
  have hs := isScore hq hk t (w / 64) (by omega) r hh hn
  unfold attn
  rw [hg4]
  by_cases h0 : t.val % 65 ≤ 63
  · rw [outA m c t h0 (by omega), if_pos (by show 256 * (t.val % 65) + r.val < 16384; omega)]
    refine (block_at (fun g => if hg : g < 4 then headL (iblk m c 1 t) (iblk m c 2 t) (queries (iblk m c 0 t) g hg) else acc₀) r w).trans ?_
    rw [dif_pos (by omega), quotL hs (fun i => div_mul_cancel₀ _ hl) (val_one t)]
    exact Finset.sum_congr rfl fun i _ => by rw [← val_eq t ht]
  · rw [outB m c t h0 (by omega), if_neg (by show ¬256 * (t.val % 65) + r.val < 16384; omega)]
    refine (block_at (fun g => if hg : g < 4 then headC (iblk m c 1 t) (iblk m c 2 t) (queries (iblk m c 0 t) g hg) else acc₀) r w).trans ?_
    rw [dif_pos (by omega), quotC hs (fun i => div_mul_cancel₀ _ hl) (val_one t)]
    exact Finset.sum_congr rfl fun i _ => by rw [← val_eq t ht]

variable (m c) in
/-- The whole result: column `64 h + d` of a token's row is coordinate `d` of head `h`. -/
def result : FVec Ideal S16640x512 .bf16 := fun y =>
  attn (qs m c) (ks m c) (vs m c) (y 0) ⟨(y 1).val / 64, by have := (y 1).isLt; change _ < 512 at this; omega⟩ ⟨(y 1).val % 64, Nat.mod_lt _ (by norm_num)⟩

include hq hk in
/-- The array after the run. -/
theorem final : (dats m 0 c).arrAt 3 cfg0.N = result m c := by
  refine (dats m 0 c).arrAt_eq_of_covers 3 _ (by decide +kernel) fun t hf y => ?_
  blk_simp
  rw [after0_3]
  idx_vars y
  have hN : t.val < 130 := t.isLt
  have he : ((View.whole main_v17).slice (win0_3.rect t)).emb (ix2 y0 y1)
      = ix2 ⟨256 * (t.val % 65) + y0, by omega⟩ ⟨256 * (t.val / 65) + y1, by omega⟩ := by
    blk_ext [idx t]
  rw [he]
  refine (out_at hq hk t y0 y1 (by omega) (by omega)).trans ?_
  have h1 : 4 * (t.val / 65) + y1.val / 64 = (256 * (t.val / 65) + y1.val) / 64 := by omega
  have h2 : y1.val % 64 = (256 * (t.val / 65) + y1.val) % 64 := by omega
  simp only [h1, h2]
  rfl

end Cert.KernelIdeal.Attn

end
-- ==== Proof.AttnRef.lean ====
/- The attention reference at an index: where the queries and the keys are numbers, the softmax-weighted sums of
   AttnSpec.lean. The reference takes the context keys before the latent ones; a sum does not see the order. -/
module

public import proofs.«01_k».proof.Proof.Gen.ReferenceIdeal.Run
public import proofs.«01_k».proof.Proof.AttnSpec
public import Idealize.ShloMosaic.Lib.Pointwise

@[expose] public section

set_option maxRecDepth 16384

noncomputable section

namespace Cert.ReferenceIdeal.Attn

open Cert.ReferenceIdeal Cert.ReferenceIdeal.Gen Idealize.ShloMosaic Idealize.ShloMosaic.TcCoe Idealize.SL.Sem Cert.Softmax

/-- The context's rows of the keys or values, by group. -/
def kvC (k : FVec Ideal S16640x2x64 .f32) : FVec Ideal S2x256x64 .f32 :=
  transpose S2x256x64 [1, 0, 2] (extractStridedSlice S256x2x64 ![16384, 0, 0] k slices_S16640x2x64_S256x2x64_16384_0_0) transposes_S256x2x64_S2x256x64_1_0_2

/-- All rows by group, the context's first. -/
def kvAll (k : FVec Ideal S16640x2x64 .f32) : FVec Ideal S2x16640x64 .f32 :=
  concatenate S2x16640x64 1 [⟨S2x256x64, kvC k⟩, ⟨S2x16384x64,
    transpose S2x16384x64 [1, 0, 2] (extractStridedSlice S16384x2x64 ![0, 0, 0] k slices_S16640x2x64_S16384x2x64_0_0_0) transposes_S16384x2x64_S2x16384x64_1_0_2⟩]
    concatenates_S2x256x64_S2x16384x64_S2x16640x64_d1

/-- The latent tokens' queries by group and head. -/
def qL (q : FVec Ideal S16640x8x64 .f32) : FVec Ideal S2x4x16384x64 .f32 :=
  transpose S2x4x16384x64 [1, 2, 0, 3] (shapeCast S16384x2x4x64 (extractStridedSlice S16384x8x64 ![0, 0, 0] q slices_S16640x8x64_S16384x8x64_0_0_0) shapeCasts_S16384x8x64_S16384x2x4x64) transposes_S16384x2x4x64_S2x4x16384x64_1_2_0_3

/-- The context tokens' queries by group and head. -/
def qC (q : FVec Ideal S16640x8x64 .f32) : FVec Ideal S2x4x256x64 .f32 :=
  transpose S2x4x256x64 [1, 2, 0, 3] (shapeCast S256x2x4x64 (extractStridedSlice S256x8x64 ![16384, 0, 0] q slices_S16640x8x64_S256x8x64_16384_0_0) shapeCasts_S256x8x64_S256x2x4x64) transposes_S256x2x4x64_S2x4x256x64_1_2_0_3

/-- The latent tokens' scores. -/
def sL (q : FVec Ideal S2x4x16384x64 .f32) (k : FVec Ideal S2x16640x64 .f32) : FVec Ideal S2x4x16384x16640 .f32 :=
  mulf (Host.dotGeneral (F := Ideal)  dot_S2x4x16384x64_S2x16640x64_S2x4x16384x16640_3_2_12_1_0_0 none q k)
    (broadcastInDim S2x4x16384x16640 ![] bcast_S_S2x4x16384x16640 (constant S_ .f32 0x3E000000#32))

/-- The context tokens' scores. -/
def sC (q : FVec Ideal S2x4x256x64 .f32) (k : FVec Ideal S2x256x64 .f32) : FVec Ideal S2x4x256x256 .f32 :=
  mulf (Host.dotGeneral (F := Ideal) dot_S2x4x256x64_S2x256x64_S2x4x256x256_3_2_12_1_0_0 none q k)
    (broadcastInDim S2x4x256x256 ![] bcast_S_S2x4x256x256 (constant S_ .f32 0x3E000000#32))

/-- The exponentials of the latent scores less their maximum. -/
def eL (s : FVec Ideal S2x4x16384x16640 .f32) : FVec Ideal S2x4x16384x16640 .f32 :=
  Host.exp (subf s (broadcastInDim S2x4x16384x16640 ![0, 1, 2, 3] bcast_S2x4x16384x1_S2x4x16384x16640_0_1_2_3
    (broadcastInDim S2x4x16384x1 ![0, 1, 2] bcast_S2x4x16384_S2x4x16384x1_0_1_2
      (maximumf (broadcastInDim S2x4x16384 ![] bcast_S_S2x4x16384 (constant S_ .f32 0xFF800000#32))
        (Host.reduce FloatOps.maximumf s (constant S_ .f32 0xFF800000#32) reducesTo_S2x4x16384x16640_S2x4x16384_d3 h_S_)))))

/-- The exponentials of the context scores less their maximum. -/
def eC (s : FVec Ideal S2x4x256x256 .f32) : FVec Ideal S2x4x256x256 .f32 :=
  Host.exp (subf s (broadcastInDim S2x4x256x256 ![0, 1, 2, 3] bcast_S2x4x256x1_S2x4x256x256_0_1_2_3
    (broadcastInDim S2x4x256x1 ![0, 1, 2] bcast_S2x4x256_S2x4x256x1_0_1_2
      (maximumf (broadcastInDim S2x4x256 ![] bcast_S_S2x4x256 (constant S_ .f32 0xFF800000#32))
        (Host.reduce FloatOps.maximumf s (constant S_ .f32 0xFF800000#32) reducesTo_S2x4x256x256_S2x4x256_d3 h_S_)))))

/-- The latent weights. -/
def pL (x : FVec Ideal S2x4x16384x16640 .f32) : FVec Ideal S2x4x16384x16640 .f32 :=
  Host.divf x (broadcastInDim S2x4x16384x16640 ![0, 1, 2, 3] bcast_S2x4x16384x1_S2x4x16384x16640_0_1_2_3
    (broadcastInDim S2x4x16384x1 ![0, 1, 2] bcast_S2x4x16384_S2x4x16384x1_0_1_2
      (Host.reduceAdd x (constant S_ .f32 0x00000000#32) reducesTo_S2x4x16384x16640_S2x4x16384_d3 h_S_)))

/-- The context weights. -/
def pC (x : FVec Ideal S2x4x256x256 .f32) : FVec Ideal S2x4x256x256 .f32 :=
  Host.divf x (broadcastInDim S2x4x256x256 ![0, 1, 2, 3] bcast_S2x4x256x1_S2x4x256x256_0_1_2_3
    (broadcastInDim S2x4x256x1 ![0, 1, 2] bcast_S2x4x256_S2x4x256x1_0_1_2
      (Host.reduceAdd x (constant S_ .f32 0x00000000#32) reducesTo_S2x4x256x256_S2x4x256_d3 h_S_)))

/-- The latent tokens' results. -/
def oL (p : FVec Ideal S2x4x16384x16640 .f32) (v : FVec Ideal S2x16640x64 .f32) : FVec Ideal S16384x512 .f32 :=
  shapeCast S16384x512 (transpose S16384x2x4x64 [2, 0, 1, 3] (Host.dotGeneral (F := Ideal)  dot_S2x4x16384x16640_S2x16640x64_S2x4x16384x64_3_1_12_2_0_0 none p v : FVec Ideal S2x4x16384x64 .f32)
    transposes_S2x4x16384x64_S16384x2x4x64_2_0_1_3) shapeCasts_S16384x2x4x64_S16384x512

/-- The context tokens' results. -/
def oC (p : FVec Ideal S2x4x256x256 .f32) (v : FVec Ideal S2x256x64 .f32) : FVec Ideal S256x512 .f32 :=
  shapeCast S256x512 (transpose S256x2x4x64 [2, 0, 1, 3] (Host.dotGeneral (F := Ideal) dot_S2x4x256x256_S2x256x64_S2x4x256x64_3_1_12_2_0_0 none p v : FVec Ideal S2x4x256x64 .f32)
    transposes_S2x4x256x64_S256x2x4x64_2_0_1_3) shapeCasts_S256x2x4x64_S256x512

/-- The whole reference. -/
def whole (q : FVec Ideal S16640x8x64 .f32) (k v : FVec Ideal S16640x2x64 .f32) : FVec Ideal S16640x512 .bf16 :=
  truncf .bf16 (concatenate S16640x512 0 [⟨S16384x512, oL (pL (eL (sL (qL q) (kvAll k)))) (kvAll v)⟩, ⟨S256x512, oC (pC (eC (sC (qC q) (kvC k)))) (kvC v)⟩]
    concatenates_S16384x512_S256x512_S16640x512_d0) bitsLt_bf16_f32

/-- The pattern of the maximum's start is `-∞`. -/
theorem ofBits_neg_inf : Ideal.ofBits .f32 0xFF800000#32 = ⊥ := by
  simp [Ideal.ofBits, Ideal.ieee]

theorem res_eq (m : (ℓ : Loc nD τ sig) → Buf (Elt Ideal) ℓ) (c : Dev nD) :
    Value.res_main_v51 m c = whole (m ((c : Thread nD τ).loc main_arg0)) (m ((c : Thread nD τ).loc main_arg1)) (m ((c : Thread nD τ).loc main_arg2)) := rfl

/-- The token of the reference's key `j`: the context tokens (16384 and on) come first. -/
def tok (j : ℕ) : ℕ := if j < 256 then 16384 + j else j - 256

theorem tok_lt {j : ℕ} (h : j < 16640) : tok j < 16640 := by unfold tok; split <;> omega

/-- A sum over all keys in the reference's order. -/
theorem sum_swap {α : Type} [AddCommMonoid α] (a b : ℕ) (f : ℕ → α) :
    ∑ j ∈ Finset.range (a + b), f (if j < a then b + j else j - a) = ∑ i ∈ Finset.range (b + a), f i := by
  rw [Finset.sum_range_add, Finset.sum_range_add, add_comm]
  congr 1
  · exact Finset.sum_congr rfl fun j _ => by rw [if_neg (by omega)]; congr 1; omega
  · exact Finset.sum_congr rfl fun j hj => by rw [if_pos (Finset.mem_range.1 hj)]

theorem sum_tok {α : Type} [AddCommMonoid α] (f : ℕ → α) : ∑ j ∈ Finset.range 16640, f (tok j) = ∑ i ∈ Finset.range 16640, f i :=
  sum_swap 256 16384 f

theorem kvC_at (k : FVec Ideal S16640x2x64 .f32) (g : Fin 2) (j : Fin 256) (e : Fin 64) : kvC k (ix3 g j e) = k (ix3 ⟨16384 + j, by omega⟩ g e) := by
  pointwise [kvC]

theorem kvAll_at (k : FVec Ideal S16640x2x64 .f32) (g : Fin 2) (j : Fin 16640) (e : Fin 64) :
    kvAll k (ix3 g j e) = k (ix3 ⟨tok j, tok_lt j.isLt⟩ g e) := by
  unfold kvAll tok
  have hz : ∀ j e, kvC k (ix3 g j e) = k (ix3 ⟨16384 + j, by omega⟩ g e) := fun j e => kvC_at k g j e
  generalize kvC k = z at hz
  pointwise
  by_cases h : j.val < 256
  · simp only [dif_pos h, if_pos h, hz]
  · simp only [dif_neg h, if_neg h]

theorem qL_at (q : FVec Ideal S16640x8x64 .f32) (g : Fin 2) (u : Fin 4) (n : Fin 16384) (e : Fin 64) :
    qL q (ix4 g u n e) = q (ix3 ⟨n, by omega⟩ ⟨g * 4 + u, by omega⟩ e) := by
  pointwise [qL]

theorem qC_at (q : FVec Ideal S16640x8x64 .f32) (g : Fin 2) (u : Fin 4) (n : Fin 256) (e : Fin 64) :
    qC q (ix4 g u n e) = q (ix3 ⟨16384 + n, by omega⟩ ⟨g * 4 + u, by omega⟩ e) := by
  pointwise [qC]

theorem sL_at (q : FVec Ideal S2x4x16384x64 .f32) (k : FVec Ideal S2x16640x64 .f32) (g : Fin 2) (u : Fin 4) (n : Fin 16384) (j : Fin 16640) :
    sL q k (ix4 g u n j) = (∑ e : Fin 64, q (ix4 g u n e) * k (ix3 g j e)) * Ideal.ofBits .f32 0x3E000000#32 := by
  pointwise [sL]

theorem sC_at (q : FVec Ideal S2x4x256x64 .f32) (k : FVec Ideal S2x256x64 .f32) (g : Fin 2) (u : Fin 4) (n : Fin 256) (j : Fin 256) :
    sC q k (ix4 g u n j) = (∑ e : Fin 64, q (ix4 g u n e) * k (ix3 g j e)) * Ideal.ofBits .f32 0x3E000000#32 := by
  pointwise [sC]

/-- A maximum over the last of four axes. -/
theorem reduce_max (n0 n1 n2 n3 : ℕ) (h : (⟨4, ![n0, n1, n2, n3]⟩ : Shape).ReducesTo [3] ⟨3, ![n0, n1, n2]⟩) (hu : 0 < S_.numel)
    (s : FVec Ideal ⟨4, ![n0, n1, n2, n3]⟩ .f32) (g : Fin n0) (u : Fin n1) (n : Fin n2) :
    Host.reduce FloatOps.maximumf s (constant S_ .f32 0xFF800000#32) h hu (ix3 g u n) = Finset.univ.fold max ⊥ fun j => s (ix4 g u n j) := by
  pointwise
  rw [ofBits_neg_inf]

/-- A sum over the last of four axes. -/
theorem reduce_add (n0 n1 n2 n3 : ℕ) (h : (⟨4, ![n0, n1, n2, n3]⟩ : Shape).ReducesTo [3] ⟨3, ![n0, n1, n2]⟩) (hu : 0 < S_.numel)
    (s : FVec Ideal ⟨4, ![n0, n1, n2, n3]⟩ .f32) (g : Fin n0) (u : Fin n1) (n : Fin n2) :
    Host.reduceAdd s (constant S_ .f32 0x00000000#32) h hu (ix3 g u n) = ∑ j, s (ix4 g u n j) := by
  pointwise

/-- The exponentials against given maxima. -/
theorem eL_z (z : FVec Ideal S2x4x16384 .f32) (s : FVec Ideal S2x4x16384x16640 .f32) (g : Fin 2) (u : Fin 4) (n : Fin 16384) (j : Fin 16640) :
  Host.exp (subf s (broadcastInDim S2x4x16384x16640 ![0, 1, 2, 3] bcast_S2x4x16384x1_S2x4x16384x16640_0_1_2_3
    (broadcastInDim S2x4x16384x1 ![0, 1, 2] bcast_S2x4x16384_S2x4x16384x1_0_1_2
      (maximumf (broadcastInDim S2x4x16384 ![] bcast_S_S2x4x16384 (constant S_ .f32 0xFF800000#32)) z)))) (ix4 g u n j)
   = Ideal.exp (s (ix4 g u n j) - max (Ideal.ofBits .f32 0xFF800000#32) (z (ix3 g u n))) := by
  pointwise

/-- The maximum over all keys. -/
theorem red (s : FVec Ideal S2x4x16384x16640 .f32) (g : Fin 2) (u : Fin 4) (n : Fin 16384) :
    Host.reduce FloatOps.maximumf s (constant S_ .f32 0xFF800000#32) reducesTo_S2x4x16384x16640_S2x4x16384_d3 h_S_ (ix3 g u n) = Finset.univ.fold max ⊥ fun j => s (ix4 g u n j) := reduce_max 2 4 16384 16640 reducesTo_S2x4x16384x16640_S2x4x16384_d3 h_S_ s g u n

theorem eL_at (s : FVec Ideal S2x4x16384x16640 .f32) (g : Fin 2) (u : Fin 4) (n : Fin 16384) (j : Fin 16640) :
    eL s (ix4 g u n j) = Ideal.exp (s (ix4 g u n j) - Finset.univ.fold max ⊥ fun j : Fin 16640 => s (ix4 g u n j)) := by
  refine (eL_z _ s g u n j).trans ?_
  rw [red, ofBits_neg_inf, max_eq_right bot_le]

theorem eC_at (s : FVec Ideal S2x4x256x256 .f32) (g : Fin 2) (u : Fin 4) (n : Fin 256) (j : Fin 256) :
    eC s (ix4 g u n j) = Ideal.exp (s (ix4 g u n j) - Finset.univ.fold max ⊥ fun j : Fin 256 => s (ix4 g u n j)) := by
  rw [← reduce_max 2 4 256 256 reducesTo_S2x4x256x256_S2x4x256_d3 h_S_ s g u n]
  unfold eC
  generalize Host.reduce FloatOps.maximumf s _ _ _ = z
  pointwise
  rw [ofBits_neg_inf, max_eq_right bot_le]

theorem pL_at (s : FVec Ideal S2x4x16384x16640 .f32) (g : Fin 2) (u : Fin 4) (n : Fin 16384) (j : Fin 16640) :
    pL s (ix4 g u n j) = Ideal.div (s (ix4 g u n j)) (∑ j : Fin 16640, s (ix4 g u n j)) := by
  rw [← reduce_add 2 4 16384 16640 reducesTo_S2x4x16384x16640_S2x4x16384_d3 h_S_ s g u n]
  unfold pL
  generalize Host.reduceAdd s _ _ _ = z
  pointwise

theorem pC_at (s : FVec Ideal S2x4x256x256 .f32) (g : Fin 2) (u : Fin 4) (n : Fin 256) (j : Fin 256) :
    pC s (ix4 g u n j) = Ideal.div (s (ix4 g u n j)) (∑ j : Fin 256, s (ix4 g u n j)) := by
  rw [← reduce_add 2 4 256 256 reducesTo_S2x4x256x256_S2x4x256_d3 h_S_ s g u n]
  unfold pC
  generalize Host.reduceAdd s _ _ _ = z
  pointwise

theorem oL_at (p : FVec Ideal S2x4x16384x16640 .f32) (v : FVec Ideal S2x16640x64 .f32) (n : Fin 16384) (w : Fin 512) :
    oL p v (ix2 n w) = ∑ j : Fin 16640, p (ix4 ⟨w / 256, by omega⟩ ⟨w / 64 % 4, by omega⟩ n j) * v (ix3 ⟨w / 256, by omega⟩ j ⟨w % 64, by omega⟩) := by
  pointwise [oL]

theorem oC_at (p : FVec Ideal S2x4x256x256 .f32) (v : FVec Ideal S2x256x64 .f32) (n : Fin 256) (w : Fin 512) :
    oC p v (ix2 n w) = ∑ j : Fin 256, p (ix4 ⟨w / 256, by omega⟩ ⟨w / 64 % 4, by omega⟩ n j) * v (ix3 ⟨w / 256, by omega⟩ j ⟨w % 64, by omega⟩) := by
  pointwise [oC]

/-- The two parts of the result, the latent tokens' first. -/
theorem whole_at (q : FVec Ideal S16640x8x64 .f32) (k v : FVec Ideal S16640x2x64 .f32) (n : Fin 16640) (w : Fin 512) :
    whole q k v (ix2 n w) = if h : n.val < 16384 then oL (pL (eL (sL (qL q) (kvAll k)))) (kvAll v) (ix2 ⟨n, h⟩ w)
      else oC (pC (eC (sC (qC q) (kvC k)))) (kvC v) (ix2 ⟨n - 16384, by omega⟩ w) := by
  unfold whole
  generalize oL _ _ = a
  generalize oC _ _ = b
  pointwise

end Cert.ReferenceIdeal.Attn

end
-- ==== Proof.AttnRefValue.lean ====
/- The attention reference computes the softmax-weighted sums of AttnSpec.lean, where the queries and the keys are
   numbers. -/
module

public import proofs.«01_k».proof.Proof.AttnRef

@[expose] public section

set_option maxRecDepth 16384

noncomputable section

namespace Cert.ReferenceIdeal.Attn

open Cert.ReferenceIdeal Cert.ReferenceIdeal.Gen Idealize.ShloMosaic Cert.Softmax

/-- One row of a softmax applied to values: the scores are the real numbers `t`, the values `V`. -/
theorem row {n : ℕ} (hn : 0 < n) (s v : Fin n → EReal) (t : ℕ → ℝ) (V : ℕ → EReal) (hs : ∀ j, s j = (t j : EReal)) (hv : ∀ j, v j = V j) :
    ∑ j, Ideal.div (Ideal.exp (s j - Finset.univ.fold max ⊥ fun j => s j)) (∑ j', Ideal.exp (s j' - Finset.univ.fold max ⊥ fun j => s j)) * v j
      = ∑ i ∈ Finset.range n, (weight t n i : EReal) * V i := by
  obtain ⟨M, hM⟩ := fold_max_real hn s fun k => ⟨_, hs k⟩
  rw [Finset.sum_range (fun i => (weight t n i : EReal) * V i)]
  refine Finset.sum_congr rfl fun j _ => ?_
  show Ideal.div (Ideal.exp (s j - Finset.univ.fold max ⊥ s)) (∑ j', Ideal.exp (s j' - Finset.univ.fold max ⊥ s)) * v j = _
  rw [hM, hv, ← div_exp t hn j M, Finset.sum_range (fun j => Ideal.exp ((t j : EReal) - (M : EReal)))]
  simp only [hs]

/-- A weight in the reference's order of the keys. -/
theorem weight_tok (t : ℕ → ℝ) (i : ℕ) : weight (fun j => t (tok j)) 16640 i = weight t 16640 (tok i) := by
  unfold weight
  rw [sum_tok fun i => Real.exp (t i)]

variable {q : Fin 16640 → Fin 8 → Fin 64 → EReal} {k : Fin 16640 → Fin 2 → Fin 64 → EReal} (v : Fin 16640 → Fin 2 → Fin 64 → EReal)

/-- A score as the reference writes it. -/
theorem score_eq (hq : ∀ n h e, ∃ x : ℝ, q n h e = x) (hk : ∀ n g e, ∃ x : ℝ, k n g e = x) (n : Fin 16640) (h : Fin 8) (g : Fin 2) (hg : h.val / 4 = g)
    (i : ℕ) (hi : i < 16640) : (∑ e : Fin 64, q n h e * k ⟨i, hi⟩ g e) * Ideal.ofBits .f32 0x3E000000#32 = (score q k n h i : EReal) := by
  have h8 : Ideal.ofBits .f32 0x3E000000#32 = ((1 / 8 : ℝ) : EReal) := by
    simp [Ideal.ofBits, Ideal.ieee]; rw [← EReal.coe_mul]; norm_num
  have hg' : (⟨h.val / 4, by omega⟩ : Fin 2) = g := Fin.ext hg
  simp only [score, dif_pos hi, hg', h8]
  rw [EReal.coe_mul, coe_sum]
  congr 1
  refine Finset.sum_congr rfl fun e _ => ?_
  obtain ⟨x, hx⟩ := hq n h e
  obtain ⟨y, hy⟩ := hk ⟨i, hi⟩ g e
  rw [hx, hy, ← EReal.coe_mul, EReal.toReal_coe, EReal.toReal_coe]

variable (q k) in
theorem value_eq (g : Fin 2) (d : Fin 64) (i : ℕ) (hi : i < 16640) : v ⟨i, hi⟩ g d = value v g d i := by
  rw [value, dif_pos hi]

/-- THE REFERENCE'S RESULT at token `n` and column `w`. -/
theorem whole_eq (a : FVec Ideal S16640x8x64 .f32) (b x : FVec Ideal S16640x2x64 .f32) (hq : ∀ n h e, ∃ r : ℝ, a (ix3 n h e) = r)
    (hk : ∀ n g e, ∃ r : ℝ, b (ix3 n g e) = r) (n : Fin 16640) (w : Fin 512) :
    whole a b x (ix2 n w) = attn (fun n h e => a (ix3 n h e)) (fun n g e => b (ix3 n g e)) (fun n g e => x (ix3 n g e)) n ⟨w / 64, by omega⟩ ⟨w % 64, by omega⟩ := by
  have hg : (⟨w.val / 64 / 4, by omega⟩ : Fin 2) = ⟨w / 256, by omega⟩ := Fin.ext (by show w.val / 64 / 4 = w / 256; omega)
  have hw : w.val / 256 * 4 + w / 64 % 4 = w / 64 := by omega
  rw [whole_at, attn]
  dsimp only
  rw [hg]
  by_cases hn : n.val < 16384
  · rw [dif_pos hn, if_pos hn, oL_at, ← sum_tok]
    simp only [pL_at, eL_at]
    refine (row (by norm_num) _ _ (fun j => score (fun n h e => a (ix3 n h e)) (fun n g e => b (ix3 n g e)) n ⟨w / 64, by omega⟩ (tok j))
      (fun j => value (fun n g e => x (ix3 n g e)) ⟨w / 256, by omega⟩ ⟨w % 64, by omega⟩ (tok j)) (fun j => ?_) (fun j => ?_)).trans ?_
    · rw [sL_at]
      simp only [qL_at, kvAll_at, hw]
      exact score_eq hq hk n ⟨w / 64, by omega⟩ ⟨w / 256, by omega⟩ (by show w.val / 64 / 4 = w / 256; omega) _ _
    · rw [kvAll_at]
      exact value_eq (fun n g e => x (ix3 n g e)) _ _ _ _
    · exact Finset.sum_congr rfl fun i _ => by rw [weight_tok]
  · rw [dif_neg hn, if_neg hn, oC_at]
    simp only [pC_at, eC_at]
    refine row (by norm_num) _ _ _ _ (fun j => ?_) (fun j => ?_)
    · rw [sC_at]
      have hn' : 16384 + (n.val - 16384) = n := by omega
      simp only [qC_at, kvC_at, hw, hn']
      exact score_eq hq hk n ⟨w / 64, by omega⟩ ⟨w / 256, by omega⟩ (by show w.val / 64 / 4 = w / 256; omega) _ _
    · rw [kvC_at]
      exact value_eq (fun n g e => x (ix3 n g e)) _ _ _ _

end Cert.ReferenceIdeal.Attn

end
-- ==== Proof.Finite.lean ====
/- The precondition, entry by entry: where `finite_qk` holds, every query and every key is a real number. -/
module

public import proofs.«01_k».proof.Proof.Gen.Pre_finite_qk
public import Idealize.ShloMosaic.Lib.ReduceAll
public import Idealize.ShloMosaic.Lib.Pointwise

@[expose] public section

set_option maxRecDepth 16384

noncomputable section

namespace Cert.Pre_finite_qk.Entry

open Cert.Pre_finite_qk Cert.Pre_finite_qk.Gen Idealize.ShloMosaic

/-- The pattern of the bound is `+∞`. -/
theorem ofBits_inf : Ideal.ofBits .f32 0x7F800000#32 = ⊤ := by
  simp [Ideal.ofBits, Ideal.ieee]

/-- An extended real below `+∞` in absolute value is a real number. -/
theorem real_of_abs_lt (x : EReal) (h : max x (-x) < ⊤) : ∃ r : ℝ, x = r := by
  induction x with
  | bot => simp at h
  | top => simp at h
  | coe r => exact ⟨r, rfl⟩

/-- The comparison of one entry's absolute value with the bound. -/
theorem real_of_cmp (x : EReal) (h : FloatOps.cmpf (F := Ideal) (φ := .f32) .olt (FloatOps.absf (F := Ideal) (φ := .f32) x) (Ideal.ofBits .f32 0x7F800000#32) = 1#1) :
    ∃ r : ℝ, x = r := by
  rw [ofBits_inf] at h
  refine real_of_abs_lt x ?_
  by_contra hn
  exact absurd h (by show ¬ (BitVec.ofBool (decide (max x (-x) < ⊤)) = 1#1); rw [decide_eq_false hn]; decide)

variable (q : FVec Ideal S16640x8x64 .f32) (k v : FVec Ideal S16640x2x64 .f32)

theorem query_real (h : fn (F := Ideal) q k v = fun _ => 1#1) (i : S16640x8x64.Idx) : ∃ r : ℝ, q i = r := by
  have h0 := congrFun h ix0
  dsimp only [fn] at h0
  exact real_of_cmp _ (Host.reduce_andi_all _ _ _ _ _ (IntOp.andi_eq_one.1 h0).1 i)

theorem key_real (h : fn (F := Ideal) q k v = fun _ => 1#1) (i : S16640x2x64.Idx) : ∃ r : ℝ, k i = r := by
  have h0 := congrFun h ix0
  dsimp only [fn] at h0
  exact real_of_cmp _ (Host.reduce_andi_all _ _ _ _ _ (IntOp.andi_eq_one.1 h0).2 i)

end Cert.Pre_finite_qk.Entry

end
-- ==== Proof.AttnClaim.lean ====
/- The attention kernel's claim: its array and the reference's are the same softmax-weighted sums. -/
module

public import proofs.«01_k».proof.Defs
public import proofs.«01_k».proof.Proof.Gen.KernelIdeal.Value
public import proofs.«01_k».proof.Proof.AttnArray
public import proofs.«01_k».proof.Proof.AttnRefValue
public import proofs.«01_k».proof.Proof.Finite
public import Idealize.ShloMosaic.Adequacy
public import Idealize.ShloMosaic.Init

@[expose] public section

set_option maxRecDepth 16384

noncomputable section

namespace Cert.Attn

open Idealize.ShloMosaic Idealize.ShloMosaic.TcCoe Idealize.SL.Sem Cert.Softmax

/-- The reference's whole array over the kernel's arguments. -/
theorem whole_result (m : (ℓ : Loc KernelIdeal.nD KernelIdeal.τ KernelIdeal.sig) → Buf (Elt Ideal) ℓ) (c : Dev KernelIdeal.nD)
    (hq : ∀ n h e, ∃ x : ℝ, KernelIdeal.Attn.qs m c n h e = x) (hk : ∀ n g e, ∃ x : ℝ, KernelIdeal.Attn.ks m c n g e = x) :
    ReferenceIdeal.Attn.whole (m ((c : Thread KernelIdeal.nD KernelIdeal.τ).loc KernelIdeal.main_arg0))
        (m ((c : Thread KernelIdeal.nD KernelIdeal.τ).loc KernelIdeal.main_arg1)) (m ((c : Thread KernelIdeal.nD KernelIdeal.τ).loc KernelIdeal.main_arg2))
      = KernelIdeal.Attn.result m c := by
  funext y
  idx_vars y
  rw [ReferenceIdeal.Attn.whole_eq _ _ _ hq hk]
  rfl

theorem algebraic : Cert.algebraic_KernelIdeal_ReferenceIdeal_pre_finite_qk := by
  pair_intro
  · run_from Cert.KernelIdeal.Value.run_blocks m g
  · run_from Cert.ReferenceIdeal.Value.run m' g'
    obtain ⟨h0, h1, h2⟩ := hagree c
    have hq : ∀ n h e, ∃ x : ℝ, KernelIdeal.Attn.qs m c n h e = x := fun n h e => Pre_finite_qk.Entry.query_real _ _ _ (hpre c) _
    have hk : ∀ n g e, ∃ x : ℝ, KernelIdeal.Attn.ks m c n g e = x := fun n g e => Pre_finite_qk.Entry.key_real _ _ _ (hpre c) _
    rw [ReferenceIdeal.Attn.res_eq, h0, h1, h2, KernelIdeal.Attn.final hq hk]
    exact whole_result m c hq hk

end Cert.Attn

end
-- ==== Proof.FfnOps.lean ====
/- The expert feed-forward kernel's arithmetic, read entry by entry: the gated hidden value of one row and one column
   of the hidden layer, and what a half of the accumulator gains at a grid point. -/
module

public import proofs.«01_k».proof.Proof.Gen.Kernel2Ideal.Value
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Kernel2Ideal.Ffn

open Cert.Kernel2Ideal Cert.Kernel2Ideal.Gen Idealize.ShloMosaic Idealize.ShloMosaic.TcCoe Idealize.SL.Sem

/-- The gated unit of two numbers: `a · 1/(1 + exp(−a)) · u`. -/
def gated (a u : EReal) : EReal := a * Ideal.div 1 (1 + Ideal.exp (-a)) * u

/-- The accumulator starts at zero. -/
theorem pay7_at (j : S2080x1024.Idx) : k0_pay7 (F := Ideal) j = 0 := by
  pointwise [k0_pay7]

/-- What row `r` and column `n` of the accumulator gains at a tile: the gated hidden values of the tile's 512 hidden
    columns, weighted by the tile's rows of the closing projection. -/
def part {R : ℕ} (x1 x2 : Vec Ideal S1x1x1024x512 .f32) (x3 : Vec Ideal S1x1x512x1024 .f32) (row : Fin R → Fin 1024 → EReal) (r : Fin R)
    (n : Fin 1024) : EReal :=
  ∑ f : Fin 512, gated (∑ d : Fin 1024, row r d * (show EReal from x1 (ix4 0 0 d f)))
    (∑ d : Fin 1024, row r d * (show EReal from x2 (ix4 0 0 d f))) * (show EReal from x3 (ix4 0 0 f n))

/-- The first half of the accumulator: what it held and the tile's part. -/
theorem pay8_at (x1 x2 : Vec Ideal S1x1x1024x512 .f32) (x3 : Vec Ideal S1x1x512x1024 .f32) (x0 : Vec Ideal S1x1040x1024 .bf16)
    (acc : Vec Ideal S1040x1024 .f32) (r : Fin 1040) (n : Fin 1024) :
    k0_pay1 (k0_pay8 (F := Ideal) x1 x2 x3 x0 acc) (ix2 r n)
      = (show EReal from acc (ix2 r n)) + part x1 x2 x3 (fun (r : Fin 1040) d => x0 (ix3 0 r d)) r n := by
  pointwise [k0_pay1, k0_pay8, k0_pay4, k0_pay5, k0_pay6, gated, part]
  simp only [zero_sub]

/-- The second half of the accumulator, the same. -/
theorem pay2_at (x1 x2 : Vec Ideal S1x1x1024x512 .f32) (x3 : Vec Ideal S1x1x512x1024 .f32) (x0 : Vec Ideal S1x1040x1024 .bf16)
    (acc : Vec Ideal S1040x1024 .f32) (r : Fin 1040) (n : Fin 1024) :
    k0_pay2 (F := Ideal) (k0_pay4 x1) (k0_pay5 x2) (k0_pay6 x3) x0 acc (ix2 r n)
      = (show EReal from acc (ix2 r n)) + part x1 x2 x3 (fun (r : Fin 1040) d => x0 (ix3 0 r d)) r n := by
  pointwise [k0_pay2, k0_pay4, k0_pay5, k0_pay6, gated, part]
  simp only [zero_sub]

/-- The accumulator after a grid point, over what it held before. -/
def step (x0 : Vec Ideal S1x2080x1024 .bf16) (x1 x2 : Vec Ideal S1x1x1024x512 .f32) (x3 : Vec Ideal S1x1x512x1024 .f32)
    (acc : Vec Ideal S2080x1024 .f32) : Vec Ideal S2080x1024 .f32 :=
  fun j => (show EReal from acc j) + part x1 x2 x3 (fun (r : Fin 2080) d => x0 (ix3 0 r d)) (j 0) (j 1)

/-- The two halves, each stored over its own rows, are the accumulator after the point, whatever was stored before. -/
theorem halves (x0 : Vec Ideal S1x2080x1024 .bf16) (x1 x2 : Vec Ideal S1x1x1024x512 .f32) (x3 : Vec Ideal S1x1x512x1024 .f32)
    (acc : Vec Ideal S2080x1024 .f32) (L : List (View.Piece (Elt Ideal) S2080x1024 .f32)) (y : S2080x1024.Idx) :
    View.canon (⟨Rect.unit ![1040, 0] ![1040, 1024] inb_S2080x1024_S1040x1024_1040_0,
        k0_pay2 (F := Ideal) (k0_pay4 x1) (k0_pay5 x2) (k0_pay6 x3)
          (View.ld x0 (Rect.unit ![0, 1040, 0] ![1, 1040, 1024] inb_S1x2080x1024_S1x1040x1024_0_1040_0))
          (View.ld acc (Rect.unit ![1040, 0] ![1040, 1024] inb_S2080x1024_S1040x1024_1040_0))⟩ ::
      ⟨Rect.unit ![0, 0] ![1040, 1024] inb_S2080x1024_S1040x1024_0_0,
        k0_pay1 (k0_pay8 (F := Ideal) x1 x2 x3
          (View.ld x0 (Rect.unit ![0, 0, 0] ![1, 1040, 1024] inb_S1x2080x1024_S1x1040x1024_0_0_0))
          (View.ld acc (Rect.unit ![0, 0] ![1040, 1024] inb_S2080x1024_S1040x1024_0_0)))⟩ :: L) y
      = step x0 x1 x2 x3 acc y := by
  refine View.canon_append_of_piecesOf (step x0 x1 x2 x3 acc) L [_, _] ?_ y ?_
  · refine ⟨fun z => ?_, fun z => ?_, trivial⟩
    · idx_vars z
      have he : (Rect.unit (s := S2080x1024) ![1040, 0] ![1040, 1024] inb_S2080x1024_S1040x1024_1040_0).emb (ix2 z0 z1)
          = ix2 ⟨1040 + z0, by omega⟩ z1 := by blk_ext
      have hx : ∀ d : Fin 1024, View.ld x0 (Rect.unit ![0, 1040, 0] ![1, 1040, 1024] inb_S1x2080x1024_S1x1040x1024_0_1040_0) (ix3 0 z0 d)
          = x0 (ix3 0 ⟨1040 + z0, by omega⟩ d) := by
        intro d
        refine View.ld_unit_apply_of _ _ _ _ _ (ix3 0 ⟨1040 + z0, by omega⟩ d) ?_
        intro a; fin_cases a <;> simp
      have ha : View.ld acc (Rect.unit ![1040, 0] ![1040, 1024] inb_S2080x1024_S1040x1024_1040_0) (ix2 z0 z1)
          = acc (ix2 ⟨1040 + z0, by omega⟩ z1) := by
        refine View.ld_unit_apply_of _ _ _ _ _ (ix2 ⟨1040 + z0, by omega⟩ z1) ?_
        intro a; fin_cases a <;> simp
      rw [he]
      refine (pay2_at x1 x2 x3 _ _ z0 z1).trans ?_
      unfold step part
      simp only [hx, ha]
      rfl
    · idx_vars z
      have he : (Rect.unit (s := S2080x1024) ![0, 0] ![1040, 1024] inb_S2080x1024_S1040x1024_0_0).emb (ix2 z0 z1)
          = ix2 ⟨z0, by omega⟩ z1 := by blk_ext
      have hx : ∀ d : Fin 1024, View.ld x0 (Rect.unit ![0, 0, 0] ![1, 1040, 1024] inb_S1x2080x1024_S1x1040x1024_0_0_0) (ix3 0 z0 d)
          = x0 (ix3 0 ⟨z0, by omega⟩ d) := by
        intro d
        refine View.ld_unit_apply_of _ _ _ _ _ (ix3 0 ⟨z0, by omega⟩ d) ?_
        intro a; fin_cases a <;> simp
      have ha : View.ld acc (Rect.unit ![0, 0] ![1040, 1024] inb_S2080x1024_S1040x1024_0_0) (ix2 z0 z1)
          = acc (ix2 ⟨z0, by omega⟩ z1) := by
        refine View.ld_unit_apply_of _ _ _ _ _ (ix2 ⟨z0, by omega⟩ z1) ?_
        intro a; fin_cases a <;> simp
      rw [he]
      refine (pay8_at x1 x2 x3 _ _ z0 z1).trans ?_
      unfold step part
      simp only [hx, ha]
      rfl
  · exact View.cover_of_tiledL (s := S2080x1024) _ S1040x1024.size (by sl_kernel_rfl) y

/-- The accumulator written out. -/
theorem pay3_at (x : Vec Ideal S2080x1024 .f32) (r : Fin 2080) (n : Fin 1024) :
    k0_pay3 (F := Ideal) x (ix3 0 r n) = x (ix2 r n) := by
  pointwise [k0_pay3]

end Cert.Kernel2Ideal.Ffn
-- ==== Proof.FfnPoint.lean ====
/- A grid point of the expert feed-forward kernel: the accumulator starts at zero at an expert's first tile, gains the
   tile's part at each, and is written out at the last. -/
module

public import proofs.«01_k».proof.Proof.FfnOps

@[expose] public section

set_option maxRecDepth 16384

noncomputable section

namespace Cert.Kernel2Ideal.Ffn

open Cert.Kernel2Ideal Cert.Kernel2Ideal.Gen Idealize.ShloMosaic Idealize.ShloMosaic.TcCoe Idealize.SL.Sem

variable (m : (ℓ : Loc nD τ sig) → Buf (Elt Ideal) ℓ) (c : Dev nD)

/-- What the accumulator's entry `j` gains at grid point `t`. -/
def gain (t : Fin cfg0.N) (j : S2080x1024.Idx) : EReal :=
  part (iblk m c 1 t) (iblk m c 2 t) (iblk m c 3 t) (fun (r : Fin 2080) d => iblk m c 0 t (ix3 0 r d)) (j 0) (j 1)

/-- At an expert's first tile the accumulator is the tile's part. -/
theorem acc_first (t : Fin cfg0.N) (h0 : t.val % 4 = 0) (j : S2080x1024.Idx) :
    (outsAt0 m c t.val t.isLt).2 j = (0 : EReal) + gain m c t j := by
  rw [outsAt0_A m c t h0 (by omega)]
  frame_out
  simp (disch := decide) only [↓ View.readCov_skip, ↓ View.readCov_fill]
  refine (halves (iblk m c 0 t) (iblk m c 1 t) (iblk m c 2 t) (iblk m c 3 t) (k0_pay7 (F := Ideal)) _ j).trans ?_
  unfold step gain
  rw [pay7_at]

/-- At a later tile it is what it was and the tile's part. -/
theorem acc_next (t : Fin cfg0.N) (h0 : ¬t.val % 4 = 0) (j : S2080x1024.Idx) :
    (outsAt0 m c t.val t.isLt).2 j
      = (show EReal from (outsAt0 m c (t.val - 1) (Nat.lt_of_le_of_lt (Nat.sub_le _ _) t.isLt)).2 j) + gain m c t j := by
  by_cases h1 : t.val % 4 = 3
  · rw [outsAt0_C m c t h0 h1]
    frame_out
    simp only [read_unread_whole]
    exact halves (iblk m c 0 t) (iblk m c 1 t) (iblk m c 2 t) (iblk m c 3 t) _ [] j
  · rw [outsAt0_B m c t h0 h1]
    frame_out
    simp only [read_unread_whole]
    exact halves (iblk m c 0 t) (iblk m c 1 t) (iblk m c 2 t) (iblk m c 3 t) _ [] j

/-- At the last tile the block written out is the accumulator. -/
theorem out_last (t : Fin cfg0.N) (h1 : t.val % 4 = 3) (r : Fin 2080) (n : Fin 1024) :
    (outsAt0 m c t.val t.isLt).1 (ix3 0 r n) = (outsAt0 m c t.val t.isLt).2 (ix2 r n) := by
  have h0 : ¬t.val % 4 = 0 := by omega
  refine Eq.trans ?_ (acc_next m c t h0 (ix2 r n)).symm
  rw [outsAt0_C m c t h0 h1]
  frame_out
  simp only [read_unread_whole]
  refine (pay3_at _ r n).trans ?_
  rw [View.readCov_eq_canon']
  have he : (Rect.unit (s := S2080x1024) ![0, 0] ![2080, 1024] inb_S2080x1024_S2080x1024_0_0).emb (ix2 r n) = ix2 r n := by
    blk_ext
  refine (congrArg (View.canon _) he).trans ?_
  exact halves (iblk m c 0 t) (iblk m c 1 t) (iblk m c 2 t) (iblk m c 3 t) _ [] (ix2 r n)

end Cert.Kernel2Ideal.Ffn
-- ==== Proof.FfnArray.lean ====
/- The expert feed-forward call's result array: at every expert, row and column the gated hidden values of the row,
   weighted by the closing projection; a run of four grid points sums over the hidden layer tile by tile. -/
module

public import proofs.«01_k».proof.Proof.FfnPoint

@[expose] public section

set_option maxRecDepth 16384

noncomputable section

namespace Cert.Kernel2Ideal.Ffn

open Cert.Kernel2Ideal Cert.Kernel2Ideal.Gen Idealize.ShloMosaic Idealize.ShloMosaic.TcCoe Idealize.SL.Sem

/-- The feed-forward of the rows of 16 experts: expert `i 0`, row `i 1`, column `i 2`, by the weights of the first layer. -/
def ffn (xs : Vec Ideal S16x2080x1024 .bf16) (wg wu : Vec Ideal S4x16x1024x2048 .f32) (wd : Vec Ideal S4x16x2048x1024 .f32) :
    Vec Ideal S16x2080x1024 .bf16 := fun i =>
  ∑ f : Fin 2048, gated (∑ d : Fin 1024, (show EReal from xs (ix3 (i 0) (i 1) d)) * (show EReal from wg (ix4 0 (i 0) d f)))
    (∑ d : Fin 1024, (show EReal from xs (ix3 (i 0) (i 1) d)) * (show EReal from wu (ix4 0 (i 0) d f)))
    * (show EReal from wd (ix4 0 (i 0) f (i 2)))

/-- The grid point's blocks: its expert, and the tile of the hidden layer. -/
theorem idx : ∀ t : Fin cfg0.N, win0_0.index t = ![t.val / 4, 0, 0] ∧ win0_1.index t = ![0, t.val / 4, 0, t.val % 4]
    ∧ win0_2.index t = ![0, t.val / 4, 0, t.val % 4] ∧ win0_3.index t = ![0, t.val / 4, t.val % 4, 0]
    ∧ win0_4.index t = ![t.val / 4, 0, 0] :=
  (by decide +kernel : ∀ t : Fin grid0.N, _)

variable (m : (ℓ : Loc nD τ sig) → Buf (Elt Ideal) ℓ) (c : Dev nD)

theorem rows_at (t : Fin cfg0.N) (e : Fin 16) (he : e.val = t.val / 4) (r : Fin 2080) (d : Fin 1024) :
    iblk m c 0 t (ix3 0 r d) = m ((c : Thread nD τ).loc main_arg0) (ix3 e r d) := by
  blk_point [iblk, V, idx t]

theorem gate_at (t : Fin cfg0.N) (e : Fin 16) (he : e.val = t.val / 4) (d : Fin 1024) (f : Fin 512) (l : Fin 2048)
    (hl : l.val = t.val % 4 * 512 + f) :
    iblk m c 1 t (ix4 0 0 d f) = m ((c : Thread nD τ).loc main_arg1) (ix4 0 e d l) := by
  blk_point [iblk, V, idx t]

theorem up_at (t : Fin cfg0.N) (e : Fin 16) (he : e.val = t.val / 4) (d : Fin 1024) (f : Fin 512) (l : Fin 2048)
    (hl : l.val = t.val % 4 * 512 + f) :
    iblk m c 2 t (ix4 0 0 d f) = m ((c : Thread nD τ).loc main_arg2) (ix4 0 e d l) := by
  blk_point [iblk, V, idx t]

theorem down_at (t : Fin cfg0.N) (e : Fin 16) (he : e.val = t.val / 4) (n : Fin 1024) (f : Fin 512) (l : Fin 2048)
    (hl : l.val = t.val % 4 * 512 + f) :
    iblk m c 3 t (ix4 0 0 f n) = m ((c : Thread nD τ).loc main_arg3) (ix4 0 e l n) := by
  blk_point [iblk, V, idx t]

/-- What an entry gains, at its row and column. -/
theorem gain_at (t : Fin cfg0.N) (r : Fin 2080) (n : Fin 1024) : gain m c t (ix2 r n) =
    ∑ f : Fin 512, gated (∑ d : Fin 1024, (show EReal from iblk m c 0 t (ix3 0 r d)) * (show EReal from iblk m c 1 t (ix4 0 0 d f)))
      (∑ d : Fin 1024, (show EReal from iblk m c 0 t (ix3 0 r d)) * (show EReal from iblk m c 2 t (ix4 0 0 d f)))
      * (show EReal from iblk m c 3 t (ix4 0 0 f n)) := rfl

/-- The feed-forward at an expert, a row and a column. -/
theorem ffn_at (xs : Vec Ideal S16x2080x1024 .bf16) (wg wu : Vec Ideal S4x16x1024x2048 .f32) (wd : Vec Ideal S4x16x2048x1024 .f32)
    (e : Fin 16) (r : Fin 2080) (n : Fin 1024) : ffn xs wg wu wd (ix3 e r n) =
    ∑ f : Fin 2048, gated (∑ d : Fin 1024, (show EReal from xs (ix3 e r d)) * (show EReal from wg (ix4 0 e d f)))
      (∑ d : Fin 1024, (show EReal from xs (ix3 e r d)) * (show EReal from wu (ix4 0 e d f))) * (show EReal from wd (ix4 0 e f n)) := rfl

/-- The call's result. -/
theorem final : (dats m 0 c).arrAt 4 cfg0.N = ffn (m ((c : Thread nD τ).loc main_arg0)) (m ((c : Thread nD τ).loc main_arg1))
    (m ((c : Thread nD τ).loc main_arg2)) (m ((c : Thread nD τ).loc main_arg3)) := by
  refine (dats m 0 c).arrAt_eq_of_covers 4 _ (by decide +kernel) fun t hf y => ?_
  blk_simp
  have h3 : t.val % 4 = 3 := (flush0_4 t).mp hf
  have ht : t.val < 64 := lt_of_lt_of_eq t.isLt N_0
  rw [after0_4]
  idx_vars y
  have he : ((View.whole main_v0).slice (win0_4.rect t)).emb (ix3 y0 y1 y2) = ix3 ⟨t.val / 4, by omega⟩ y1 y2 := by
    blk_ext [idx t]
  rw [he]
  obtain rfl : y0 = 0 := by omega
  refine (out_last m c t h3 y1 y2).trans ?_
  refine (Pipeline.eq_sum_fin_of_reset_step_apply_of_flush (fun n h => (outsAt0 m c n h).2) 4 (fun _ => (0 : EReal)) (gain m c)
    (acc_first m c) (acc_next m c) t h3 (ix2 y1 y2)).trans ?_
  rw [zero_add, ffn_at]
  simp only [gain_at]
  refine Fin.sum_mul_add_congr fun s k hl => ?_
  have hs : (4 * (t.val / 4) + s.val) / 4 = t.val / 4 := by omega
  have hm : (4 * (t.val / 4) + s.val) % 4 = s.val := by omega
  have hd : ∀ n : Fin 1024, _ := fun n =>
    down_at m c ⟨_, Pipeline.run_point_lt_of_flush t h3 s⟩ ⟨t.val / 4, by omega⟩ hs.symm n k ⟨s * 512 + k, hl⟩ (by rw [hm])
  have hg : ∀ d : Fin 1024, _ := fun d =>
    gate_at m c ⟨_, Pipeline.run_point_lt_of_flush t h3 s⟩ ⟨t.val / 4, by omega⟩ hs.symm d k ⟨s * 512 + k, hl⟩ (by rw [hm])
  have hu : ∀ d : Fin 1024, _ := fun d =>
    up_at m c ⟨_, Pipeline.run_point_lt_of_flush t h3 s⟩ ⟨t.val / 4, by omega⟩ hs.symm d k ⟨s * 512 + k, hl⟩ (by rw [hm])
  have hx : ∀ (r : Fin 2080) (d : Fin 1024), _ := fun r d =>
    rows_at m c ⟨_, Pipeline.run_point_lt_of_flush t h3 s⟩ ⟨t.val / 4, by omega⟩ hs.symm r d
  simp only [hd, hg, hu, hx]

end Cert.Kernel2Ideal.Ffn
-- ==== Proof.FfnRef.lean ====
/- The feed-forward reference, read entry by entry: the sums of FfnArray.lean. -/
module

public import proofs.«01_k».proof.Proof.FfnArray
public import proofs.«01_k».proof.Proof.Gen.Reference2Ideal.Run

@[expose] public section

set_option maxRecDepth 16384

noncomputable section

namespace Cert.Reference2Ideal.Ffn

open Cert.Reference2Ideal Cert.Reference2Ideal.Gen Idealize.ShloMosaic Idealize.ShloMosaic.TcCoe Idealize.SL.Sem

/-- The reference's composed term is the feed-forward of the rows. -/
theorem ref_eq (xs : FVec Ideal S16x2080x1024 .bf16) (wg wu : FVec Ideal S4x16x1024x2048 .f32) (wd : FVec Ideal S4x16x2048x1024 .f32) :
      truncf .bf16 (Host.dotGeneral dot_S16x2080x2048_S16x2048x1024_S16x2080x1024_2_1_1_2_0_0 none (mulf (mulf
      (Host.dotGeneral dot_S16x2080x1024_S16x1024x2048_S16x2080x2048_2_1_1_2_0_0 none (extf .f32 xs bitsLt_bf16_f32)
      (shapeCast _ (extractStridedSlice S1x16x1024x2048 ![0, 0, 0, 0] wg slices_S4x16x1024x2048_S1x16x1024x2048_0_0_0_0)
      shapeCasts_S1x16x1024x2048_S16x1024x2048)) (Host.divf (broadcastInDim S16x2080x2048 ![] bcast_S_S16x2080x2048
      (constant S_ .f32 0x3F800000#32)) (addf (broadcastInDim S16x2080x2048 ![] bcast_S_S16x2080x2048 (constant S_ .f32
      0x3F800000#32)) (Host.exp (Host.negf (Host.dotGeneral dot_S16x2080x1024_S16x1024x2048_S16x2080x2048_2_1_1_2_0_0
      none (extf .f32 xs bitsLt_bf16_f32) (shapeCast _ (extractStridedSlice S1x16x1024x2048 ![0, 0, 0, 0] wg
      slices_S4x16x1024x2048_S1x16x1024x2048_0_0_0_0) shapeCasts_S1x16x1024x2048_S16x1024x2048))))))) (Host.dotGeneral
      dot_S16x2080x1024_S16x1024x2048_S16x2080x2048_2_1_1_2_0_0 none (extf .f32 xs bitsLt_bf16_f32) (shapeCast _
      (extractStridedSlice S1x16x1024x2048 ![0, 0, 0, 0] wu slices_S4x16x1024x2048_S1x16x1024x2048_0_0_0_0)
      shapeCasts_S1x16x1024x2048_S16x1024x2048))) (shapeCast _ (extractStridedSlice S1x16x2048x1024 ![0, 0, 0, 0] wd
      slices_S4x16x2048x1024_S1x16x2048x1024_0_0_0_0) shapeCasts_S1x16x2048x1024_S16x2048x1024)) bitsLt_bf16_f32
      = Cert.Kernel2Ideal.Ffn.ffn xs wg wu wd := by
  funext i
  idx_vars i
  pointwise [Cert.Kernel2Ideal.Ffn.ffn, Cert.Kernel2Ideal.Ffn.gated]

end Cert.Reference2Ideal.Ffn
-- ==== Proof.FfnClaim.lean ====
/- The expert feed-forward call and its reference: the same sums, the reference's over the whole hidden layer at once. -/
module

public import proofs.«01_k».proof.Defs
public import proofs.«01_k».proof.Proof.FfnRef
public import Idealize.ShloMosaic.Adequacy
public import Idealize.ShloMosaic.Init

@[expose] public section

set_option maxRecDepth 16384

noncomputable section

namespace Cert.Ffn

open Idealize.ShloMosaic Idealize.ShloMosaic.TcCoe Idealize.SL.Sem

theorem algebraic : Cert.algebraic_Kernel2Ideal_Reference2Ideal := by
  pair_intro
  · run_from Cert.Kernel2Ideal.Value.run_blocks m g
  · run_from Cert.Reference2Ideal.Value.run m' g'
    exact (Reference2Ideal.Ffn.ref_eq _ _ _ _).trans (Kernel2Ideal.Ffn.final m c).symm

end Cert.Ffn
-- ==== Proof.OutSpec.lean ====
/- What the output projection and router call computes of one token: its mixed row, the row's normalised and modulated
   copy, and the router's affinities. -/
module

public import proofs.«01_k».proof.Proof.Softmax
public import Idealize.ShloMosaic.Lib.Pointwise

@[expose] public section

set_option maxRecDepth 16384

noncomputable section

namespace Cert.Mix

open Idealize.ShloMosaic

/-- The product of a token's three mixed parts, side by side, with a column of the projection. -/
def mix (o : Fin 512 → EReal) (s y : Fin 256 → EReal) (w : Fin 1024 → EReal) : EReal :=
  (∑ k : Fin 512, o k * w ⟨k, by omega⟩) + (∑ k : Fin 256, s k * w ⟨512 + k, by omega⟩) + ∑ k : Fin 256, y k * w ⟨768 + k, by omega⟩

/-- A token divided by its root mean square, times a gain, then scaled and shifted. -/
def normed (x g sc sh : Fin 1024 → EReal) (d : Fin 1024) : EReal :=
  x d * Ideal.rsqrt (Ideal.div (∑ k : Fin 1024, x k * x k) (Ideal.ofBits .f32 0x44800000#32) + Ideal.ofBits .f32 0x358637BD#32)
    * g d * (Ideal.ofBits .f32 0x3F800000#32 + sc d) + sh d

/-- An extended real that is a number. -/
def IsReal (x : EReal) : Prop := ∃ r : ℝ, x = r

theorem IsReal.add {x y : EReal} : IsReal x → IsReal y → IsReal (x + y) := by
  rintro ⟨a, rfl⟩ ⟨b, rfl⟩
  exact ⟨a + b, by norm_cast⟩

theorem IsReal.mul {x y : EReal} : IsReal x → IsReal y → IsReal (x * y) := by
  rintro ⟨a, rfl⟩ ⟨b, rfl⟩
  exact ⟨a * b, by norm_cast⟩

theorem IsReal.sum {ι : Type} (s : Finset ι) (f : ι → EReal) (h : ∀ i, IsReal (f i)) : IsReal (∑ i ∈ s, f i) := by
  choose g hg using h
  refine ⟨∑ i ∈ s, g i, ?_⟩
  rw [Finset.sum_congr rfl fun i _ => hg i]
  induction s using Finset.cons_induction with
  | empty => simp
  | cons a s ha ih => rw [Finset.sum_cons, Finset.sum_cons, ih, EReal.coe_add]

theorem sub_self_real {x : EReal} : IsReal x → x - x = 0 := by
  rintro ⟨a, rfl⟩
  exact_mod_cast sub_self a

theorem ofBits_neg_inf : Ideal.ofBits .f32 0xFF800000#32 = ⊥ := by
  simp [Ideal.ofBits, Ideal.ieee]

theorem ofBits_width : Ideal.ofBits .f32 0x44800000#32 = ((1024 : ℝ) : EReal) := by
  simp [Ideal.ofBits, Ideal.ieee]
  rw [← EReal.coe_mul]
  norm_num

/-- The number added to the mean square is positive. -/
theorem ofBits_eps : ∃ x : ℝ, 0 < x ∧ Ideal.ofBits .f32 0x358637BD#32 = x := by
  refine ⟨8796093 * 2 ^ (-43 : ℤ), by positivity, ?_⟩
  simp [Ideal.ofBits, Ideal.ieee]

theorem ofBits_one : Ideal.ofBits .f32 0x3F800000#32 = ((1 : ℝ) : EReal) := by
  simp [Ideal.ofBits, Ideal.ieee]
  rw [← EReal.coe_mul]
  norm_num

/-- One over the root mean square of a row of numbers is a number: the mean square is not negative. -/
theorem rms_real (x : Fin 1024 → EReal) (hx : ∀ k, IsReal (x k)) :
    IsReal (Ideal.rsqrt (Ideal.div (∑ k : Fin 1024, x k * x k) (Ideal.ofBits .f32 0x44800000#32) + Ideal.ofBits .f32 0x358637BD#32)) := by
  choose f hf using hx
  obtain ⟨ε, hε, he⟩ := ofBits_eps
  have hsum : ∑ k : Fin 1024, x k * x k = ((∑ k : Fin 1024, f k * f k : ℝ) : EReal) := by
    simp only [hf, ← EReal.coe_mul]
    exact (map_sum (⟨⟨Real.toEReal, EReal.coe_zero⟩, EReal.coe_add⟩ : ℝ →+ EReal) _ _).symm
  have hpos : 0 < (∑ k : Fin 1024, f k * f k) / 1024 + ε :=
    add_pos_of_nonneg_of_pos (div_nonneg (Finset.sum_nonneg fun k _ => mul_self_nonneg _) (by norm_num)) hε
  rw [hsum, he, ofBits_width, Ideal.div_coe (by norm_num), ← EReal.coe_mul, mul_one_div, ← EReal.coe_add, Ideal.rsqrt_coe, if_neg hpos.le.not_gt, if_neg hpos.ne']
  exact ⟨_, rfl⟩

/-- An entry over the root mean square of its row is a number, whatever the row: where an entry is infinite the mean square is
    infinite, and one over its root zero. -/
theorem scaled_real (x : Fin 1024 → EReal) (d : Fin 1024) : IsReal (x d *
    Ideal.rsqrt (Ideal.div (∑ k : Fin 1024, x k * x k) (Ideal.ofBits .f32 0x44800000#32) + Ideal.ofBits .f32 0x358637BD#32)) := by
  by_cases hx : ∀ k, IsReal (x k)
  · exact (hx d).mul (rms_real x hx)
  · obtain ⟨k, hk⟩ := not_forall.1 hx
    have h0 : ∀ y : EReal, 0 ≤ y * y := fun y => by
      induction y with
      | bot => simp
      | top => simp
      | coe r => exact_mod_cast mul_self_nonneg r
    have ht : x k * x k = ⊤ := by
      generalize x k = y at hk
      induction y with
      | bot => simp
      | top => simp
      | coe r => exact absurd ⟨r, rfl⟩ hk
    have hs : ∑ k : Fin 1024, x k * x k = ⊤ :=
      top_le_iff.1 (ht ▸ Finset.single_le_sum (f := fun k => x k * x k) (fun j _ => h0 (x j)) (Finset.mem_univ k))
    obtain ⟨ε, hε, he⟩ := ofBits_eps
    rw [hs, he, ofBits_width, Ideal.div_coe (by norm_num), EReal.top_mul_coe_of_pos (by norm_num), EReal.top_add_coe, Ideal.rsqrt_top, mul_zero]
    exact ⟨0, rfl⟩

theorem normed_real (x : Fin 1024 → EReal) {g sc sh : Fin 1024 → EReal} (hg : ∀ k, IsReal (g k)) (hc : ∀ k, IsReal (sc k))
    (hh : ∀ k, IsReal (sh k)) (d : Fin 1024) : IsReal (normed x g sc sh d) :=
  (((scaled_real x d).mul (hg d)).mul (IsReal.add ⟨_, ofBits_one⟩ (hc d))).add (hh d)

/-- The softmax of 16 scores in the first 16 of 128 lanes; zero in the others. -/
def lanes (l : Fin 16 → EReal) (e : Fin 128) : EReal :=
  if h : e.val < 16 then Ideal.div (Ideal.exp (l ⟨e, h⟩ - Finset.univ.fold max ⊥ l))
    (∑ j : Fin 16, Ideal.exp (l j - Finset.univ.fold max ⊥ l)) else 0

/-- The scores, minus infinity in the other lanes. -/
def masked (l : Fin 16 → EReal) (e : Fin 128) : EReal := if h : e.val < 16 then l ⟨e, h⟩ else ⊥

theorem masked_max (l : Fin 16 → EReal) : Finset.univ.fold max ⊥ (masked l) = Finset.univ.fold max ⊥ l := by
  refine le_antisymm ((Finset.fold_max_le _).2 ⟨bot_le, fun e _ => ?_⟩) ((Finset.fold_max_le _).2 ⟨bot_le, fun j _ => ?_⟩)
  · unfold masked
    split
    · exact (Finset.le_fold_max _).2 (.inr ⟨_, Finset.mem_univ _, le_rfl⟩)
    · exact bot_le
  · refine (Finset.le_fold_max _).2 (.inr ⟨⟨j, by omega⟩, Finset.mem_univ _, ?_⟩)
    unfold masked
    rw [dif_pos j.isLt]

theorem masked_sum (l : Fin 16 → EReal) (M : EReal) :
    ∑ e : Fin 128, Ideal.exp (masked l e - M) = ∑ j : Fin 16, Ideal.exp (l j - M) := by
  refine (Fin.sum_univ_add (a := 16) (b := 112) fun e => Ideal.exp (masked l e - M)).trans ?_
  have h0 : ∀ i : Fin 112, Ideal.exp (masked l (Fin.natAdd 16 i) - M) = 0 := fun i => by
    unfold masked
    rw [dif_neg (by simp), EReal.bot_sub]
    rfl
  have h1 : ∀ i : Fin 16, masked l (Fin.castAdd 112 i) = l i := fun i => by
    unfold masked
    exact dif_pos i.isLt
  simp only [h0, h1, Finset.sum_const_zero, add_zero]

/-- A softmax over all 128 lanes with minus infinity in the last 112 is the softmax of the 16 scores. -/
theorem lanes_eq (l : Fin 16 → EReal) (h : ∀ j, IsReal (l j)) (e : Fin 128) : lanes l e =
    Ideal.div (Ideal.exp (masked l e - Finset.univ.fold max ⊥ (masked l))) (∑ x : Fin 128, Ideal.exp (masked l x - Finset.univ.fold max ⊥ (masked l))) := by
  rw [masked_sum, masked_max]
  unfold lanes masked
  by_cases he : e.val < 16
  · simp only [dif_pos he]
  · simp only [dif_neg he]
    choose f hf using h
    obtain ⟨M, hM⟩ : IsReal (Finset.univ.fold max ⊥ l) := Cert.Softmax.fold_max_real (by norm_num) l fun j => ⟨f j, hf j⟩
    rw [hM, EReal.bot_sub, Ideal.exp_bot]
    have hs : ∑ j : Fin 16, Ideal.exp (l j - M) = ((∑ j : Fin 16, Real.exp (f j - M) : ℝ) : EReal) := by
      simp only [hf, ← EReal.coe_sub, Ideal.exp_coe]
      exact (map_sum (⟨⟨Real.toEReal, EReal.coe_zero⟩, EReal.coe_add⟩ : ℝ →+ EReal) _ _).symm
    have hp : (0 : ℝ) < ∑ j : Fin 16, Real.exp (f j - M) := Finset.sum_pos (fun j _ => Real.exp_pos _) Finset.univ_nonempty
    rw [hs, show (0 : EReal) = ((0 : ℝ) : EReal) from rfl, Ideal.div_coe hp.ne']
    simp

/-- The call's arguments, by index. -/
structure Args where
  /-- the tokens -/
  t : Fin 16640 → Fin 1024 → EReal
  /-- the first layer's modulation rows, of the latent and of the context half -/
  md : Fin 2 → Fin 6 → Fin 1024 → EReal
  /-- the attention part -/
  o : Fin 16640 → Fin 512 → EReal
  /-- the gating part -/
  s : Fin 16640 → Fin 256 → EReal
  /-- the Fourier part of the latent tokens -/
  yl : Fin 16384 → Fin 256 → EReal
  /-- the Fourier part of the context tokens -/
  yc : Fin 256 → Fin 256 → EReal
  /-- the first layer's output projection -/
  w : Fin 1024 → Fin 1024 → EReal
  /-- the first layer's second norm's gain -/
  g : Fin 1024 → EReal
  /-- the first layer's router weights -/
  rw : Fin 1024 → Fin 16 → EReal

/-- The entries of the shift and scale rows, the gain and the router weights are numbers. -/
structure Args.Real (A : Args) : Prop where
  sh : ∀ h d, IsReal (A.md h 3 d)
  sc : ∀ h d, IsReal (A.md h 4 d)
  g : ∀ d, IsReal (A.g d)
  rw : ∀ k e, IsReal (A.rw k e)

/-- The arguments, of the arrays that hold them. -/
def args (t : FVec Ideal ⟨2, ![16640, 1024]⟩ .f32) (md : FVec Ideal ⟨4, ![4, 2, 6, 1024]⟩ .f32) (o : FVec Ideal ⟨2, ![16640, 512]⟩ .bf16)
    (s : FVec Ideal ⟨2, ![16640, 256]⟩ .bf16) (yl : FVec Ideal ⟨2, ![16384, 256]⟩ .bf16) (yc : FVec Ideal ⟨2, ![256, 256]⟩ .bf16)
    (w : FVec Ideal ⟨3, ![4, 1024, 1024]⟩ .f32) (g : FVec Ideal ⟨2, ![4, 1024]⟩ .f32) (rw : FVec Ideal ⟨3, ![4, 1024, 16]⟩ .f32) : Args where
  t n d := t (ix2 n d)
  md h j d := md (ix4 0 h j d)
  o n k := o (ix2 n k)
  s n k := s (ix2 n k)
  yl n k := yl (ix2 n k)
  yc n k := yc (ix2 n k)
  w k d := w (ix3 0 k d)
  g d := g (ix2 0 d)
  rw k e := rw (ix3 0 k e)

/-- A token's half: the first 16384 are latent, the other 256 context. -/
def half (n : Fin 16640) : Fin 2 := if n.val < 16384 then 0 else 1

namespace Args

variable (A : Args)

/-- A token's Fourier part. -/
def y (n : Fin 16640) (k : Fin 256) : EReal := if h : n.val < 16384 then A.yl ⟨n, h⟩ k else A.yc ⟨n - 16384, by omega⟩ k

/-- The mixed token: the token and its three parts through the output projection, weighted. -/
def mixed (n : Fin 16640) (d : Fin 1024) : EReal :=
  A.t n d + A.md (half n) 2 d * mix (A.o n) (A.s n) (A.y n) (fun k => A.w k d)

/-- Its normalised and modulated copy. -/
def hidden (n : Fin 16640) (d : Fin 1024) : EReal := normed (A.mixed n) A.g (A.md (half n) 4) (A.md (half n) 3) d

/-- Its router scores. -/
def score (n : Fin 16640) (e : Fin 16) : EReal := ∑ k : Fin 1024, A.hidden n k * A.rw k e

/-- The first result. -/
def out0 : FVec Ideal ⟨2, ![16640, 1024]⟩ .f32 := fun i => A.mixed (i 0) (i 1)
/-- The second result. -/
def out1 : FVec Ideal ⟨2, ![16640, 1024]⟩ .f32 := fun i => A.hidden (i 0) (i 1)
/-- The third result. -/
def out2 : FVec Ideal ⟨2, ![16640, 128]⟩ .f32 := fun i => lanes (A.score (i 0)) (i 1)

variable {A} (hA : A.Real)

include hA

theorem hidden_real (n : Fin 16640) (d : Fin 1024) : IsReal (A.hidden n d) :=
  normed_real _ hA.g (hA.sc _) (hA.sh _) d

theorem score_real (n : Fin 16640) (e : Fin 16) : IsReal (A.score n e) :=
  IsReal.sum _ _ fun k => (hidden_real hA n k).mul (hA.rw k e)

end Args

end Cert.Mix

end
-- ==== Proof.OutOps.lean ====
/- The output projection and router call's arithmetic at an entry: the mixed token, its normalised and modulated copy,
   and the router's scores and affinities. -/
module

public import proofs.«01_k».proof.Proof.Gen.Kernel3Ideal.Frame
public import proofs.«01_k».proof.Proof.OutSpec
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Kernel3Ideal.Out

open Cert.Kernel3Ideal Cert.Kernel3Ideal.Gen Idealize.ShloMosaic Idealize.ShloMosaic.TcCoe Idealize.SL.Sem Cert.Mix

theorem pay2_at (i : grid0.Coords) (v1 v2 : Vec Ideal S256x256 .bf16) (v4 : Vec Ideal S256x512 .bf16) (v5 : Vec Ideal S1x512x1024 .bf16)
    (v8 : Vec Ideal S256x256 .bf16) (v9 v13 : Vec Ideal S1x256x1024 .bf16) (v17 : Vec Ideal S256x1024 .f32) (v18 : Vec Ideal S1x1x1x1024 .f32)
    (r : Fin 256) (d : Fin 1024) : k0_pay2 i v1 v2 v4 v5 v8 v9 v13 v17 v18 (ix2 r d) =
      (show EReal from v17 (ix2 r d)) + (show EReal from v18 (ix4 0 0 0 d)) *
        ((∑ k : Fin 512, (show EReal from v4 (ix2 r k)) * (show EReal from v5 (ix3 0 k d)))
          + (∑ k : Fin 256, (show EReal from v8 (ix2 r k)) * (show EReal from v9 (ix3 0 k d)))
          + ∑ k : Fin 256, (show EReal from (if (i 0).val < 64 then v1 else v2) (ix2 r k)) * (show EReal from v13 (ix3 0 k d))) := by
  have hs : (Scalar.select (Scalar.cmpi .slt (BitVec.ofNat 32 (i 0).val) 64#32) v1 v2 : Vec Ideal S256x256 .bf16)
      = if (i 0).val < 64 then v1 else v2 := by
    have : ∀ n : Fin 65, Scalar.cmpi .slt (BitVec.ofNat 32 n.val) 64#32 = if n.val < 64 then 1#1 else 0#1 := by decide
    rw [this (i 0)]
    split <;> simp [Scalar.select]
  unfold k0_pay2
  dsimp only
  rw [hs]
  generalize (if (i 0).val < 64 then v1 else v2) = z
  pointwise

theorem pay4_at (v22 : FVec Ideal S256x1024 .f32) (v34 : Vec Ideal S1x1x1024 .f32) (v38 v44 : Vec Ideal S1x1x1x1024 .f32) (r : Fin 256)
    (d : Fin 1024) (v26 : FVec Ideal S256x1 .f32) (h26 : v26 (ix2 r 0) = ∑ k : Fin 1024, (show EReal from v22 (ix2 r k)) * (show EReal from v22 (ix2 r k))) :
    k0_pay4 v22 v26 (Scalar.ofBits .f32 0x44800000#32) v34 v38 v44 (ix2 r d)
      = normed (fun k => v22 (ix2 r k)) (fun k => v34 (ix3 0 0 k)) (fun k => v38 (ix4 0 0 0 k)) (fun k => v44 (ix4 0 0 0 k)) d := by
  pointwise [k0_pay4, normed, h26]

theorem pay3_at (i : grid0.Coords) (v1 v2 : Vec Ideal S256x256 .bf16) (v4 : Vec Ideal S256x512 .bf16) (v5 : Vec Ideal S1x512x1024 .bf16)
    (v8 : Vec Ideal S256x256 .bf16) (v9 v13 : Vec Ideal S1x256x1024 .bf16) (v17 : Vec Ideal S256x1024 .f32) (v18 : Vec Ideal S1x1x1x1024 .f32)
    (r : Fin 256) : k0_pay3 i v1 v2 v4 v5 v8 v9 v13 v17 v18 (ix2 r 0) =
      ∑ k : Fin 1024, (show EReal from k0_pay2 i v1 v2 v4 v5 v8 v9 v13 v17 v18 (ix2 r k)) * (show EReal from k0_pay2 i v1 v2 v4 v5 v8 v9 v13 v17 v18 (ix2 r k)) := by
  unfold k0_pay3
  generalize k0_pay2 i v1 v2 v4 v5 v8 v9 v13 v17 v18 = z
  pointwise

/-- The router's score, its operands split in a leading and a trailing part: where all entries are numbers the trailing
    parts are zero. -/
theorem pay5_at (v22 : FVec Ideal S256x1024 .f32) (v26 : FVec Ideal S256x1 .f32) (q : Ideal .f32) (v34 : Vec Ideal S1x1x1024 .f32)
    (v38 v44 : Vec Ideal S1x1x1x1024 .f32) (v49 : Vec Ideal S1x1024x128 .f32) (r : Fin 256) (e : Fin 128)
    (hh : ∀ k, IsReal (k0_pay4 v22 v26 q v34 v38 v44 (ix2 r k))) (hw : ∀ k, IsReal (v49 (ix3 0 k e))) :
    k0_pay5 v22 v26 q v34 v38 v44 v49 (ix2 r e)
      = ∑ k : Fin 1024, (show EReal from k0_pay4 v22 v26 q v34 v38 v44 (ix2 r k)) * (show EReal from v49 (ix3 0 k e)) := by
  unfold k0_pay5
  generalize k0_pay4 v22 v26 q v34 v38 v44 = z at hh
  pointwise
  have hz : ∀ k, (show EReal from z (ix2 r k)) - z (ix2 r k) = 0 := fun k => sub_self_real (hh k)
  have hv : ∀ k, (show EReal from v49 (ix3 0 k e)) - v49 (ix3 0 k e) = 0 := fun k => sub_self_real (hw k)
  simp [hz, hv]

/-- The affinities: the softmax of the first 16 lanes, nothing in the others. -/
theorem pay1_at (v63 : FVec Ideal S256x128 .f32) (r : Fin 256) (e : Fin 128) (h : ∀ j : Fin 16, IsReal (v63 (ix2 r ⟨j, by omega⟩))) :
    k0_pay1 v63 (iota .tc S256x128 32 [1] iota_S256x128_d1_w32) (ix2 r e) = lanes (fun j => v63 (ix2 r ⟨j, by omega⟩)) e := by
  rw [lanes_eq _ h]
  unfold k0_pay1
  pointwise
  have hs : ∀ (x : Fin 128) (a : EReal), (Scalar.select (IntOp.cmpi CmpIPredicate.slt (BitVec.ofNat 32 x) 16#32) a
      (Ideal.ofBits FTy.f32 4286578688#32) : EReal) = if x.val < 16 then a else ⊥ := fun x a => by
    have hc : ∀ x : Fin 128, IntOp.cmpi CmpIPredicate.slt (BitVec.ofNat 32 x) 16#32 = if x.val < 16 then 1#1 else 0#1 := by decide
    rw [hc x, ofBits_neg_inf]
    split <;> simp [Scalar.select]
  have hf : ∀ x : Fin 128, (Scalar.select (IntOp.cmpi CmpIPredicate.slt (BitVec.ofNat 32 x) 16#32) (v63 (ix2 r x))
      (Ideal.ofBits FTy.f32 4286578688#32) : EReal) = masked (fun j => v63 (ix2 r ⟨j, by omega⟩)) x := fun x => by
    rw [hs]
    unfold masked
    split <;> rfl
  simp only [hf]
  simp only [ofBits_neg_inf]

end Cert.Kernel3Ideal.Out

end
-- ==== Proof.OutArray.lean ====
/- The output projection and router call's three result arrays: each grid point writes 256 tokens' rows, from the blocks of
   the arguments it holds. -/
module

public import proofs.«01_k».proof.Proof.OutOps

@[expose] public section

set_option maxRecDepth 16384

noncomputable section

namespace Cert.Kernel3Ideal.Out

open Cert.Kernel3Ideal Cert.Kernel3Ideal.Gen Idealize.ShloMosaic Idealize.ShloMosaic.TcCoe Idealize.SL.Sem Cert.Mix

/-- Where each window's block lies. -/
theorem idx : ∀ t : Fin cfg0.N, win0_0.index t = ![t.val, 0] ∧ win0_1.index t = ![0, t.val / 64, 0, 0] ∧ win0_2.index t = ![t.val, 0]
    ∧ win0_3.index t = ![t.val, 0] ∧ win0_4.index t = ![min t.val 63, 0] ∧ win0_5.index t = ![0, 0] ∧ win0_6.index t = ![0, 0, 0]
    ∧ win0_7.index t = ![0, 0, 0] ∧ win0_8.index t = ![0, 0, 0] ∧ win0_9.index t = ![t.val, 0] ∧ win0_10.index t = ![t.val, 0]
    ∧ win0_11.index t = ![t.val, 0] :=
  (by decide +kernel : ∀ t : Fin grid0.N, _)

/-- The grid point's coordinate. -/
theorem coord : ∀ t : Fin cfg0.N, (grid0.coords t 0).val = t.val :=
  (by decide +kernel : ∀ t : Fin grid0.N, _)

variable (m : (ℓ : Loc nD τ sig) → Buf (Elt Ideal) ℓ) (c : Dev nD)

/-- The call's arguments. -/
def argsOf : Args := args (m ((c : Thread nD τ).loc main_arg0)) (m ((c : Thread nD τ).loc main_arg1)) (m ((c : Thread nD τ).loc main_arg2))
  (m ((c : Thread nD τ).loc main_arg3)) (m ((c : Thread nD τ).loc main_arg4)) (m ((c : Thread nD τ).loc main_arg5))
  (m ((c : Thread nD τ).loc main_arg6)) (m ((c : Thread nD τ).loc main_arg7)) (m ((c : Thread nD τ).loc main_arg8))

theorem w_host (k d : Fin 1024) : V m c main_v2 (ix3 0 k d) = m ((c : Thread nD τ).loc main_arg6) (ix3 0 k d) := by
  simp only [V, hostOps0, hostOps0_1, hostOps0_2, List.flatten_cons, List.flatten_nil, List.append_nil, List.cons_append, List.nil_append]
  entry_read
  pointwise

theorem g_host (d : Fin 1024) : V m c main_v1 (ix3 0 0 d) = m ((c : Thread nD τ).loc main_arg7) (ix2 0 d) := by
  simp only [V, hostOps0, hostOps0_1, hostOps0_2, List.flatten_cons, List.flatten_nil, List.append_nil, List.cons_append, List.nil_append]
  entry_read
  pointwise

theorem rw_host (k : Fin 1024) (e : Fin 16) :
    V m c main_v0 (ix3 0 k ⟨e, by omega⟩) = m ((c : Thread nD τ).loc main_arg8) (ix3 0 k e) := by
  simp only [V, hostOps0, hostOps0_1, hostOps0_2, List.flatten_cons, List.flatten_nil, List.append_nil, List.cons_append, List.nil_append]
  entry_read
  simp only [StableHlo.TRef.toBuf, StableHlo.TRef.ofBuf, cast_eq]
  pointwise

theorem t_at (t : Fin cfg0.N) (r : Fin 256) (d : Fin 1024) (n : Fin 16640) (hn : n.val = t.val * 256 + r) :
    iblk m c 0 t (ix2 r d) = (argsOf m c).t n d := by
  show _ = m ((c : Thread nD τ).loc main_arg0) (ix2 n d)
  blk_point [iblk, V, idx t]

theorem md_at (t : Fin cfg0.N) (j : Fin 6) (d : Fin 1024) (h : Fin 2) (hh : h.val = t.val / 64) :
    iblk m c 1 t (ix4 0 0 j d) = (argsOf m c).md h j d := by
  show _ = m ((c : Thread nD τ).loc main_arg1) (ix4 0 h j d)
  blk_point [iblk, V, idx t]

theorem o_at (t : Fin cfg0.N) (r : Fin 256) (k : Fin 512) (n : Fin 16640) (hn : n.val = t.val * 256 + r) :
    iblk m c 2 t (ix2 r k) = (argsOf m c).o n k := by
  show _ = m ((c : Thread nD τ).loc main_arg2) (ix2 n k)
  blk_point [iblk, V, idx t]

theorem s_at (t : Fin cfg0.N) (r : Fin 256) (k : Fin 256) (n : Fin 16640) (hn : n.val = t.val * 256 + r) :
    iblk m c 3 t (ix2 r k) = (argsOf m c).s n k := by
  show _ = m ((c : Thread nD τ).loc main_arg3) (ix2 n k)
  blk_point [iblk, V, idx t]

theorem yl_at (t : Fin cfg0.N) (r : Fin 256) (k : Fin 256) (n : Fin 16384) (hn : n.val = (min t.val 63) * 256 + r) :
    iblk m c 4 t (ix2 r k) = (argsOf m c).yl n k := by
  show _ = m ((c : Thread nD τ).loc main_arg4) (ix2 n k)
  blk_point [iblk, V, idx t]

theorem yc_at (t : Fin cfg0.N) (r : Fin 256) (k : Fin 256) :
    iblk m c 5 t (ix2 r k) = (argsOf m c).yc r k := by
  show _ = m ((c : Thread nD τ).loc main_arg5) (ix2 r k)
  blk_point [iblk, V, idx t]

theorem w_at (t : Fin cfg0.N) (k d : Fin 1024) : iblk m c 6 t (ix3 0 k d) = (argsOf m c).w k d := by
  refine Eq.trans ?_ (w_host m c k d)
  blk_point [iblk, idx t]

theorem g_at (t : Fin cfg0.N) (d : Fin 1024) : iblk m c 7 t (ix3 0 0 d) = (argsOf m c).g d := by
  refine Eq.trans ?_ (g_host m c d)
  blk_point [iblk, idx t]

theorem rw_at (t : Fin cfg0.N) (k : Fin 1024) (e : Fin 16) : iblk m c 8 t (ix3 0 k ⟨e, by omega⟩) = (argsOf m c).rw k e := by
  refine Eq.trans ?_ (rw_host m c k e)
  blk_point [iblk, idx t]

/-- The rows of a stored slice of the projection and of the modulation. -/
theorem ld_w (x : Vec Ideal S1x1024x1024 .bf16) (d : Fin 1024) :
    (∀ k : Fin 512, View.ld x r0_2 (ix3 0 k d) = x (ix3 0 ⟨k, by omega⟩ d)) ∧ (∀ k : Fin 256, View.ld x r0_3 (ix3 0 k d) = x (ix3 0 ⟨512 + k, by omega⟩ d))
      ∧ ∀ k : Fin 256, View.ld x r0_4 (ix3 0 k d) = x (ix3 0 ⟨768 + k, by omega⟩ d) := by
  refine ⟨fun k => ?_, fun k => ?_, fun k => ?_⟩
  · refine View.ld_unit_apply_of _ _ _ _ _ (ix3 0 ⟨k, by omega⟩ d) fun a => ?_
    fin_cases a <;> simp
  · refine View.ld_unit_apply_of _ _ _ _ _ (ix3 0 ⟨512 + k, by omega⟩ d) fun a => ?_
    fin_cases a <;> simp
  · refine View.ld_unit_apply_of _ _ _ _ _ (ix3 0 ⟨768 + k, by omega⟩ d) fun a => ?_
    fin_cases a <;> simp

theorem ld_md (x : Vec Ideal S1x1x6x1024 .f32) (d : Fin 1024) : View.ld x r0_6 (ix4 0 0 0 d) = x (ix4 0 0 2 d)
    ∧ View.ld x r0_8 (ix4 0 0 0 d) = x (ix4 0 0 4 d) ∧ View.ld x r0_9 (ix4 0 0 0 d) = x (ix4 0 0 3 d) := by
  refine ⟨?_, ?_, ?_⟩
  · refine View.ld_unit_apply_of _ _ _ _ _ (ix4 0 0 2 d) fun a => ?_
    fin_cases a <;> simp
  · refine View.ld_unit_apply_of _ _ _ _ _ (ix4 0 0 4 d) fun a => ?_
    fin_cases a <;> simp
  · refine View.ld_unit_apply_of _ _ _ _ _ (ix4 0 0 3 d) fun a => ?_
    fin_cases a <;> simp

/-- A load of a whole block is the block. -/
theorem ld_y (x : Vec Ideal S256x256 .bf16) : View.ld x r0_0 = x := View.ld_unit_zero (by funext a; fin_cases a <;> rfl) _ x
theorem ld_o (x : Vec Ideal S256x512 .bf16) : View.ld x r0_1 = x := View.ld_unit_zero (by funext a; fin_cases a <;> rfl) _ x
theorem ld_t (x : Vec Ideal S256x1024 .f32) : View.ld x r0_5 = x := View.ld_unit_zero (by funext a; fin_cases a <;> rfl) _ x
theorem ld_g (x : Vec Ideal S1x1x1024 .f32) : View.ld x r0_7 = x := View.ld_unit_zero (by funext a; fin_cases a <;> rfl) _ x
theorem ld_rw (x : Vec Ideal S1x1024x128 .f32) : View.ld x r0_10 = x := View.ld_unit_zero (by funext a; fin_cases a <;> rfl) _ x

/-- The mixed rows a grid point computes. -/
def rows (t : Fin cfg0.N) : FVec Ideal S256x1024 .f32 :=
  k0_pay6 (grid0.coords t) (iblk m c 0 t) (iblk m c 1 t) (iblk m c 2 t) (iblk m c 3 t) (iblk m c 4 t) (iblk m c 5 t) (iblk m c 6 t)
    (iblk m c 7 t) (iblk m c 8 t)

/-- Their sums of squares. -/
def sums (t : Fin cfg0.N) : FVec Ideal S256x1 .f32 :=
  k0_pay7 (grid0.coords t) (iblk m c 0 t) (iblk m c 1 t) (iblk m c 2 t) (iblk m c 3 t) (iblk m c 4 t) (iblk m c 5 t) (iblk m c 6 t)
    (iblk m c 7 t) (iblk m c 8 t)

/-- A mixed row's entry, from the blocks. -/
theorem row_at (i : grid0.Coords) (x0 : Vec Ideal S256x1024 .f32) (x1 : Vec Ideal S1x1x6x1024 .f32) (x2 : Vec Ideal S256x512 .bf16)
    (x3 x4 x5 : Vec Ideal S256x256 .bf16) (x6 : Vec Ideal S1x1024x1024 .bf16) (x7 : Vec Ideal S1x1x1024 .f32) (x8 : Vec Ideal S1x1024x128 .f32)
    (r : Fin 256) (d : Fin 1024) : k0_pay6 i x0 x1 x2 x3 x4 x5 x6 x7 x8 (ix2 r d) = (show EReal from x0 (ix2 r d)) + (show EReal from x1 (ix4 0 0 2 d))
      * mix (fun k => x2 (ix2 r k)) (fun k => x3 (ix2 r k)) (fun k => (if (i 0).val < 64 then x4 else x5) (ix2 r k)) (fun k => x6 (ix3 0 k d)) := by
  unfold k0_pay6
  refine (pay2_at _ _ _ _ _ _ _ _ _ _ r d).trans ?_
  rw [ld_y x4, ld_y x5]
  unfold mix
  congr 1
  · exact congrFun (ld_t x0) _
  congr 1
  · exact (ld_md x1 d).1
  congr 1
  · congr 1
    · exact Finset.sum_congr rfl fun k _ => congrArg₂ (fun a b : EReal => a * b) (congrFun (ld_o x2) _) ((ld_w x6 d).1 k)
    · exact Finset.sum_congr rfl fun k _ => congrArg₂ (fun a b : EReal => a * b) (congrFun (ld_y x3) _) ((ld_w x6 d).2.1 k)
  · exact Finset.sum_congr rfl fun k _ => congrArg (fun b : EReal => _ * b) ((ld_w x6 d).2.2 k)

theorem rows_at (t : Fin cfg0.N) (r : Fin 256) (d : Fin 1024) (n : Fin 16640) (hn : n.val = t.val * 256 + r) :
    rows m c t (ix2 r d) = (argsOf m c).mixed n d := by
  have ht : t.val < 65 := t.isLt
  have hh : (half n).val = t.val / 64 := by
    unfold half
    split <;> simp <;> omega
  have hy : ∀ k : Fin 256, (if (grid0.coords t 0).val < 64 then iblk m c 4 t else iblk m c 5 t) (ix2 r k) = (argsOf m c).y n k := fun k => by
    rw [coord]
    by_cases hlt : t.val < 64
    · have h : n.val < 16384 := by omega
      refine (congrFun (if_pos hlt) _).trans ((yl_at m c t r k ⟨n, h⟩ (by show n.val = _; omega)).trans (Eq.symm ?_))
      exact dif_pos h
    · have h : ¬ n.val < 16384 := by omega
      have hr : r = (⟨n - 16384, by omega⟩ : Fin 256) := by
        ext1
        show r.val = n.val - 16384
        omega
      refine (congrFun (if_neg hlt) _).trans ((yc_at m c t r k).trans (Eq.trans (congrArg (fun a => (argsOf m c).yc a k) hr) (Eq.symm ?_)))
      exact dif_neg h
  refine (row_at _ _ _ _ _ _ _ _ _ _ r d).trans ?_
  unfold Args.mixed
  congr 1
  · exact t_at m c t r d n hn
  congr 1
  · exact md_at m c t 2 d _ hh
  congr 1
  · funext k
    exact o_at m c t r k n hn
  · funext k
    exact s_at m c t r k n hn
  · funext k
    exact hy k
  · funext k
    exact w_at m c t k d

theorem sums_at (t : Fin cfg0.N) (r : Fin 256) : sums m c t (ix2 r 0) =
    ∑ k : Fin 1024, (show EReal from rows m c t (ix2 r k)) * (show EReal from rows m c t (ix2 r k)) :=
  pay3_at _ _ _ _ _ _ _ _ _ _ r

theorem copy_at (t : Fin cfg0.N) (r : Fin 256) (d : Fin 1024) (n : Fin 16640) (hn : n.val = t.val * 256 + r) :
    k0_pay4 (rows m c t) (sums m c t) (Scalar.ofBits .f32 0x44800000#32) (View.ld (iblk m c 7 t) r0_7) (View.ld (iblk m c 1 t) r0_8)
      (View.ld (iblk m c 1 t) r0_9) (ix2 r d) = (argsOf m c).hidden n d := by
  have ht : t.val < 65 := t.isLt
  have hh : (half n).val = t.val / 64 := by
    unfold half
    split <;> simp <;> omega
  rw [pay4_at _ _ _ _ r d _ (sums_at m c t r)]
  unfold Args.hidden
  congr 1
  · funext k
    exact rows_at m c t r k n hn
  · funext k
    rw [ld_g]
    exact g_at m c t k
  · funext k
    rw [(ld_md _ k).2.1, md_at m c t _ k _ hh]
  · funext k
    rw [(ld_md _ k).2.2, md_at m c t _ k _ hh]

theorem score_at (hA : (argsOf m c).Real) (t : Fin cfg0.N) (r : Fin 256) (e : Fin 16) (n : Fin 16640) (hn : n.val = t.val * 256 + r) :
    k0_pay5 (rows m c t) (sums m c t) (Scalar.ofBits .f32 0x44800000#32) (View.ld (iblk m c 7 t) r0_7) (View.ld (iblk m c 1 t) r0_8)
      (View.ld (iblk m c 1 t) r0_9) (View.ld (iblk m c 8 t) r0_10) (ix2 r ⟨e, by omega⟩) = (argsOf m c).score n e := by
  have hc : ∀ k, _ := fun k => copy_at m c t r k n hn
  have hr : ∀ k : Fin 1024, View.ld (iblk m c 8 t) r0_10 (ix3 0 k ⟨e, by omega⟩) = (argsOf m c).rw k e := fun k => by
    rw [ld_rw]
    exact rw_at m c t k e
  rw [pay5_at _ _ _ _ _ _ _ r _ (fun k => by rw [hc]; exact Args.hidden_real hA n k) (fun k => by rw [hr]; exact hA.rw k e)]
  simp only [hc, hr]
  rfl

/-- The mixed tokens. -/
theorem final0 : (dats m 0 c).arrAt 9 cfg0.N = (argsOf m c).out0 := by
  refine (dats m 0 c).arrAt_eq_of_covers 9 _ (by decide +kernel) fun t hf y => ?_
  blk_simp
  rw [after0_9]
  idx_vars y
  have hN : t.val < 65 := t.isLt
  have he : ((View.whole main_v3_0).slice (win0_9.rect t)).emb (ix2 y0 y1) = ix2 ⟨t.val * 256 + y0, by omega⟩ y1 := by
    blk_ext [idx t]
  rw [he]
  unfold out0_9
  rw [View.canon_cons_unit_lit (h := by intro a; fin_cases a <;> rfl)]
  exact rows_at m c t y0 y1 _ rfl

/-- Their normalised and modulated copies. -/
theorem final1 : (dats m 0 c).arrAt 10 cfg0.N = (argsOf m c).out1 := by
  refine (dats m 0 c).arrAt_eq_of_covers 10 _ (by decide +kernel) fun t hf y => ?_
  blk_simp
  rw [after0_10]
  idx_vars y
  have hN : t.val < 65 := t.isLt
  have he : ((View.whole main_v3_1).slice (win0_10.rect t)).emb (ix2 y0 y1) = ix2 ⟨t.val * 256 + y0, by omega⟩ y1 := by
    blk_ext [idx t]
  rw [he]
  unfold out0_10
  rw [View.canon_cons_unit_lit (h := by intro a; fin_cases a <;> rfl)]
  exact copy_at m c t y0 y1 _ rfl

/-- The router's affinities. -/
theorem final2 (hA : (argsOf m c).Real) : (dats m 0 c).arrAt 11 cfg0.N = (argsOf m c).out2 := by
  refine (dats m 0 c).arrAt_eq_of_covers 11 _ (by decide +kernel) fun t hf y => ?_
  blk_simp
  rw [after0_11]
  idx_vars y
  have hN : t.val < 65 := t.isLt
  have he : ((View.whole main_v3_2).slice (win0_11.rect t)).emb (ix2 y0 y1) = ix2 ⟨t.val * 256 + y0, by omega⟩ y1 := by
    blk_ext [idx t]
  rw [he]
  unfold out0_11
  rw [View.canon_cons_unit_lit (h := by intro a; fin_cases a <;> rfl)]
  have hs : ∀ e, _ := fun e => score_at m c hA t y0 e ⟨t.val * 256 + y0, by omega⟩ rfl
  refine (pay1_at _ y0 y1 fun j => ?_).trans ?_
  · exact (hs j).symm ▸ Args.score_real hA _ j
  · exact congrArg (lanes · y1) (funext hs)

end Cert.Kernel3Ideal.Out

end
-- ==== Proof.OutRef.lean ====
/- The output projection and router call's reference in stages, and each stage read entry by entry. -/
module

public import proofs.«01_k».proof.Proof.OutSpec
public import proofs.«01_k».proof.Proof.Gen.Reference3Ideal.Run

@[expose] public section

set_option maxRecDepth 16384

noncomputable section

namespace Cert.Reference3Ideal.Out

open Cert.Reference3Ideal Cert.Reference3Ideal.Gen Idealize.ShloMosaic Idealize.ShloMosaic.TcCoe Idealize.SL.Sem Cert.Mix

/-- The mixed latent tokens. -/
def mixL (t : FVec Ideal S16640x1024 .f32) (md : FVec Ideal S6x1024 .f32) (o : FVec Ideal S16640x512 .bf16) (s : FVec Ideal S16640x256 .bf16)
    (y : FVec Ideal S16384x256 .bf16) (w : FVec Ideal S4x1024x1024 .f32) : FVec Ideal S16384x1024 .f32 :=
  addf (extractStridedSlice S16384x1024 ![0, 0] t slices_S16640x1024_S16384x1024_0_0) (mulf (broadcastInDim S16384x1024 ![0, 1] bcast_S1x1024_S16384x1024_0_1
    (broadcastInDim S1x1024 ![1] bcast_S1024_S1x1024_1 (shapeCast _ (extractStridedSlice S1x1024 ![2, 0] md slices_S6x1024_S1x1024_2_0) shapeCasts_S1x1024_S1024)))
    (Host.dotGeneral dot_S16384x1024_S1024x1024_S16384x1024_1_0_0_1_n_n none (extf .f32 ((concatenate S16384x1024 1
      [⟨S16384x512, ((extractStridedSlice S16384x512 ![0, 0] o slices_S16640x512_S16384x512_0_0) : (⟨S16384x512, .bf16⟩ : BufTy).Contents (Elt Ideal))⟩,
       ⟨S16384x256, ((extractStridedSlice S16384x256 ![0, 0] s slices_S16640x256_S16384x256_0_0) : (⟨S16384x256, .bf16⟩ : BufTy).Contents (Elt Ideal))⟩,
       ⟨S16384x256, (y : (⟨S16384x256, .bf16⟩ : BufTy).Contents (Elt Ideal))⟩] concatenates_S16384x512_S16384x256_S16384x256_S16384x1024_d1
        : (⟨S16384x1024, .bf16⟩ : BufTy).Contents (Elt Ideal))) bitsLt_bf16_f32)
      (shapeCast _ (extractStridedSlice S1x1024x1024 ![0, 0, 0] w slices_S4x1024x1024_S1x1024x1024_0_0_0) shapeCasts_S1x1024x1024_S1024x1024)))

/-- Rows of latent tokens, normalised and modulated. -/
def copyL (x : FVec Ideal S16384x1024 .f32) (md : FVec Ideal S6x1024 .f32) (g : FVec Ideal S4x1024 .f32) : FVec Ideal S16384x1024 .f32 :=
  addf (mulf (mulf (mulf x (broadcastInDim S16384x1024 ![0, 1] bcast_S16384x1_S16384x1024_0_1 (Host.rsqrt (addf (Host.divf (broadcastInDim S16384x1 ![0] bcast_S16384_S16384x1_0
    (Host.reduceAdd (mulf x x) (constant S_ .f32 0x00000000#32) reducesTo_S16384x1024_S16384_d1 h_S_)) (broadcastInDim S16384x1 ![] bcast_S_S16384x1 (constant S_ .f32 0x44800000#32)))
    (broadcastInDim S16384x1 ![] bcast_S_S16384x1 (constant S_ .f32 0x358637BD#32)))))) (broadcastInDim S16384x1024 ![0, 1] bcast_S1x1024_S16384x1024_0_1
    (broadcastInDim S1x1024 ![1] bcast_S1024_S1x1024_1 (shapeCast _ (extractStridedSlice S1x1024 ![0, 0] g slices_S4x1024_S1x1024_0_0) shapeCasts_S1x1024_S1024))))
    (broadcastInDim S16384x1024 ![0, 1] bcast_S1x1024_S16384x1024_0_1 (broadcastInDim S1x1024 ![1] bcast_S1024_S1x1024_1 (addf (broadcastInDim S1024 ![] bcast_S_S1024
      (constant S_ .f32 0x3F800000#32)) (shapeCast _ (extractStridedSlice S1x1024 ![4, 0] md slices_S6x1024_S1x1024_4_0) shapeCasts_S1x1024_S1024)))))
    (broadcastInDim S16384x1024 ![0, 1] bcast_S1x1024_S16384x1024_0_1 (broadcastInDim S1x1024 ![1] bcast_S1024_S1x1024_1
      (shapeCast _ (extractStridedSlice S1x1024 ![3, 0] md slices_S6x1024_S1x1024_3_0) shapeCasts_S1x1024_S1024)))

/-- Their router scores. -/
def scoL (x : FVec Ideal S16384x1024 .f32) (rw : FVec Ideal S4x1024x16 .f32) : FVec Ideal S16384x16 .f32 :=
  Host.dotGeneral dot_S16384x1024_S1024x16_S16384x16_1_0_0_1_n_n none x
    (shapeCast _ (extractStridedSlice S1x1024x16 ![0, 0, 0] rw slices_S4x1024x16_S1x1024x16_0_0_0) shapeCasts_S1x1024x16_S1024x16)

/-- The exponentials of scores, less the largest. -/
def expL (l : FVec Ideal S16384x16 .f32) : FVec Ideal S16384x16 .f32 :=
  Host.exp (subf l (broadcastInDim S16384x16 ![0, 1] bcast_S16384x1_S16384x16_0_1 (broadcastInDim S16384x1 ![0] bcast_S16384_S16384x1_0 (maximumf
    (broadcastInDim S16384 ![] bcast_S_S16384 (constant S_ .f32 0xFF800000#32)) (Host.reduce FloatOps.maximumf l (constant S_ .f32 0xFF800000#32) reducesTo_S16384x16_S16384_d1 h_S_)))))

/-- Values over their sum, and zeros up to 128 lanes. -/
def quotL (p : FVec Ideal S16384x16 .f32) : FVec Ideal S16384x128 .f32 :=
  pad S16384x128 ![0, 0] ![0, 112] ![0, 0] (Host.divf p (broadcastInDim S16384x16 ![0, 1] bcast_S16384x1_S16384x16_0_1 (broadcastInDim S16384x1 ![0] bcast_S16384_S16384x1_0
    (Host.reduceAdd p (constant S_ .f32 0x00000000#32) reducesTo_S16384x16_S16384_d1 h_S_)))) (sitofp .f32 (constantI S_ 32 0#32)) pads_S16384x16_S16384x128_000_01120 h_S_

/-- The half's modulation rows. -/
def mdL (md : FVec Ideal S4x2x6x1024 .f32) : FVec Ideal S6x1024 .f32 :=
  shapeCast _ (extractStridedSlice S1x1x6x1024 ![0, 0, 0, 0] md slices_S4x2x6x1024_S1x1x6x1024_0_0_0_0) shapeCasts_S1x1x6x1024_S6x1024

/-- The mixed context tokens. -/
def mixC (t : FVec Ideal S16640x1024 .f32) (md : FVec Ideal S6x1024 .f32) (o : FVec Ideal S16640x512 .bf16) (s : FVec Ideal S16640x256 .bf16)
    (y : FVec Ideal S256x256 .bf16) (w : FVec Ideal S4x1024x1024 .f32) : FVec Ideal S256x1024 .f32 :=
  addf (extractStridedSlice S256x1024 ![16384, 0] t slices_S16640x1024_S256x1024_16384_0) (mulf (broadcastInDim S256x1024 ![0, 1] bcast_S1x1024_S256x1024_0_1
    (broadcastInDim S1x1024 ![1] bcast_S1024_S1x1024_1 (shapeCast _ (extractStridedSlice S1x1024 ![2, 0] md slices_S6x1024_S1x1024_2_0) shapeCasts_S1x1024_S1024)))
    (Host.dotGeneral dot_S256x1024_S1024x1024_S256x1024_1_0_0_1_n_n none (extf .f32 ((concatenate S256x1024 1
      [⟨S256x512, ((extractStridedSlice S256x512 ![16384, 0] o slices_S16640x512_S256x512_16384_0) : (⟨S256x512, .bf16⟩ : BufTy).Contents (Elt Ideal))⟩,
       ⟨S256x256, ((extractStridedSlice S256x256 ![16384, 0] s slices_S16640x256_S256x256_16384_0) : (⟨S256x256, .bf16⟩ : BufTy).Contents (Elt Ideal))⟩,
       ⟨S256x256, (y : (⟨S256x256, .bf16⟩ : BufTy).Contents (Elt Ideal))⟩] concatenates_S256x512_S256x256_S256x256_S256x1024_d1
        : (⟨S256x1024, .bf16⟩ : BufTy).Contents (Elt Ideal))) bitsLt_bf16_f32)
      (shapeCast _ (extractStridedSlice S1x1024x1024 ![0, 0, 0] w slices_S4x1024x1024_S1x1024x1024_0_0_0) shapeCasts_S1x1024x1024_S1024x1024)))

/-- Rows of context tokens, normalised and modulated. -/
def copyC (x : FVec Ideal S256x1024 .f32) (md : FVec Ideal S6x1024 .f32) (g : FVec Ideal S4x1024 .f32) : FVec Ideal S256x1024 .f32 :=
  addf (mulf (mulf (mulf x (broadcastInDim S256x1024 ![0, 1] bcast_S256x1_S256x1024_0_1 (Host.rsqrt (addf (Host.divf (broadcastInDim S256x1 ![0] bcast_S256_S256x1_0
    (Host.reduceAdd (mulf x x) (constant S_ .f32 0x00000000#32) reducesTo_S256x1024_S256_d1 h_S_)) (broadcastInDim S256x1 ![] bcast_S_S256x1 (constant S_ .f32 0x44800000#32)))
    (broadcastInDim S256x1 ![] bcast_S_S256x1 (constant S_ .f32 0x358637BD#32)))))) (broadcastInDim S256x1024 ![0, 1] bcast_S1x1024_S256x1024_0_1
    (broadcastInDim S1x1024 ![1] bcast_S1024_S1x1024_1 (shapeCast _ (extractStridedSlice S1x1024 ![0, 0] g slices_S4x1024_S1x1024_0_0) shapeCasts_S1x1024_S1024))))
    (broadcastInDim S256x1024 ![0, 1] bcast_S1x1024_S256x1024_0_1 (broadcastInDim S1x1024 ![1] bcast_S1024_S1x1024_1 (addf (broadcastInDim S1024 ![] bcast_S_S1024
      (constant S_ .f32 0x3F800000#32)) (shapeCast _ (extractStridedSlice S1x1024 ![4, 0] md slices_S6x1024_S1x1024_4_0) shapeCasts_S1x1024_S1024)))))
    (broadcastInDim S256x1024 ![0, 1] bcast_S1x1024_S256x1024_0_1 (broadcastInDim S1x1024 ![1] bcast_S1024_S1x1024_1
      (shapeCast _ (extractStridedSlice S1x1024 ![3, 0] md slices_S6x1024_S1x1024_3_0) shapeCasts_S1x1024_S1024)))

/-- Their router scores. -/
def scoC (x : FVec Ideal S256x1024 .f32) (rw : FVec Ideal S4x1024x16 .f32) : FVec Ideal S256x16 .f32 :=
  Host.dotGeneral dot_S256x1024_S1024x16_S256x16_1_0_0_1_n_n none x
    (shapeCast _ (extractStridedSlice S1x1024x16 ![0, 0, 0] rw slices_S4x1024x16_S1x1024x16_0_0_0) shapeCasts_S1x1024x16_S1024x16)

/-- The exponentials of scores, less the largest. -/
def expC (l : FVec Ideal S256x16 .f32) : FVec Ideal S256x16 .f32 :=
  Host.exp (subf l (broadcastInDim S256x16 ![0, 1] bcast_S256x1_S256x16_0_1 (broadcastInDim S256x1 ![0] bcast_S256_S256x1_0 (maximumf
    (broadcastInDim S256 ![] bcast_S_S256 (constant S_ .f32 0xFF800000#32)) (Host.reduce FloatOps.maximumf l (constant S_ .f32 0xFF800000#32) reducesTo_S256x16_S256_d1 h_S_)))))

/-- Values over their sum, and zeros up to 128 lanes. -/
def quotC (p : FVec Ideal S256x16 .f32) : FVec Ideal S256x128 .f32 :=
  pad S256x128 ![0, 0] ![0, 112] ![0, 0] (Host.divf p (broadcastInDim S256x16 ![0, 1] bcast_S256x1_S256x16_0_1 (broadcastInDim S256x1 ![0] bcast_S256_S256x1_0
    (Host.reduceAdd p (constant S_ .f32 0x00000000#32) reducesTo_S256x16_S256_d1 h_S_)))) (sitofp .f32 (constantI S_ 32 0#32)) pads_S256x16_S256x128_000_01120 h_S_

/-- The half's modulation rows. -/
def mdC (md : FVec Ideal S4x2x6x1024 .f32) : FVec Ideal S6x1024 .f32 :=
  shapeCast _ (extractStridedSlice S1x1x6x1024 ![0, 1, 0, 0] md slices_S4x2x6x1024_S1x1x6x1024_0_1_0_0) shapeCasts_S1x1x6x1024_S6x1024

/-- A sum over a row, part by part. -/
theorem sum_parts (f : Fin 1024 → EReal) : ∑ k, f k = (∑ k : Fin 512, f ⟨k, by omega⟩) + (∑ k : Fin 256, f ⟨512 + k, by omega⟩)
    + ∑ k : Fin 256, f ⟨768 + k, by omega⟩ := by
  refine (Fin.sum_univ_add (a := 512) (b := 512) f).trans ?_
  rw [add_assoc]
  congr 1
  refine (Fin.sum_univ_add (a := 256) (b := 256) fun k : Fin 512 => f (Fin.natAdd 512 k)).trans ?_
  congr 1

/-- The three parts of a row side by side, through the projection at once. -/
theorem mix_cat (o : Fin 512 → EReal) (s y : Fin 256 → EReal) (w : Fin 1024 → EReal) :
    (∑ k : Fin 1024, (if h : k.val < 512 then o ⟨k, h⟩ else if h' : k.val - 512 < 256 then s ⟨k - 512, h'⟩ else y ⟨k - 512 - 256, by omega⟩) * w k)
      = mix o s y w := by
  rw [sum_parts]
  unfold mix
  congr 1

theorem mixL_at (t : FVec Ideal S16640x1024 .f32) (md : FVec Ideal S6x1024 .f32) (o : FVec Ideal S16640x512 .bf16) (s : FVec Ideal S16640x256 .bf16)
    (y : FVec Ideal S16384x256 .bf16) (w : FVec Ideal S4x1024x1024 .f32) (n : Fin 16384) (d : Fin 1024) : mixL t md o s y w (ix2 n d)
      = (show EReal from t (ix2 ⟨n, by omega⟩ d)) + (show EReal from md (ix2 2 d)) * mix (fun k => o (ix2 ⟨n, by omega⟩ k)) (fun k => s (ix2 ⟨n, by omega⟩ k))
        (fun k => y (ix2 n k)) (fun k => w (ix3 0 k d)) := by
  pointwise [mixL]
  rw [← mix_cat]

theorem copyL_at (x : FVec Ideal S16384x1024 .f32) (md : FVec Ideal S6x1024 .f32) (g : FVec Ideal S4x1024 .f32) (n : Fin 16384) (d : Fin 1024) :
    copyL x md g (ix2 n d) = normed (fun k => x (ix2 n k)) (fun k => g (ix2 0 k)) (fun k => md (ix2 4 k)) (fun k => md (ix2 3 k)) d := by
  pointwise [copyL, normed]

theorem scoL_at (x : FVec Ideal S16384x1024 .f32) (rw : FVec Ideal S4x1024x16 .f32) (n : Fin 16384) (e : Fin 16) :
    scoL x rw (ix2 n e) = ∑ k : Fin 1024, (show EReal from x (ix2 n k)) * (show EReal from rw (ix3 0 k e)) := by
  pointwise [scoL]

theorem expL_at (l : FVec Ideal S16384x16 .f32) (n : Fin 16384) (e : Fin 16) :
    expL l (ix2 n e) = Ideal.exp (l (ix2 n e) - Finset.univ.fold max ⊥ fun j : Fin 16 => l (ix2 n j)) := by
  have hm : Host.reduce FloatOps.maximumf l (constant S_ .f32 0xFF800000#32) reducesTo_S16384x16_S16384_d1 h_S_ (ix1 n)
      = Finset.univ.fold max ⊥ fun j : Fin 16 => l (ix2 n j) := by
    pointwise
    rw [ofBits_neg_inf]
  rw [← hm]
  unfold expL
  generalize Host.reduce FloatOps.maximumf l _ _ _ = z
  pointwise
  rw [ofBits_neg_inf, max_eq_right bot_le]

theorem quotL_at (p : FVec Ideal S16384x16 .f32) (n : Fin 16384) (e : Fin 128) :
    quotL p (ix2 n e) = if h : e.val < 16 then Ideal.div (p (ix2 n ⟨e, h⟩)) (∑ j : Fin 16, p (ix2 n j)) else (0 : EReal) := by
  have hz : (FloatOps.sitofp (F := Ideal) FTy.f32 0#32 : EReal) = 0 := by
    show (((0#32 : BitVec 32).toInt : ℝ) : EReal) = 0
    simp
  pointwise [quotL]
  rw [hz]

theorem mdL_at (md : FVec Ideal S4x2x6x1024 .f32) (j : Fin 6) (d : Fin 1024) : mdL md (ix2 j d) = md (ix4 0 0 j d) := by
  pointwise [mdL]

theorem mixC_at (t : FVec Ideal S16640x1024 .f32) (md : FVec Ideal S6x1024 .f32) (o : FVec Ideal S16640x512 .bf16) (s : FVec Ideal S16640x256 .bf16)
    (y : FVec Ideal S256x256 .bf16) (w : FVec Ideal S4x1024x1024 .f32) (n : Fin 256) (d : Fin 1024) : mixC t md o s y w (ix2 n d)
      = (show EReal from t (ix2 ⟨16384 + n, by omega⟩ d)) + (show EReal from md (ix2 2 d)) * mix (fun k => o (ix2 ⟨16384 + n, by omega⟩ k)) (fun k => s (ix2 ⟨16384 + n, by omega⟩ k))
        (fun k => y (ix2 n k)) (fun k => w (ix3 0 k d)) := by
  pointwise [mixC]
  rw [← mix_cat]

theorem copyC_at (x : FVec Ideal S256x1024 .f32) (md : FVec Ideal S6x1024 .f32) (g : FVec Ideal S4x1024 .f32) (n : Fin 256) (d : Fin 1024) :
    copyC x md g (ix2 n d) = normed (fun k => x (ix2 n k)) (fun k => g (ix2 0 k)) (fun k => md (ix2 4 k)) (fun k => md (ix2 3 k)) d := by
  pointwise [copyC, normed]

theorem scoC_at (x : FVec Ideal S256x1024 .f32) (rw : FVec Ideal S4x1024x16 .f32) (n : Fin 256) (e : Fin 16) :
    scoC x rw (ix2 n e) = ∑ k : Fin 1024, (show EReal from x (ix2 n k)) * (show EReal from rw (ix3 0 k e)) := by
  pointwise [scoC]

theorem expC_at (l : FVec Ideal S256x16 .f32) (n : Fin 256) (e : Fin 16) :
    expC l (ix2 n e) = Ideal.exp (l (ix2 n e) - Finset.univ.fold max ⊥ fun j : Fin 16 => l (ix2 n j)) := by
  have hm : Host.reduce FloatOps.maximumf l (constant S_ .f32 0xFF800000#32) reducesTo_S256x16_S256_d1 h_S_ (ix1 n)
      = Finset.univ.fold max ⊥ fun j : Fin 16 => l (ix2 n j) := by
    pointwise
    rw [ofBits_neg_inf]
  rw [← hm]
  unfold expC
  generalize Host.reduce FloatOps.maximumf l _ _ _ = z
  pointwise
  rw [ofBits_neg_inf, max_eq_right bot_le]

theorem quotC_at (p : FVec Ideal S256x16 .f32) (n : Fin 256) (e : Fin 128) :
    quotC p (ix2 n e) = if h : e.val < 16 then Ideal.div (p (ix2 n ⟨e, h⟩)) (∑ j : Fin 16, p (ix2 n j)) else (0 : EReal) := by
  have hz : (FloatOps.sitofp (F := Ideal) FTy.f32 0#32 : EReal) = 0 := by
    show (((0#32 : BitVec 32).toInt : ℝ) : EReal) = 0
    simp
  pointwise [quotC]
  rw [hz]

theorem mdC_at (md : FVec Ideal S4x2x6x1024 .f32) (j : Fin 6) (d : Fin 1024) : mdC md (ix2 j d) = md (ix4 0 1 j d) := by
  pointwise [mdC]

/-- Two halves' rows, the latent tokens' first. -/
theorem rows_cat (a : FVec Ideal S16384x1024 .f32) (b : FVec Ideal S256x1024 .f32) (n : Fin 16640) (d : Fin 1024) :
    concatenate S16640x1024 0 [⟨S16384x1024, a⟩, ⟨S256x1024, b⟩] concatenates_S16384x1024_S256x1024_S16640x1024_d0 (ix2 n d)
      = if h : n.val < 16384 then a (ix2 ⟨n, h⟩ d) else b (ix2 ⟨n - 16384, by omega⟩ d) := by
  pointwise

/-- Two halves' rows, the latent tokens' first. -/
theorem lanes_cat (a : FVec Ideal S16384x128 .f32) (b : FVec Ideal S256x128 .f32) (n : Fin 16640) (d : Fin 128) :
    concatenate S16640x128 0 [⟨S16384x128, a⟩, ⟨S256x128, b⟩] concatenates_S16384x128_S256x128_S16640x128_d0 (ix2 n d)
      = if h : n.val < 16384 then a (ix2 ⟨n, h⟩ d) else b (ix2 ⟨n - 16384, by omega⟩ d) := by
  pointwise

variable (m : (ℓ : Loc nD τ sig) → Buf (Elt Ideal) ℓ) (c : Dev nD)

/-- The arguments. -/
def argsOf : Args := args (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))

/-- The halves' mixed rows. -/
def ml : FVec Ideal S16384x1024 .f32 := mixL (m ((c : Thread nD τ).loc main_arg0)) (mdL (m ((c : Thread nD τ).loc main_arg1))) (m ((c : Thread nD τ).loc main_arg2)) (m ((c : Thread nD τ).loc main_arg3)) (m ((c : Thread nD τ).loc main_arg4)) (m ((c : Thread nD τ).loc main_arg6))
def mc : FVec Ideal S256x1024 .f32 := mixC (m ((c : Thread nD τ).loc main_arg0)) (mdC (m ((c : Thread nD τ).loc main_arg1))) (m ((c : Thread nD τ).loc main_arg2)) (m ((c : Thread nD τ).loc main_arg3)) (m ((c : Thread nD τ).loc main_arg5)) (m ((c : Thread nD τ).loc main_arg6))
/-- Their normalised and modulated copies. -/
def cl : FVec Ideal S16384x1024 .f32 := copyL (ml m c) (mdL (m ((c : Thread nD τ).loc main_arg1))) (m ((c : Thread nD τ).loc main_arg7))
def cc : FVec Ideal S256x1024 .f32 := copyC (mc m c) (mdC (m ((c : Thread nD τ).loc main_arg1))) (m ((c : Thread nD τ).loc main_arg7))
/-- Their affinities. -/
def al : FVec Ideal S16384x128 .f32 := quotL (expL (scoL (cl m c) (m ((c : Thread nD τ).loc main_arg8))))
def ac : FVec Ideal S256x128 .f32 := quotC (expC (scoC (cc m c) (m ((c : Thread nD τ).loc main_arg8))))

theorem res1_eq : Value.res_out1 m c = concatenate S16640x1024 0 [⟨S16384x1024, cl m c⟩, ⟨S256x1024, cc m c⟩] concatenates_S16384x1024_S256x1024_S16640x1024_d0 := rfl

theorem res2_eq : Value.res_out2 m c = concatenate S16640x128 0 [⟨S16384x128, al m c⟩, ⟨S256x128, ac m c⟩] concatenates_S16384x128_S256x128_S16640x128_d0 := rfl

theorem ml_at (n : Fin 16640) (h : n.val < 16384) (d : Fin 1024) : ml m c (ix2 ⟨n, h⟩ d) = (argsOf m c).mixed n d := by
  have hh : half n = 0 := if_pos h
  have hy : (argsOf m c).y n = (argsOf m c).yl ⟨n, h⟩ := funext fun k => dif_pos h
  unfold ml Args.mixed
  rw [mixL_at, mdL_at, hh, hy]
  rfl

theorem mc_at (n : Fin 16640) (h : ¬ n.val < 16384) (d : Fin 1024) : mc m c (ix2 ⟨n - 16384, by omega⟩ d) = (argsOf m c).mixed n d := by
  have hh : half n = 1 := if_neg h
  have hy : (argsOf m c).y n = (argsOf m c).yc ⟨n - 16384, by omega⟩ := funext fun k => dif_neg h
  have hn : (⟨16384 + (n.val - 16384), by omega⟩ : Fin 16640) = n := by
    ext1
    show 16384 + (n.val - 16384) = n.val
    omega
  unfold mc Args.mixed
  rw [mixC_at, mdC_at, hh, hy]
  simp only [hn]
  rfl

theorem cl_at (n : Fin 16640) (h : n.val < 16384) (d : Fin 1024) : cl m c (ix2 ⟨n, h⟩ d) = (argsOf m c).hidden n d := by
  have hh : half n = 0 := if_pos h
  unfold cl Args.hidden
  rw [copyL_at, hh]
  simp only [ml_at m c n h, mdL_at]
  rfl

theorem cc_at (n : Fin 16640) (h : ¬ n.val < 16384) (d : Fin 1024) : cc m c (ix2 ⟨n - 16384, by omega⟩ d) = (argsOf m c).hidden n d := by
  have hh : half n = 1 := if_neg h
  unfold cc Args.hidden
  rw [copyC_at, hh]
  simp only [mc_at m c n h, mdC_at]
  rfl

theorem al_at (n : Fin 16640) (h : n.val < 16384) (e : Fin 128) : al m c (ix2 ⟨n, h⟩ e) = lanes ((argsOf m c).score n) e := by
  have hs : ∀ j : Fin 16, scoL (cl m c) (m ((c : Thread nD τ).loc main_arg8)) (ix2 ⟨n, h⟩ j) = (argsOf m c).score n j := fun j => by
    rw [scoL_at]
    simp only [cl_at m c n h]
    rfl
  unfold al lanes
  rw [quotL_at]
  simp only [expL_at, hs]

theorem ac_at (n : Fin 16640) (h : ¬ n.val < 16384) (e : Fin 128) : ac m c (ix2 ⟨n - 16384, by omega⟩ e) = lanes ((argsOf m c).score n) e := by
  have hs : ∀ j : Fin 16, scoC (cc m c) (m ((c : Thread nD τ).loc main_arg8)) (ix2 ⟨n - 16384, by omega⟩ j) = (argsOf m c).score n j := fun j => by
    rw [scoC_at]
    simp only [cc_at m c n h]
    rfl
  unfold ac lanes
  rw [quotC_at]
  simp only [expC_at, hs]

/-- The first result. -/
theorem ref0 : concatenate S16640x1024 0 [⟨S16384x1024, ml m c⟩, ⟨S256x1024, mc m c⟩] concatenates_S16384x1024_S256x1024_S16640x1024_d0
    = (argsOf m c).out0 := by
  funext i
  idx_vars i
  rw [rows_cat]
  show _ = (argsOf m c).mixed i0 i1
  split
  exacts [ml_at m c i0 _ i1, mc_at m c i0 ‹_› i1]

/-- The second. -/
theorem ref1 : Value.res_out1 m c = (argsOf m c).out1 := by
  rw [res1_eq]
  funext i
  idx_vars i
  rw [rows_cat]
  show _ = (argsOf m c).hidden i0 i1
  split
  exacts [cl_at m c i0 _ i1, cc_at m c i0 ‹_› i1]

/-- The third. -/
theorem ref2 : Value.res_out2 m c = (argsOf m c).out2 := by
  rw [res2_eq]
  funext i
  idx_vars i
  rw [lanes_cat]
  show _ = lanes ((argsOf m c).score i0) i1
  split
  exacts [al_at m c i0 _ i1, ac_at m c i0 ‹_› i1]

end Cert.Reference3Ideal.Out

end
-- ==== Proof.OutFinite.lean ====
/- The precondition of the output projection and router call, entry by entry: where `finite_router` holds, the first layer's shift
   and scale rows, gain and router weights are real numbers. -/
module

public import proofs.«01_k».proof.Proof.Gen.Pre_finite_router
public import proofs.«01_k».proof.Proof.Finite
public import proofs.«01_k».proof.Proof.OutSpec
public import Idealize.ShloMosaic.Lib.ReduceAll

@[expose] public section

set_option maxRecDepth 16384

noncomputable section

namespace Cert.Pre_finite_router.Entry

open Cert.Pre_finite_router Cert.Pre_finite_router.Gen Idealize.ShloMosaic Cert.Mix

theorem args_real (t : FVec Ideal S16640x1024 .f32) (md : FVec Ideal S4x2x6x1024 .f32) (o : FVec Ideal S16640x512 .bf16)
    (s : FVec Ideal S16640x256 .bf16) (yl : FVec Ideal S16384x256 .bf16) (yc : FVec Ideal S256x256 .bf16)
    (w : FVec Ideal S4x1024x1024 .f32) (g : FVec Ideal S4x1024 .f32) (rw : FVec Ideal S4x1024x16 .f32)
    (h : fn (F := Ideal) t md o s yl yc w g rw = fun _ => 1#1) : (args t md o s yl yc w g rw).Real := by
  have h0 := congrFun h ix0
  dsimp only [fn] at h0
  obtain ⟨h0, h2⟩ := IntOp.andi_eq_one.1 h0
  obtain ⟨h0, h1⟩ := IntOp.andi_eq_one.1 h0
  have e0 := Host.reduce_andi_all _ _ _ _ _ h0
  have e1 := Host.reduce_andi_all _ _ _ _ _ h1
  have e2 := Host.reduce_andi_all _ _ _ _ _ h2
  have hm : ∀ (a : Fin 2) (j : Fin 2) (d : Fin 1024), IsReal (md (ix4 0 a ⟨3 + j, by omega⟩ d)) := fun a j d => by
    have he : shapeCast S2x2x1024 (extractStridedSlice S1x2x2x1024 ![0, 0, 3, 0] md slices_S4x2x6x1024_S1x2x2x1024_0_0_3_0)
        shapeCasts_S1x2x2x1024_S2x2x1024 (ix3 a j d) = md (ix4 0 a ⟨3 + j, by omega⟩ d) := by
      pointwise
    rw [← he]
    exact Pre_finite_qk.Entry.real_of_cmp _ (e0 (ix3 a j d))
  exact {
    sh := fun a d => hm a 0 d
    sc := fun a d => hm a 1 d
    g := fun d => by
      have he : shapeCast S1024 (extractStridedSlice S1x1024 ![0, 0] g slices_S4x1024_S1x1024_0_0) shapeCasts_S1x1024_S1024 (ix1 d) = g (ix2 0 d) := by
        pointwise
      show IsReal (g (ix2 0 d))
      rw [← he]
      exact Pre_finite_qk.Entry.real_of_cmp _ (e1 (ix1 d))
    rw := fun k e => by
      have he : shapeCast S1024x16 (extractStridedSlice S1x1024x16 ![0, 0, 0] rw slices_S4x1024x16_S1x1024x16_0_0_0) shapeCasts_S1x1024x16_S1024x16
          (ix2 k e) = rw (ix3 0 k e) := by
        pointwise
      show IsReal (rw (ix3 0 k e))
      rw [← he]
      exact Pre_finite_qk.Entry.real_of_cmp _ (e2 (ix2 k e)) }

end Cert.Pre_finite_router.Entry

end
-- ==== Proof.OutClaim.lean ====
/- The output projection and router call and its reference: the same mixed rows, copies and affinities, where the shift and scale
   rows, the gain and the router's weights are numbers. -/
module

public import proofs.«01_k».proof.Defs
public import proofs.«01_k».proof.Proof.OutArray
public import proofs.«01_k».proof.Proof.OutRef
public import proofs.«01_k».proof.Proof.OutFinite
public import proofs.«01_k».proof.Proof.Gen.Kernel3Ideal.Value
public import Idealize.ShloMosaic.Adequacy
public import Idealize.ShloMosaic.Init

@[expose] public section

set_option maxRecDepth 16384

noncomputable section

namespace Cert.Out

open Idealize.ShloMosaic Idealize.ShloMosaic.TcCoe Idealize.SL.Sem Cert.Mix

/-- From memories that agree on the arguments the two programs' arguments are the same. -/
theorem args_eq (m : (ℓ : Loc Kernel3Ideal.nD Kernel3Ideal.τ Kernel3Ideal.sig) → Buf (Elt Ideal) ℓ)
    (m' : (ℓ : Loc Reference3Ideal.nD Reference3Ideal.τ Reference3Ideal.sig) → Buf (Elt Ideal) ℓ) (c : Dev Kernel3Ideal.nD)
    (h : m' ((c : Thread Reference3Ideal.nD Reference3Ideal.τ).loc Reference3Ideal.main_arg0) = m ((c : Thread Kernel3Ideal.nD Kernel3Ideal.τ).loc Kernel3Ideal.main_arg0)
      ∧ m' ((c : Thread Reference3Ideal.nD Reference3Ideal.τ).loc Reference3Ideal.main_arg1) = m ((c : Thread Kernel3Ideal.nD Kernel3Ideal.τ).loc Kernel3Ideal.main_arg1)
      ∧ m' ((c : Thread Reference3Ideal.nD Reference3Ideal.τ).loc Reference3Ideal.main_arg2) = m ((c : Thread Kernel3Ideal.nD Kernel3Ideal.τ).loc Kernel3Ideal.main_arg2)
      ∧ m' ((c : Thread Reference3Ideal.nD Reference3Ideal.τ).loc Reference3Ideal.main_arg3) = m ((c : Thread Kernel3Ideal.nD Kernel3Ideal.τ).loc Kernel3Ideal.main_arg3)
      ∧ m' ((c : Thread Reference3Ideal.nD Reference3Ideal.τ).loc Reference3Ideal.main_arg4) = m ((c : Thread Kernel3Ideal.nD Kernel3Ideal.τ).loc Kernel3Ideal.main_arg4)
      ∧ m' ((c : Thread Reference3Ideal.nD Reference3Ideal.τ).loc Reference3Ideal.main_arg5) = m ((c : Thread Kernel3Ideal.nD Kernel3Ideal.τ).loc Kernel3Ideal.main_arg5)
      ∧ m' ((c : Thread Reference3Ideal.nD Reference3Ideal.τ).loc Reference3Ideal.main_arg6) = m ((c : Thread Kernel3Ideal.nD Kernel3Ideal.τ).loc Kernel3Ideal.main_arg6)
      ∧ m' ((c : Thread Reference3Ideal.nD Reference3Ideal.τ).loc Reference3Ideal.main_arg7) = m ((c : Thread Kernel3Ideal.nD Kernel3Ideal.τ).loc Kernel3Ideal.main_arg7)
      ∧ m' ((c : Thread Reference3Ideal.nD Reference3Ideal.τ).loc Reference3Ideal.main_arg8) = m ((c : Thread Kernel3Ideal.nD Kernel3Ideal.τ).loc Kernel3Ideal.main_arg8)) :
    Reference3Ideal.Out.argsOf m' c = Kernel3Ideal.Out.argsOf m c := by
  obtain ⟨h0, h1, h2, h3, h4, h5, h6, h7, h8⟩ := h
  unfold Reference3Ideal.Out.argsOf
  rw [h0, h1, h2, h3, h4, h5, h6, h7, h8]
  rfl

theorem algebraic : Cert.algebraic_Kernel3Ideal_Reference3Ideal_pre_finite_router := by
  pair_intro
  · run_from Cert.Kernel3Ideal.Value.run_blocks m g
  · run_from Cert.Reference3Ideal.Value.run m' g'
    all_goals
      have hr := Pre_finite_router.Entry.args_real _ _ _ _ _ _ _ _ _ (hpre c)
      have ha := args_eq m m' c (hagree c)
    · obtain ⟨h0, h1, h2, h3, -⟩ := hagree c
      rw [← h0, ← h1, ← h2, ← h3]
      exact (Reference3Ideal.Out.ref0 m' c).trans ((congrArg Args.out0 ha).trans (Kernel3Ideal.Out.final0 m c).symm)
    · exact (Reference3Ideal.Out.ref1 m' c).trans ((congrArg Args.out1 ha).trans (Kernel3Ideal.Out.final1 m c).symm)
    · exact (Reference3Ideal.Out.ref2 m' c).trans ((congrArg Args.out2 ha).trans (Kernel3Ideal.Out.final2 m c hr).symm)

end Cert.Out

end
-- ==== Proof.ProjSpec.lean ====
/- What the projection call computes of one token: its projected row, and of it the attention's values and the Fourier
   features. -/
module

public import proofs.«01_k».proof.Proof.OutSpec

@[expose] public section

set_option maxRecDepth 16384

noncomputable section

namespace Cert.Proj

open Idealize.ShloMosaic Cert.Mix

/-- The arguments that the values and the Fourier features depend on. -/
structure Args where
  /-- the tokens -/
  t : Fin 16640 → Fin 1024 → EReal
  /-- the first layer's modulation rows, of the latent and of the context half -/
  md : Fin 2 → Fin 6 → Fin 1024 → EReal
  /-- the first layer's first norm's gain -/
  g : Fin 1024 → EReal
  /-- the first layer's projection -/
  w : Fin 1024 → Fin 1536 → EReal
  /-- the table of the transform along the channels -/
  f : Fin 256 → Fin 512 → EReal

/-- The arguments, of the arrays that hold them. -/
def args (t : FVec Ideal ⟨2, ![16640, 1024]⟩ .f32) (md : FVec Ideal ⟨4, ![4, 2, 6, 1024]⟩ .f32) (g : FVec Ideal ⟨2, ![4, 1024]⟩ .f32)
    (w : FVec Ideal ⟨3, ![4, 1024, 1536]⟩ .f32) (f : FVec Ideal ⟨2, ![256, 512]⟩ .bf16) : Args where
  t n d := t (ix2 n d)
  md h j d := md (ix4 0 h j d)
  g d := g (ix2 0 d)
  w k e := w (ix3 0 k e)
  f k e := f (ix2 k e)

/-- A row normalised, modulated and projected on a column. -/
def project (x g sc sh w : Fin 1024 → EReal) : EReal := ∑ k : Fin 1024, normed x g sc sh k * w k

/-- The values of 128 tokens, and under them a row of ones and rows of zeros. -/
def padded (v : Fin 64 → EReal) (j : Fin 80) : EReal :=
  if h : j.val < 64 then v ⟨j, h⟩ else if j.val = 64 then 1 else 0

namespace Args

variable (A : Args)

/-- A token's projected row. -/
def p (n : Fin 16640) (e : Fin 1536) : EReal :=
  project (A.t n) A.g (A.md (half n) 1) (A.md (half n) 0) (fun k => A.w k e)

/-- The values' array. -/
def val (h : Fin 2) (b : Fin 130) (j : Fin 80) (l : Fin 128) : EReal :=
  padded (fun d => A.p ⟨b * 128 + l, by omega⟩ ⟨640 + (h * 64 + d), by omega⟩) j

/-- The Fourier features. -/
def four (n : Fin 16640) (e : Fin 512) : EReal := ∑ k : Fin 256, A.p n ⟨1280 + k, by omega⟩ * A.f k e

/-- The first result. -/
def out0 : FVec Ideal ⟨4, ![2, 130, 80, 128]⟩ .bf16 := fun i => A.val (i 0) (i 1) (i 2) (i 3)
/-- The second result. -/
def out1 : FVec Ideal ⟨2, ![16640, 512]⟩ .bf16 := fun i => A.four (i 0) (i 1)

end Args

end Cert.Proj

end
-- ==== Proof.ProjOps.lean ====
/- The projection call's arithmetic at an entry: the projected row, and what it stores of the values and of the Fourier
   features. -/
module

public import proofs.«01_k».proof.Proof.Gen.Kernel4Ideal.Skeleton
public import proofs.«01_k».proof.Proof.ProjSpec
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Kernel4Ideal.Proj

open Cert.Kernel4Ideal Cert.Kernel4Ideal.Gen Idealize.ShloMosaic Idealize.ShloMosaic.TcCoe Idealize.SL.Sem Cert.Proj
open Cert.Mix hiding Args args

/-- The projected row. -/
theorem pay3_at (v0 : Vec Ideal S256x1024 .f32) (v1 v3 : Vec Ideal S1x1x1x1024 .f32) (v15 : Vec Ideal S1x1x1024 .f32)
    (v26 : Vec Ideal S1x1024x1536 .bf16) (r : Fin 256) (e : Fin 1536) : k0_pay3 v0 v1 v3 v15 v26 (ix2 r e)
      = project (fun k => v0 (ix2 r k)) (fun k => v15 (ix3 0 0 k)) (fun k => v3 (ix4 0 0 0 k)) (fun k => v1 (ix4 0 0 0 k))
        (fun k => v26 (ix3 0 k e)) := by
  pointwise [k0_pay3, project, normed]

/-- The Fourier features. -/
theorem pay2_at (p : FVec Ideal S256x1536 .f32) (f : Vec Ideal S256x512 .bf16) (r : Fin 256) (e : Fin 512) : k0_pay2 p f (ix2 r e)
      = ∑ k : Fin 256, (show EReal from p (ix2 r ⟨1280 + k, by omega⟩)) * (show EReal from f (ix2 k e)) := by
  pointwise [k0_pay2]

/-- The values of each head and chunk. -/
theorem pay22_at (p : FVec Ideal S256x1536 .f32) (d : Fin 64) (l : Fin 128) :
    k0_pay22 p (ix4 0 0 d l) = p (ix2 ⟨l, by omega⟩ ⟨640 + d, by omega⟩) := by
  pointwise [k0_pay22, k0_pay19]

theorem pay24_at (p : FVec Ideal S256x1536 .f32) (d : Fin 64) (l : Fin 128) :
    k0_pay24 (k0_pay19 p) (ix4 0 0 d l) = p (ix2 ⟨128 + l, by omega⟩ ⟨640 + d, by omega⟩) := by
  pointwise [k0_pay24, k0_pay19]

theorem pay27_at (p : FVec Ideal S256x1536 .f32) (d : Fin 64) (l : Fin 128) :
    k0_pay27 (k0_pay19 p) (ix4 0 0 d l) = p (ix2 ⟨l, by omega⟩ ⟨640 + (64 + d), by omega⟩) := by
  pointwise [k0_pay27, k0_pay19]

theorem pay30_at (p : FVec Ideal S256x1536 .f32) (d : Fin 64) (l : Fin 128) :
    k0_pay30 (k0_pay29 (k0_pay19 p)) (ix4 0 0 d l) = p (ix2 ⟨128 + l, by omega⟩ ⟨640 + (64 + d), by omega⟩) := by
  pointwise [k0_pay30, k0_pay29, k0_pay19]

/-- The row of ones and the rows of zeros. -/
theorem pay20_at (j : Fin 16) (l : Fin 128) : (k0_pay20 (F := Ideal) (ix2 j l) : EReal) = if j.val = 0 then 1 else 0 := by
  have h : ∀ j : Fin 16, IntOp.cmpi CmpIPredicate.eq (BitVec.ofNat 32 j) 0#32 = if j.val = 0 then 1#1 else 0#1 := by decide
  pointwise [k0_pay20]
  rw [h]
  split <;> simp [Scalar.select]

theorem pay23_at (z : FVec Ideal S16x128 .f32) (j : Fin 16) (l : Fin 128) : k0_pay23 z (ix4 0 0 j l) = z (ix2 j l) := by
  pointwise [k0_pay23]

theorem pay25_at (z : FVec Ideal S16x128 .f32) (j : Fin 16) (l : Fin 128) : k0_pay25 z (ix4 0 0 j l) = z (ix2 j l) := by
  pointwise [k0_pay25]

theorem pay28_at (z : FVec Ideal S16x128 .f32) (j : Fin 16) (l : Fin 128) : k0_pay28 z (ix4 0 0 j l) = z (ix2 j l) := by
  pointwise [k0_pay28]

theorem pay31_at (z : FVec Ideal S16x128 .f32) (j : Fin 16) (l : Fin 128) : k0_pay31 z (ix4 0 0 j l) = z (ix2 j l) := by
  pointwise [k0_pay31]

end Cert.Kernel4Ideal.Proj

end
-- ==== Proof.ProjArray.lean ====
/- The projection call's array of values and array of Fourier features: each grid point writes 256 tokens', from the blocks
   of the arguments it holds. -/
module

public import proofs.«01_k».proof.Proof.Gen.Kernel4Ideal.Frame
public import proofs.«01_k».proof.Proof.ProjOps

@[expose] public section

set_option maxRecDepth 16384

noncomputable section

namespace Cert.Kernel4Ideal.Proj

open Cert.Kernel4Ideal Cert.Kernel4Ideal.Gen Idealize.ShloMosaic Idealize.ShloMosaic.TcCoe Idealize.SL.Sem Cert.Proj
open Cert.Mix hiding Args args

/-- Where each window's block lies. -/
theorem idx : ∀ t : Fin cfg0.N, win0_0.index t = ![t.val, 0] ∧ win0_1.index t = ![0, t.val / 64, 0, 0] ∧ win0_2.index t = ![0, 0, 0]
    ∧ win0_3.index t = ![0, 0, 0] ∧ win0_13.index t = ![0, 0] ∧ win0_16.index t = ![0, t.val, 0, 0] ∧ win0_18.index t = ![t.val, 0] :=
  (by decide +kernel : ∀ t : Fin grid0.N, _)

variable (m : (ℓ : Loc nD τ sig) → Buf (Elt Ideal) ℓ) (c : Dev nD)

/-- The call's arguments. -/
def argsOf : Args := args (m ((c : Thread nD τ).loc main_arg0)) (m ((c : Thread nD τ).loc main_arg1)) (m ((c : Thread nD τ).loc main_arg2))
  (m ((c : Thread nD τ).loc main_arg3)) (m ((c : Thread nD τ).loc main_arg9))

theorem w_host (k : Fin 1024) (e : Fin 1536) : V m c main_v45 (ix3 0 k e) = m ((c : Thread nD τ).loc main_arg3) (ix3 0 k e) := by
  simp only [V, hostOps0, hostOps0_1, hostOps0_2, hostOps0_3, hostOps0_4, List.flatten_cons, List.flatten_nil, List.append_nil, List.cons_append, List.nil_append]
  entry_read
  pointwise

theorem g_host (d : Fin 1024) : V m c main_v60 (ix3 0 0 d) = m ((c : Thread nD τ).loc main_arg2) (ix2 0 d) := by
  simp only [V, hostOps0, hostOps0_1, hostOps0_2, hostOps0_3, hostOps0_4, List.flatten_cons, List.flatten_nil, List.append_nil, List.cons_append, List.nil_append]
  entry_read
  pointwise

theorem t_at (t : Fin cfg0.N) (r : Fin 256) (d : Fin 1024) (n : Fin 16640) (hn : n.val = t.val * 256 + r) :
    iblk m c 0 t (ix2 r d) = (argsOf m c).t n d := by
  show _ = m ((c : Thread nD τ).loc main_arg0) (ix2 n d)
  blk_point [iblk, V, idx t]

theorem md_at (t : Fin cfg0.N) (j : Fin 6) (d : Fin 1024) (h : Fin 2) (hh : h.val = t.val / 64) :
    iblk m c 1 t (ix4 0 0 j d) = (argsOf m c).md h j d := by
  show _ = m ((c : Thread nD τ).loc main_arg1) (ix4 0 h j d)
  blk_point [iblk, V, idx t]

theorem g_at (t : Fin cfg0.N) (d : Fin 1024) : iblk m c 2 t (ix3 0 0 d) = (argsOf m c).g d := by
  refine Eq.trans ?_ (g_host m c d)
  blk_point [iblk, idx t]

theorem w_at (t : Fin cfg0.N) (k : Fin 1024) (e : Fin 1536) : iblk m c 3 t (ix3 0 k e) = (argsOf m c).w k e := by
  refine Eq.trans ?_ (w_host m c k e)
  blk_point [iblk, idx t]

theorem f_at (t : Fin cfg0.N) (k : Fin 256) (e : Fin 512) : iblk m c 13 t (ix2 k e) = (argsOf m c).f k e := by
  show _ = m ((c : Thread nD τ).loc main_arg9) (ix2 k e)
  blk_point [iblk, V, idx t]

/-- The shift row and the scale row of the modulation. -/
theorem ld_md (x : Vec Ideal S1x1x6x1024 .f32) (d : Fin 1024) :
    View.ld x (Rect.unit ![0, 0, 0, 0] ![1, 1, 1, 1024] inb_S1x1x6x1024_S1x1x1x1024_0_0_0_0) (ix4 0 0 0 d) = x (ix4 0 0 0 d)
      ∧ View.ld x (Rect.unit ![0, 0, 1, 0] ![1, 1, 1, 1024] inb_S1x1x6x1024_S1x1x1x1024_0_0_1_0) (ix4 0 0 0 d) = x (ix4 0 0 1 d) := by
  refine ⟨?_, ?_⟩
  · refine View.ld_unit_apply_of _ _ _ _ _ (ix4 0 0 0 d) fun a => ?_
    fin_cases a <;> simp
  · refine View.ld_unit_apply_of _ _ _ _ _ (ix4 0 0 1 d) fun a => ?_
    fin_cases a <;> simp

/-- The rows a grid point projects. -/
def rows (x0 : Vec Ideal S256x1024 .f32) (x1 : Vec Ideal S1x1x6x1024 .f32) (x2 : Vec Ideal S1x1x1024 .f32) (x3 : Vec Ideal S1x1024x1536 .bf16) :
    FVec Ideal S256x1536 .f32 :=
  k0_pay3 x0 (View.ld x1 (Rect.unit ![0, 0, 0, 0] ![1, 1, 1, 1024] inb_S1x1x6x1024_S1x1x1x1024_0_0_0_0))
    (View.ld x1 (Rect.unit ![0, 0, 1, 0] ![1, 1, 1, 1024] inb_S1x1x6x1024_S1x1x1x1024_0_0_1_0)) x2 x3

theorem rows_at (t : Fin cfg0.N) (r : Fin 256) (e : Fin 1536) (n : Fin 16640) (hn : n.val = t.val * 256 + r) :
    rows (iblk m c 0 t) (iblk m c 1 t) (iblk m c 2 t) (iblk m c 3 t) (ix2 r e) = (argsOf m c).p n e := by
  have ht : t.val < 65 := t.isLt
  have hh : (half n).val = t.val / 64 := by
    unfold half
    split <;> simp <;> omega
  refine (pay3_at _ _ _ _ _ r e).trans ?_
  unfold Args.p
  congr 1
  · funext k
    exact t_at m c t r k n hn
  · funext k
    exact g_at m c t k
  · funext k
    exact (ld_md _ k).2.trans (md_at m c t 1 k _ hh)
  · funext k
    exact (ld_md _ k).1.trans (md_at m c t 0 k _ hh)
  · funext k
    exact w_at m c t k e

/-- The values a grid point writes, of the rows it projects. -/
def stack (p : FVec Ideal S256x1536 .f32) : Vec Ideal S2x2x80x128 .bf16 := fun j =>
  padded (fun d => p (ix2 ⟨(show Fin 2 from j 1) * 128 + (show Fin 128 from j 3), by
    have h1 := (show Fin 2 from j 1).isLt; have h3 := (show Fin 128 from j 3).isLt; omega⟩
    ⟨640 + ((show Fin 2 from j 0) * 64 + d), by have h0 := (show Fin 2 from j 0).isLt; omega⟩)) (j 2)

theorem stack_low (p : FVec Ideal S256x1536 .f32) (h b : Fin 2) (d : Fin 64) (l : Fin 128) (r : Fin 256) (e : Fin 1536)
    (hr : r.val = b * 128 + l) (he : e.val = 640 + (h * 64 + d)) : stack p (ix4 h b ⟨d, by omega⟩ l) = p (ix2 r e) := by
  refine (dif_pos d.isLt).trans ?_
  show p (ix2 ⟨b * 128 + l, _⟩ ⟨640 + (h * 64 + d), _⟩) = _
  congr 2 <;> ext1 <;> simp [hr, he]

theorem stack_high (p : FVec Ideal S256x1536 .f32) (h b : Fin 2) (j : Fin 16) (l : Fin 128) :
    (stack p (ix4 h b ⟨64 + j, by omega⟩ l) : EReal) = if j.val = 0 then 1 else 0 := by
  refine (dif_neg (by show ¬ 64 + j.val < 64; omega)).trans ?_
  show (if 64 + j.val = 64 then (1 : EReal) else 0) = _
  simp

/-- Its eight stores, the last one first. -/
def pieces (p : FVec Ideal S256x1536 .f32) : List (View.Piece (Elt Ideal) S2x2x80x128 .bf16) :=
    [⟨Rect.unit ![1, 1, 64, 0] ![1, 1, 16, 128] inb_S2x2x80x128_S1x1x16x128_1_1_64_0, k0_pay31 (F := Ideal) k0_pay20⟩,
      ⟨Rect.unit ![1, 1, 0, 0] ![1, 1, 64, 128] inb_S2x2x80x128_S1x1x64x128_1_1_0_0, k0_pay30 (k0_pay29 (k0_pay19 p))⟩,
      ⟨Rect.unit ![1, 0, 64, 0] ![1, 1, 16, 128] inb_S2x2x80x128_S1x1x16x128_1_0_64_0, k0_pay28 (F := Ideal) k0_pay20⟩,
      ⟨Rect.unit ![1, 0, 0, 0] ![1, 1, 64, 128] inb_S2x2x80x128_S1x1x64x128_1_0_0_0, k0_pay27 (k0_pay19 p)⟩,
      ⟨Rect.unit ![0, 1, 64, 0] ![1, 1, 16, 128] inb_S2x2x80x128_S1x1x16x128_0_1_64_0, k0_pay25 (F := Ideal) k0_pay20⟩,
      ⟨Rect.unit ![0, 1, 0, 0] ![1, 1, 64, 128] inb_S2x2x80x128_S1x1x64x128_0_1_0_0, k0_pay24 (k0_pay19 p)⟩,
      ⟨Rect.unit ![0, 0, 64, 0] ![1, 1, 16, 128] inb_S2x2x80x128_S1x1x16x128_0_0_64_0, k0_pay23 (F := Ideal) k0_pay20⟩,
      ⟨Rect.unit ![0, 0, 0, 0] ![1, 1, 64, 128] inb_S2x2x80x128_S1x1x64x128_0_0_0_0, k0_pay22 p⟩]

/-- They lay that out. -/
theorem stores (p : FVec Ideal S256x1536 .f32) (y : S2x2x80x128.Idx) (hc : ∃ q ∈ pieces p, y ∈ q.1.set) :
    View.canon (pieces p) y = stack p y := by
  refine View.canon_apply_of_pieces (stack p) (pieces p) (View.PiecesOf.mem (G := stack p) (L := pieces p) ⟨fun z => ?_, fun z => ?_, fun z => ?_, fun z => ?_, fun z => ?_, fun z => ?_,
    fun z => ?_, fun z => ?_, trivial⟩) y hc
  · idx_vars z
    obtain rfl : z0 = 0 := Subsingleton.elim _ _
    obtain rfl : z1 = 0 := Subsingleton.elim _ _
    have he : (Rect.unit (s := S2x2x80x128) ![1, 1, 64, 0] ![1, 1, 16, 128] inb_S2x2x80x128_S1x1x16x128_1_1_64_0).emb (ix4 0 0 z2 z3)
        = ix4 1 1 ⟨64 + z2, by omega⟩ z3 := by blk_ext
    rw [he]
    exact (pay31_at _ z2 z3).trans ((pay20_at z2 z3).trans (stack_high p 1 1 z2 z3).symm)
  · idx_vars z
    obtain rfl : z0 = 0 := Subsingleton.elim _ _
    obtain rfl : z1 = 0 := Subsingleton.elim _ _
    have he : (Rect.unit (s := S2x2x80x128) ![1, 1, 0, 0] ![1, 1, 64, 128] inb_S2x2x80x128_S1x1x64x128_1_1_0_0).emb (ix4 0 0 z2 z3)
        = ix4 1 1 ⟨z2, by omega⟩ z3 := by blk_ext
    rw [he]
    exact (pay30_at p z2 z3).trans (stack_low p 1 1 z2 z3 _ _ (by simp) (by simp)).symm
  · idx_vars z
    obtain rfl : z0 = 0 := Subsingleton.elim _ _
    obtain rfl : z1 = 0 := Subsingleton.elim _ _
    have he : (Rect.unit (s := S2x2x80x128) ![1, 0, 64, 0] ![1, 1, 16, 128] inb_S2x2x80x128_S1x1x16x128_1_0_64_0).emb (ix4 0 0 z2 z3)
        = ix4 1 0 ⟨64 + z2, by omega⟩ z3 := by blk_ext
    rw [he]
    exact (pay28_at _ z2 z3).trans ((pay20_at z2 z3).trans (stack_high p 1 0 z2 z3).symm)
  · idx_vars z
    obtain rfl : z0 = 0 := Subsingleton.elim _ _
    obtain rfl : z1 = 0 := Subsingleton.elim _ _
    have he : (Rect.unit (s := S2x2x80x128) ![1, 0, 0, 0] ![1, 1, 64, 128] inb_S2x2x80x128_S1x1x64x128_1_0_0_0).emb (ix4 0 0 z2 z3)
        = ix4 1 0 ⟨z2, by omega⟩ z3 := by blk_ext
    rw [he]
    exact (pay27_at p z2 z3).trans (stack_low p 1 0 z2 z3 _ _ (by simp) (by simp)).symm
  · idx_vars z
    obtain rfl : z0 = 0 := Subsingleton.elim _ _
    obtain rfl : z1 = 0 := Subsingleton.elim _ _
    have he : (Rect.unit (s := S2x2x80x128) ![0, 1, 64, 0] ![1, 1, 16, 128] inb_S2x2x80x128_S1x1x16x128_0_1_64_0).emb (ix4 0 0 z2 z3)
        = ix4 0 1 ⟨64 + z2, by omega⟩ z3 := by blk_ext
    rw [he]
    exact (pay25_at _ z2 z3).trans ((pay20_at z2 z3).trans (stack_high p 0 1 z2 z3).symm)
  · idx_vars z
    obtain rfl : z0 = 0 := Subsingleton.elim _ _
    obtain rfl : z1 = 0 := Subsingleton.elim _ _
    have he : (Rect.unit (s := S2x2x80x128) ![0, 1, 0, 0] ![1, 1, 64, 128] inb_S2x2x80x128_S1x1x64x128_0_1_0_0).emb (ix4 0 0 z2 z3)
        = ix4 0 1 ⟨z2, by omega⟩ z3 := by blk_ext
    rw [he]
    exact (pay24_at p z2 z3).trans (stack_low p 0 1 z2 z3 _ _ (by simp) (by simp)).symm
  · idx_vars z
    obtain rfl : z0 = 0 := Subsingleton.elim _ _
    obtain rfl : z1 = 0 := Subsingleton.elim _ _
    have he : (Rect.unit (s := S2x2x80x128) ![0, 0, 64, 0] ![1, 1, 16, 128] inb_S2x2x80x128_S1x1x16x128_0_0_64_0).emb (ix4 0 0 z2 z3)
        = ix4 0 0 ⟨64 + z2, by omega⟩ z3 := by blk_ext
    rw [he]
    exact (pay23_at _ z2 z3).trans ((pay20_at z2 z3).trans (stack_high p 0 0 z2 z3).symm)
  · idx_vars z
    obtain rfl : z0 = 0 := Subsingleton.elim _ _
    obtain rfl : z1 = 0 := Subsingleton.elim _ _
    have he : (Rect.unit (s := S2x2x80x128) ![0, 0, 0, 0] ![1, 1, 64, 128] inb_S2x2x80x128_S1x1x64x128_0_0_0_0).emb (ix4 0 0 z2 z3)
        = ix4 0 0 ⟨z2, by omega⟩ z3 := by blk_ext
    rw [he]
    exact (pay22_at p z2 z3).trans (stack_low p 0 0 z2 z3 _ _ (by simp) (by simp)).symm

theorem out_stack (t : Fin cfg0.N) (y : S2x2x80x128.Idx) :
    (outsAt0 m c t).2.2.1 y = stack (rows (iblk m c 0 t) (iblk m c 1 t) (iblk m c 2 t) (iblk m c 3 t)) y := by
  unfold outsAt0
  frame_out
  exact stores (rows (iblk m c 0 t) (iblk m c 1 t) (iblk m c 2 t) (iblk m c 3 t)) y (View.cover_of_tiledBy _ ![1, 1, 16, 128] (by sl_kernel_rfl) y)

theorem out_feats (t : Fin cfg0.N) :
    (outsAt0 m c t).2.2.2.2 = k0_pay2 (rows (iblk m c 0 t) (iblk m c 1 t) (iblk m c 2 t) (iblk m c 3 t)) (iblk m c 13 t) := by
  unfold outsAt0
  frame_out
  rfl

/-- The values. -/
theorem final0 : (dats m 0 c).arrAt 16 cfg0.N = (argsOf m c).out0 := by
  refine (dats m 0 c).arrAt_eq_of_covers 16 _ (by decide +kernel) fun t hf y => ?_
  blk_simp
  rw [after0_16]
  idx_vars y
  have hN : t.val < 65 := t.isLt
  have he : ((View.whole main_v90_2).slice (win0_16.rect t)).emb (ix4 y0 y1 y2 y3) = ix4 y0 ⟨t.val * 2 + y1, by omega⟩ y2 y3 := by
    blk_ext [idx t]
  rw [he]
  refine (out_stack m c t _).trans ?_
  show padded (fun d => rows (iblk m c 0 t) (iblk m c 1 t) (iblk m c 2 t) (iblk m c 3 t) (ix2 ⟨y1 * 128 + y3, by omega⟩ ⟨640 + (y0 * 64 + d), by omega⟩)) y2
    = padded (fun d => (argsOf m c).p ⟨(t.val * 2 + y1) * 128 + y3, by omega⟩ ⟨640 + (y0 * 64 + d), by omega⟩) y2
  refine congrArg (padded · y2) (funext fun d => ?_)
  exact rows_at m c t _ _ ⟨(t.val * 2 + y1) * 128 + y3, by omega⟩ (by show (t.val * 2 + y1.val) * 128 + y3.val = t.val * 256 + (y1.val * 128 + y3.val); omega)

/-- The Fourier features. -/
theorem final1 : (dats m 0 c).arrAt 18 cfg0.N = (argsOf m c).out1 := by
  refine (dats m 0 c).arrAt_eq_of_covers 18 _ (by decide +kernel) fun t hf y => ?_
  blk_simp
  rw [after0_18]
  idx_vars y
  have hN : t.val < 65 := t.isLt
  have he : ((View.whole main_v90_4).slice (win0_18.rect t)).emb (ix2 y0 y1) = ix2 ⟨t.val * 256 + y0, by omega⟩ y1 := by
    blk_ext [idx t]
  rw [he]
  refine (congrFun (out_feats m c t) _).trans ((pay2_at _ _ y0 y1).trans ?_)
  show _ = ∑ k : Fin 256, (argsOf m c).p ⟨t.val * 256 + y0, by omega⟩ ⟨1280 + k, by omega⟩ * (argsOf m c).f k y1
  refine Finset.sum_congr rfl fun k _ => congrArg₂ (fun a b : EReal => a * b) ?_ ?_
  · exact rows_at m c t y0 _ _ rfl
  · exact f_at m c t k y1

end Cert.Kernel4Ideal.Proj

end
-- ==== Proof.ProjRef.lean ====
/- The projection call's reference in stages, and each stage read entry by entry. -/
module

public import proofs.«01_k».proof.Proof.ProjSpec
public import proofs.«01_k».proof.Proof.Gen.Reference4Ideal.Run

@[expose] public section

set_option maxRecDepth 16384

noncomputable section

namespace Cert.Reference4Ideal.Proj

open Cert.Reference4Ideal Cert.Reference4Ideal.Gen Idealize.ShloMosaic Idealize.ShloMosaic.TcCoe Idealize.SL.Sem Cert.Proj
open Cert.Mix hiding Args args

/-- Every token's shift row. -/
def shifts (md : FVec Ideal S4x2x6x1024 .f32) : FVec Ideal S16640x1024 .f32 :=
  concatenate S16640x1024 0 [⟨S16384x1024, (broadcastInDim S16384x1024 ![1] bcast_S1024_S16384x1024_1 (shapeCast _ (extractStridedSlice S1x1x1x1024 ![0, 0, 0, 0] md
      slices_S4x2x6x1024_S1x1x1x1024_0_0_0_0) shapeCasts_S1x1x1x1024_S1024))⟩,
    ⟨S256x1024, (broadcastInDim S256x1024 ![1] bcast_S1024_S256x1024_1 (shapeCast _ (extractStridedSlice S1x1x1x1024 ![0, 1, 0, 0] md
      slices_S4x2x6x1024_S1x1x1x1024_0_1_0_0) shapeCasts_S1x1x1x1024_S1024))⟩] concatenates_S16384x1024_S256x1024_S16640x1024_d0

/-- Every token's scale row. -/
def scales (md : FVec Ideal S4x2x6x1024 .f32) : FVec Ideal S16640x1024 .f32 :=
  concatenate S16640x1024 0 [⟨S16384x1024, (broadcastInDim S16384x1024 ![1] bcast_S1024_S16384x1024_1 (shapeCast _ (extractStridedSlice S1x1x1x1024 ![0, 0, 1, 0] md
      slices_S4x2x6x1024_S1x1x1x1024_0_0_1_0) shapeCasts_S1x1x1x1024_S1024))⟩,
    ⟨S256x1024, (broadcastInDim S256x1024 ![1] bcast_S1024_S256x1024_1 (shapeCast _ (extractStridedSlice S1x1x1x1024 ![0, 1, 1, 0] md
      slices_S4x2x6x1024_S1x1x1x1024_0_1_1_0) shapeCasts_S1x1x1x1024_S1024))⟩] concatenates_S16384x1024_S256x1024_S16640x1024_d0

/-- The tokens, normalised, scaled and shifted. -/
def hidden (t : FVec Ideal S16640x1024 .f32) (g : FVec Ideal S4x1024 .f32) (sc sh : FVec Ideal S16640x1024 .f32) : FVec Ideal S16640x1024 .f32 :=
  addf (mulf (mulf (mulf t (broadcastInDim S16640x1024 ![0, 1] bcast_S16640x1_S16640x1024_0_1 (Host.rsqrt (addf (Host.divf (broadcastInDim S16640x1 ![0] bcast_S16640_S16640x1_0
    (Host.reduceAdd (mulf t t) (constant S_ .f32 0x00000000#32) reducesTo_S16640x1024_S16640_d1 h_S_)) (broadcastInDim S16640x1 ![] bcast_S_S16640x1 (constant S_ .f32 0x44800000#32)))
    (broadcastInDim S16640x1 ![] bcast_S_S16640x1 (constant S_ .f32 0x358637BD#32)))))) (broadcastInDim S16640x1024 ![0, 1] bcast_S1x1024_S16640x1024_0_1
    (broadcastInDim S1x1024 ![1] bcast_S1024_S1x1024_1 (shapeCast _ (extractStridedSlice S1x1024 ![0, 0] g slices_S4x1024_S1x1024_0_0) shapeCasts_S1x1024_S1024))))
    (addf (broadcastInDim S16640x1024 ![] bcast_S_S16640x1024 (constant S_ .f32 0x3F800000#32)) sc)) sh

/-- The projected tokens. -/
def proj (h : FVec Ideal S16640x1024 .f32) (w : FVec Ideal S4x1024x1536 .f32) : FVec Ideal S16640x1536 .f32 :=
  Host.dotGeneral dot_S16640x1024_S1024x1536_S16640x1536_1_0_0_1_n_n none h
    (shapeCast _ (extractStridedSlice S1x1024x1536 ![0, 0, 0] w slices_S4x1024x1536_S1x1024x1536_0_0_0) shapeCasts_S1x1024x1536_S1024x1536)

/-- The values of each head, 128 tokens at a time. -/
def vals (p : FVec Ideal S16640x1536 .f32) : FVec Ideal S2x130x64x128 .f32 :=
  transpose S2x130x64x128 [2, 0, 3, 1] (shapeCast _ (extractStridedSlice S16640x128 ![0, 640] p slices_S16640x1536_S16640x128_0_640)
    shapeCasts_S16640x128_S130x128x2x64) transposes_S130x128x2x64_S2x130x64x128_2_0_3_1

/-- The values over a row of ones and rows of zeros. -/
def stacked (v : FVec Ideal S2x130x64x128 .f32) : FVec Ideal S2x130x80x128 .bf16 :=
  truncf .bf16 ((concatenate S2x130x80x128 2 [⟨S2x130x64x128, (v : (⟨S2x130x64x128, .f32⟩ : BufTy).Contents (Elt Ideal))⟩,
    ⟨S2x130x1x128, ((broadcastInDim S2x130x1x128 ![] bcast_S_S2x130x1x128 (constant (F := Ideal) S_ .f32 0x3F800000#32)) : (⟨S2x130x1x128, .f32⟩ : BufTy).Contents (Elt Ideal))⟩,
    ⟨S2x130x15x128, ((broadcastInDim S2x130x15x128 ![] bcast_S_S2x130x15x128 (constant (F := Ideal) S_ .f32 0x00000000#32)) : (⟨S2x130x15x128, .f32⟩ : BufTy).Contents (Elt Ideal))⟩]
    concatenates_S2x130x64x128_S2x130x1x128_S2x130x15x128_S2x130x80x128_d2 : (⟨S2x130x80x128, .f32⟩ : BufTy).Contents (Elt Ideal))) bitsLt_bf16_f32

/-- The Fourier features. -/
def feats (p : FVec Ideal S16640x1536 .f32) (f : FVec Ideal S256x512 .bf16) : FVec Ideal S16640x512 .bf16 :=
  truncf .bf16 (Host.dotGeneral dot_S16640x256_S256x512_S16640x512_1_0_0_1_n_n none
    (extractStridedSlice S16640x256 ![0, 1280] p slices_S16640x1536_S16640x256_0_1280) (extf .f32 f bitsLt_bf16_f32)) bitsLt_bf16_f32

theorem shifts_at (md : FVec Ideal S4x2x6x1024 .f32) (n : Fin 16640) (d : Fin 1024) : shifts md (ix2 n d) = md (ix4 0 (half n) 0 d) := by
  have h : shifts md (ix2 n d) = if n.val < 16384 then md (ix4 0 0 0 d) else md (ix4 0 1 0 d) := by
    pointwise [shifts]
    rfl
  rw [h]
  unfold half
  split <;> rfl

theorem scales_at (md : FVec Ideal S4x2x6x1024 .f32) (n : Fin 16640) (d : Fin 1024) : scales md (ix2 n d) = md (ix4 0 (half n) 1 d) := by
  have h : scales md (ix2 n d) = if n.val < 16384 then md (ix4 0 0 1 d) else md (ix4 0 1 1 d) := by
    pointwise [scales]
    rfl
  rw [h]
  unfold half
  split <;> rfl

theorem hidden_at (t : FVec Ideal S16640x1024 .f32) (g : FVec Ideal S4x1024 .f32) (sc sh : FVec Ideal S16640x1024 .f32) (n : Fin 16640) (d : Fin 1024) :
    hidden t g sc sh (ix2 n d) = normed (fun k => t (ix2 n k)) (fun k => g (ix2 0 k)) (fun k => sc (ix2 n k)) (fun k => sh (ix2 n k)) d := by
  pointwise [hidden, normed]

theorem proj_at (h : FVec Ideal S16640x1024 .f32) (w : FVec Ideal S4x1024x1536 .f32) (n : Fin 16640) (e : Fin 1536) :
    proj h w (ix2 n e) = ∑ k : Fin 1024, (show EReal from h (ix2 n k)) * (show EReal from w (ix3 0 k e)) := by
  pointwise [proj]

theorem vals_at (p : FVec Ideal S16640x1536 .f32) (h : Fin 2) (b : Fin 130) (d : Fin 64) (l : Fin 128) :
    vals p (ix4 h b d l) = p (ix2 ⟨b * 128 + l, by omega⟩ ⟨640 + (h * 64 + d), by omega⟩) := by
  pointwise [vals]

theorem stacked_at (v : FVec Ideal S2x130x64x128 .f32) (h : Fin 2) (b : Fin 130) (j : Fin 80) (l : Fin 128) :
    stacked v (ix4 h b j l) = padded (fun d => v (ix4 h b d l)) j := by
  pointwise [stacked]
  unfold padded
  by_cases h0 : j.val < 64
  · rw [dif_pos h0, dif_pos h0]
  · rw [dif_neg h0, dif_neg h0]
    by_cases h1 : j.val = 64
    · rw [if_pos h1, dif_pos (by omega)]
    · rw [if_neg h1, dif_neg (by omega)]

theorem feats_at (p : FVec Ideal S16640x1536 .f32) (f : FVec Ideal S256x512 .bf16) (n : Fin 16640) (e : Fin 512) :
    feats p f (ix2 n e) = ∑ k : Fin 256, (show EReal from p (ix2 n ⟨1280 + k, by omega⟩)) * (show EReal from f (ix2 k e)) := by
  pointwise [feats]

variable (m : (ℓ : Loc nD τ sig) → Buf (Elt Ideal) ℓ) (c : Dev nD)

/-- The arguments. -/
def argsOf : Args := args (m ((c : Thread nD τ).loc main_arg0)) (m ((c : Thread nD τ).loc main_arg1)) (m ((c : Thread nD τ).loc main_arg2))
  (m ((c : Thread nD τ).loc main_arg3)) (m ((c : Thread nD τ).loc main_arg9))

/-- The projected tokens, of the arguments. -/
def rows : FVec Ideal S16640x1536 .f32 :=
  proj (hidden (m ((c : Thread nD τ).loc main_arg0)) (m ((c : Thread nD τ).loc main_arg2)) (scales (m ((c : Thread nD τ).loc main_arg1)))
    (shifts (m ((c : Thread nD τ).loc main_arg1)))) (m ((c : Thread nD τ).loc main_arg3))

theorem rows_at (n : Fin 16640) (e : Fin 1536) : rows m c (ix2 n e) = (argsOf m c).p n e := by
  unfold rows
  rw [proj_at]
  simp only [hidden_at, scales_at, shifts_at]
  rfl

/-- The first result. -/
theorem ref0 : stacked (vals (rows m c)) = (argsOf m c).out0 := by
  funext i
  idx_vars i
  rw [stacked_at]
  simp only [vals_at, rows_at]
  rfl

/-- The second. -/
theorem ref1 : feats (rows m c) (m ((c : Thread nD τ).loc main_arg9)) = (argsOf m c).out1 := by
  funext i
  idx_vars i
  rw [feats_at]
  simp only [rows_at]
  rfl

end Cert.Reference4Ideal.Proj

end
-- ==== Proof.ProjClaim.lean ====
/- The projection call and its reference: the same values and Fourier features. -/
module

public import proofs.«01_k».proof.Defs
public import proofs.«01_k».proof.Proof.ProjArray
public import proofs.«01_k».proof.Proof.ProjRef
public import proofs.«01_k».proof.Proof.Gen.Kernel4Ideal.Value
public import Idealize.ShloMosaic.Adequacy
public import Idealize.ShloMosaic.Init

@[expose] public section

set_option maxRecDepth 16384

noncomputable section

namespace Cert.Proj

open Idealize.ShloMosaic Idealize.ShloMosaic.TcCoe Idealize.SL.Sem

/-- From memories that agree on the arguments the two programs' arguments are the same. -/
theorem args_eq (m : (ℓ : Loc Kernel4Ideal.nD Kernel4Ideal.τ Kernel4Ideal.sig) → Buf (Elt Ideal) ℓ)
    (m' : (ℓ : Loc Reference4Ideal.nD Reference4Ideal.τ Reference4Ideal.sig) → Buf (Elt Ideal) ℓ) (c : Dev Kernel4Ideal.nD)
    (h : m' ((c : Thread Reference4Ideal.nD Reference4Ideal.τ).loc Reference4Ideal.main_arg0) = m ((c : Thread Kernel4Ideal.nD Kernel4Ideal.τ).loc Kernel4Ideal.main_arg0)
      ∧ m' ((c : Thread Reference4Ideal.nD Reference4Ideal.τ).loc Reference4Ideal.main_arg1) = m ((c : Thread Kernel4Ideal.nD Kernel4Ideal.τ).loc Kernel4Ideal.main_arg1)
      ∧ m' ((c : Thread Reference4Ideal.nD Reference4Ideal.τ).loc Reference4Ideal.main_arg2) = m ((c : Thread Kernel4Ideal.nD Kernel4Ideal.τ).loc Kernel4Ideal.main_arg2)
      ∧ m' ((c : Thread Reference4Ideal.nD Reference4Ideal.τ).loc Reference4Ideal.main_arg3) = m ((c : Thread Kernel4Ideal.nD Kernel4Ideal.τ).loc Kernel4Ideal.main_arg3)
      ∧ m' ((c : Thread Reference4Ideal.nD Reference4Ideal.τ).loc Reference4Ideal.main_arg4) = m ((c : Thread Kernel4Ideal.nD Kernel4Ideal.τ).loc Kernel4Ideal.main_arg4)
      ∧ m' ((c : Thread Reference4Ideal.nD Reference4Ideal.τ).loc Reference4Ideal.main_arg5) = m ((c : Thread Kernel4Ideal.nD Kernel4Ideal.τ).loc Kernel4Ideal.main_arg5)
      ∧ m' ((c : Thread Reference4Ideal.nD Reference4Ideal.τ).loc Reference4Ideal.main_arg6) = m ((c : Thread Kernel4Ideal.nD Kernel4Ideal.τ).loc Kernel4Ideal.main_arg6)
      ∧ m' ((c : Thread Reference4Ideal.nD Reference4Ideal.τ).loc Reference4Ideal.main_arg7) = m ((c : Thread Kernel4Ideal.nD Kernel4Ideal.τ).loc Kernel4Ideal.main_arg7)
      ∧ m' ((c : Thread Reference4Ideal.nD Reference4Ideal.τ).loc Reference4Ideal.main_arg8) = m ((c : Thread Kernel4Ideal.nD Kernel4Ideal.τ).loc Kernel4Ideal.main_arg8)
      ∧ m' ((c : Thread Reference4Ideal.nD Reference4Ideal.τ).loc Reference4Ideal.main_arg9) = m ((c : Thread Kernel4Ideal.nD Kernel4Ideal.τ).loc Kernel4Ideal.main_arg9)) :
    Reference4Ideal.Proj.argsOf m' c = Kernel4Ideal.Proj.argsOf m c := by
  obtain ⟨h0, h1, h2, h3, -, -, -, -, -, h9⟩ := h
  unfold Reference4Ideal.Proj.argsOf
  rw [h0, h1, h2, h3, h9]
  rfl

/-- The one named constant has its value. -/
theorem preserves : Cert.preserves_Kernel4_Kernel4Ideal :=
  IdealRules.named_const.statement Cert.Kernel4Ideal.κ "query_scale" .f32 0x3E38AA3B#32 (((1 / 8) * (Real.log 2)⁻¹ : ℝ) : EReal) rfl

theorem algebraic : Cert.algebraic_Kernel4Ideal_Reference4Ideal := by
  pair_intro
  · run_from Cert.Kernel4Ideal.Value.run_blocks m g
  · run_from Cert.Reference4Ideal.Value.run m' g'
    all_goals
      have ha := args_eq m m' c (hagree c)
      obtain ⟨h0, h1, h2, h3, -, -, -, -, -, h9⟩ := hagree c
    · rw [← h0, ← h1, ← h2, ← h3]
      exact (Reference4Ideal.Proj.ref0 m' c).trans ((congrArg Args.out0 ha).trans (Kernel4Ideal.Proj.final0 m c).symm)
    · simp only [← h0, ← h1, ← h2, ← h3, ← h9]
      exact (Reference4Ideal.Proj.ref1 m' c).trans ((congrArg Args.out1 ha).trans (Kernel4Ideal.Proj.final1 m c).symm)

end Cert.Proj

end
-- ==== Proof.ModsSpec.lean ====
/- What the modulation call computes: the gated conditioning vectors times the weights of each layer, and the biases. -/
module

public import proofs.«01_k».proof.Proof.OutSpec

@[expose] public section

set_option maxRecDepth 16384

noncomputable section

namespace Cert.Mods

open Idealize.ShloMosaic Cert.Mix

/-- The gated unit: `x / (1 + exp(-x))`. -/
def silu (x : EReal) : EReal := x * Ideal.div 1 (1 + Ideal.exp (-x))

/-- Of a number it is a number. -/
theorem silu_real {x : EReal} (h : IsReal x) : IsReal (silu x) := by
  obtain ⟨r, rfl⟩ := h
  have he : (1 + Ideal.exp (-(r : EReal)) : EReal) = ((1 + Real.exp (-r) : ℝ) : EReal) := by
    rw [show (-(r : EReal)) = ((-r : ℝ) : EReal) from rfl, Ideal.exp_coe]
    rfl
  unfold silu
  rw [he, Ideal.div_coe (by positivity)]
  exact IsReal.mul ⟨r, rfl⟩ (IsReal.mul ⟨1, rfl⟩ ⟨_, rfl⟩)

/-- The rows of all layers. -/
def rows (x : FVec Ideal ⟨2, ![16, 1024]⟩ .f32) (w : FVec Ideal ⟨3, ![4, 1024, 6144]⟩ .f32) (b : FVec Ideal ⟨2, ![4, 6144]⟩ .f32) :
    FVec Ideal ⟨3, ![4, 16, 6144]⟩ .f32 := fun i =>
  (∑ k : Fin 1024, silu (x (ix2 (i 1) k)) * (show EReal from w (ix3 (i 0) k (i 2)))) + (show EReal from b (ix2 (i 0) (i 2)))

end Cert.Mods

end
-- ==== Proof.ModsArray.lean ====
/- The modulation call's result: each grid point writes 1024 columns of one layer's rows. The operands of its product are
   split in a leading and a trailing part; where their entries are numbers the trailing parts are zero. -/
module

public import proofs.«01_k».proof.Proof.Gen.Kernel5Ideal.Frame
public import proofs.«01_k».proof.Proof.ModsSpec
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Kernel5Ideal.Mods

open Cert.Kernel5Ideal Cert.Kernel5Ideal.Gen Idealize.ShloMosaic Idealize.ShloMosaic.TcCoe Idealize.SL.Sem Cert.Mods
open Cert.Mix hiding Args args

/-- The stored block at an entry. -/
theorem pay1_at (x : Vec Ideal S16x1024 .f32) (w : Vec Ideal S1x1024x1024 .f32) (b : Vec Ideal S1x1x1024 .f32) (r : Fin 16) (e : Fin 1024)
    (hx : ∀ k, IsReal (x (ix2 r k))) (hw : ∀ k, IsReal (w (ix3 0 k e))) :
    k0_pay1 x w b (ix3 0 r e) = (∑ k : Fin 1024, silu (x (ix2 r k)) * (show EReal from w (ix3 0 k e))) + (show EReal from b (ix3 0 0 e)) := by
  have hz : ∀ k, silu (x (ix2 r k)) - silu (x (ix2 r k)) = 0 := fun k => sub_self_real (silu_real (hx k))
  have hv : ∀ k, (show EReal from w (ix3 0 k e)) - w (ix3 0 k e) = 0 := fun k => sub_self_real (hw k)
  unfold silu at hz ⊢
  pointwise [k0_pay1]
  simp only [zero_sub]
  simp [hz, hv]

/-- Where each window's block lies. -/
theorem idx : ∀ t : Fin cfg0.N, win0_0.index t = ![0, 0] ∧ win0_1.index t = ![t.val / 6, 0, t.val % 6] ∧ win0_2.index t = ![t.val / 6, 0, t.val % 6]
    ∧ win0_3.index t = ![t.val / 6, 0, t.val % 6] :=
  (by decide +kernel : ∀ t : Fin grid0.N, _)

variable (m : (ℓ : Loc nD τ sig) → Buf (Elt Ideal) ℓ) (c : Dev nD)

theorem b_host (l : Fin 4) (e : Fin 6144) : V m c main_v0 (ix3 l 0 e) = m ((c : Thread nD τ).loc main_arg2) (ix2 l e) := by
  simp only [V, hostOps0, List.flatten_cons, List.flatten_nil, List.append_nil, List.cons_append, List.nil_append]
  entry_read
  pointwise

theorem x_at (t : Fin cfg0.N) (r : Fin 16) (k : Fin 1024) : iblk m c 0 t (ix2 r k) = m ((c : Thread nD τ).loc main_arg0) (ix2 r k) := by
  blk_point [iblk, V, idx t]

theorem w_at (t : Fin cfg0.N) (k e : Fin 1024) (l : Fin 4) (n : Fin 6144) (hl : l.val = t.val / 6) (hn : n.val = t.val % 6 * 1024 + e) :
    iblk m c 1 t (ix3 0 k e) = m ((c : Thread nD τ).loc main_arg1) (ix3 l k n) := by
  blk_point [iblk, V, idx t]

theorem b_at (t : Fin cfg0.N) (e : Fin 1024) (l : Fin 4) (n : Fin 6144) (hl : l.val = t.val / 6) (hn : n.val = t.val % 6 * 1024 + e) :
    iblk m c 2 t (ix3 0 0 e) = m ((c : Thread nD τ).loc main_arg2) (ix2 l n) := by
  refine Eq.trans ?_ (b_host m c l n)
  blk_point [iblk, idx t]

/-- The rows, where every conditioning vector and weight is a number. -/
theorem final (hx : ∀ i, IsReal (m ((c : Thread nD τ).loc main_arg0) i)) (hw : ∀ i, IsReal (m ((c : Thread nD τ).loc main_arg1) i)) :
    (dats m 0 c).arrAt 3 cfg0.N
      = rows (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  idx_vars y
  obtain rfl : y0 = 0 := Subsingleton.elim _ _
  have hN : t.val < 24 := t.isLt
  have hl : t.val / 6 < 4 := by omega
  have hn : t.val % 6 * 1024 + y2.val < 6144 := by omega
  have he : ((View.whole main_v1).slice (win0_3.rect t)).emb (ix3 0 y1 y2) = ix3 ⟨t.val / 6, hl⟩ y1 ⟨t.val % 6 * 1024 + y2, hn⟩ := by
    blk_ext [idx t]
  rw [he]
  unfold out0_3
  frame_out
  have ex := fun k => x_at m c t y1 k
  have ew := fun k => w_at m c t k y2 ⟨t.val / 6, hl⟩ ⟨t.val % 6 * 1024 + y2, hn⟩ rfl rfl
  have eb := b_at m c t y2 ⟨t.val / 6, hl⟩ ⟨t.val % 6 * 1024 + y2, hn⟩ rfl rfl
  refine (pay1_at _ _ _ y1 y2 (fun k => ?_) (fun k => ?_)).trans ?_
  · exact (congrArg IsReal (ex k)).mpr (hx _)
  · exact (congrArg IsReal (ew k)).mpr (hw _)
  · refine congrArg₂ (fun a b : EReal => a + b) (Finset.sum_congr rfl fun k _ => congrArg₂ (fun a b : EReal => a * b) ?_ ?_) ?_
    · exact congrArg silu (ex k)
    · exact ew k
    · exact eb

end Cert.Kernel5Ideal.Mods

end
-- ==== Proof.ModsRef.lean ====
/- The modulation reference, read entry by entry, and its precondition: where `finite_mods` holds the conditioning vectors and
   the weights are real numbers. -/
module

public import proofs.«01_k».proof.Proof.Gen.Reference5Ideal.Run
public import proofs.«01_k».proof.Proof.Gen.Pre_finite_mods
public import proofs.«01_k».proof.Proof.Finite
public import proofs.«01_k».proof.Proof.ModsSpec
public import Idealize.ShloMosaic.Lib.ReduceAll
public import Idealize.ShloMosaic.Lib.Pointwise

@[expose] public section

set_option maxRecDepth 16384

noncomputable section

namespace Cert.Reference5Ideal.Mods

open Cert.Reference5Ideal Cert.Reference5Ideal.Gen Idealize.ShloMosaic Idealize.ShloMosaic.TcCoe Idealize.SL.Sem Cert.Mods

theorem ref_eq (x : FVec Ideal S16x1024 .f32) (w : FVec Ideal S4x1024x6144 .f32) (b : FVec Ideal S4x6144 .f32) :
    addf (transpose S4x16x6144 [0, 2, 1] (Host.dotGeneral dot_S4x1024x6144_S16x1024_S4x6144x16_1_1_02_0_n_n none w
      (mulf x (Host.divf (broadcastInDim S16x1024 ![] bcast_S_S16x1024 (constant (F := Ideal) S_ .f32 0x3F800000#32))
        (addf (broadcastInDim S16x1024 ![] bcast_S_S16x1024 (constant (F := Ideal) S_ .f32 0x3F800000#32)) (Host.exp (Host.negf x))))))
      transposes_S4x6144x16_S4x16x6144_0_2_1) (broadcastInDim S4x16x6144 ![0, 1, 2] bcast_S4x1x6144_S4x16x6144_0_1_2
      (broadcastInDim S4x1x6144 ![0, 2] bcast_S4x6144_S4x1x6144_0_2 b)) = rows x w b := by
  funext i
  idx_vars i
  pointwise [rows, silu]
  simp only [mul_comm]

end Cert.Reference5Ideal.Mods

namespace Cert.Pre_finite_mods.Entry

open Cert.Pre_finite_mods Cert.Pre_finite_mods.Gen Idealize.ShloMosaic Cert.Mix

variable (x : FVec Ideal S16x1024 .f32) (w : FVec Ideal S4x1024x6144 .f32) (b : FVec Ideal S4x6144 .f32)

theorem vec_real (h : fn (F := Ideal) x w b = fun _ => 1#1) (i : S16x1024.Idx) : IsReal (x i) := by
  have h0 := congrFun h ix0
  dsimp only [fn] at h0
  exact Pre_finite_qk.Entry.real_of_cmp _ (Host.reduce_andi_all _ _ _ _ _ (IntOp.andi_eq_one.1 h0).1 i)

theorem weight_real (h : fn (F := Ideal) x w b = fun _ => 1#1) (i : S4x1024x6144.Idx) : IsReal (w i) := by
  have h0 := congrFun h ix0
  dsimp only [fn] at h0
  exact Pre_finite_qk.Entry.real_of_cmp _ (Host.reduce_andi_all _ _ _ _ _ (IntOp.andi_eq_one.1 h0).2 i)

end Cert.Pre_finite_mods.Entry

end
-- ==== Proof.ModsClaim.lean ====
/- The modulation call and its reference: the same rows, where the conditioning vectors and the weights are numbers. -/
module

public import proofs.«01_k».proof.Defs
public import proofs.«01_k».proof.Proof.ModsArray
public import proofs.«01_k».proof.Proof.ModsRef
public import proofs.«01_k».proof.Proof.Gen.Kernel5Ideal.Value
public import Idealize.ShloMosaic.Adequacy
public import Idealize.ShloMosaic.Init

@[expose] public section

set_option maxRecDepth 16384

noncomputable section

namespace Cert.Mods

open Idealize.ShloMosaic Idealize.ShloMosaic.TcCoe Idealize.SL.Sem

theorem algebraic : Cert.algebraic_Kernel5Ideal_Reference5Ideal_pre_finite_mods := by
  pair_intro
  · run_from Cert.Kernel5Ideal.Value.run_blocks m g
  · run_from Cert.Reference5Ideal.Value.run m' g'
    exact (Reference5Ideal.Mods.ref_eq _ _ _).trans (Kernel5Ideal.Mods.final m c (Pre_finite_mods.Entry.vec_real _ _ _ (hpre c))
      (Pre_finite_mods.Entry.weight_real _ _ _ (hpre c))).symm

end Cert.Mods

end
-- ==== Proof.GateSpec.lean ====
/- What the projection call's gating part computes: of a token's projected row, two gelu parts, the second normalised in
   groups of 64 channels and mixed over its 128 tokens; their product. -/
module

public import proofs.«01_k».proof.Proof.ProjSpec

@[expose] public section

set_option maxRecDepth 16384

noncomputable section

namespace Cert.Gate

open Idealize.ShloMosaic
open Cert.Mix (IsReal)

/-- The arguments that the gating part depends on. -/
structure Args where
  /-- what the projected row depends on -/
  row : Cert.Proj.Args
  /-- the gain of the groups' norm -/
  sg : Fin 256 → EReal
  /-- the mixing weights of each group -/
  sw : Fin 4 → Fin 128 → Fin 128 → EReal
  /-- the mixing biases of each group -/
  sb : Fin 4 → Fin 128 → EReal

/-- The gelu with the tanh. -/
def gelu (z : EReal) : EReal := z * (Ideal.ofBits .f32 0x3F000000#32 * (Ideal.ofBits .f32 0x3F800000#32
  + Ideal.tanh (Ideal.ofBits .f32 0x3F4C422A#32 * (z + Ideal.ofBits .f32 0x3D372713#32 * (z * z * z)))))

/-- A channel's group. -/
def grp (j : Fin 256) : Fin 4 := ⟨j.val / 64, by omega⟩

/-- A channel over the root mean square of its group, times a gain. -/
def groupNorm (v sg : Fin 256 → EReal) (j : Fin 256) : EReal :=
  v j * Ideal.rsqrt (Ideal.div (∑ d : Fin 64, v ⟨(grp j).val * 64 + d, by omega⟩ * v ⟨(grp j).val * 64 + d, by omega⟩)
    (Ideal.ofBits .f32 0x42800000#32) + Ideal.ofBits .f32 0x358637BD#32) * sg j

namespace Args

variable (A : Args)

/-- The first part. -/
def u (n : Fin 16640) (j : Fin 256) : EReal := gelu (A.row.p n ⟨768 + j, by omega⟩)

/-- The second part. -/
def v (n : Fin 16640) (j : Fin 256) : EReal := gelu (A.row.p n ⟨768 + (256 + j), by omega⟩)

/-- The second part, normalised. -/
def vn (n : Fin 16640) (j : Fin 256) : EReal := groupNorm (A.v n) A.sg j

/-- The gated row of token `p` of chunk `b`. -/
def gate (b : Fin 130) (p : Fin 128) (j : Fin 256) : EReal :=
  A.u ⟨b * 128 + p, by omega⟩ j * ((∑ q : Fin 128, A.vn ⟨b * 128 + q, by omega⟩ j * A.sw (grp j) p q) + A.sb (grp j) p)

/-- The result. -/
def out : FVec Ideal ⟨2, ![16640, 256]⟩ .bf16 := fun i =>
  A.gate ⟨(show Fin 16640 from i 0).val / 128, by have := (show Fin 16640 from i 0).isLt; omega⟩
    ⟨(show Fin 16640 from i 0).val % 128, Nat.mod_lt _ (by norm_num)⟩ (i 1)

/-- The arguments that have to be numbers are. -/
structure Real : Prop where
  sh : ∀ h k, IsReal (A.row.md h 0 k)
  sc : ∀ h k, IsReal (A.row.md h 1 k)
  g : ∀ k, IsReal (A.row.g k)
  w : ∀ k (e : Fin 256), IsReal (A.row.w k ⟨768 + (256 + e), by omega⟩)

end Args

/-- A number's gelu is a number. -/
theorem gelu_real {z : EReal} (hz : IsReal z) : IsReal (gelu z) := by
  have h0 : IsReal (Ideal.ofBits .f32 0x3F000000#32) := by
    refine ⟨8388608 * 2 ^ (-24 : ℤ), ?_⟩
    simp [Ideal.ofBits, Ideal.ieee]
  have h1 : IsReal (Ideal.ofBits .f32 0x3F800000#32) := ⟨_, Cert.Mix.ofBits_one⟩
  have h2 : IsReal (Ideal.ofBits .f32 0x3F4C422A#32) := by
    refine ⟨13386282 * 2 ^ (-24 : ℤ), ?_⟩
    simp [Ideal.ofBits, Ideal.ieee]
  have h3 : IsReal (Ideal.ofBits .f32 0x3D372713#32) := by
    refine ⟨12003091 * 2 ^ (-28 : ℤ), ?_⟩
    simp [Ideal.ofBits, Ideal.ieee]
  obtain ⟨r, hr⟩ := h2.mul (hz.add (h3.mul ((hz.mul hz).mul hz)))
  unfold gelu
  rw [hr]
  exact hz.mul (h0.mul (h1.add ⟨Real.tanh r, rfl⟩))

theorem Args.v_real {A : Args} (hA : A.Real) (n : Fin 16640) (j : Fin 256) : IsReal (A.v n j) := by
  refine gelu_real ?_
  unfold Cert.Proj.Args.p Cert.Proj.project
  refine Cert.Mix.IsReal.sum _ _ fun k => ?_
  exact (Cert.Mix.normed_real _ hA.g (hA.sc _) (hA.sh _) k).mul (hA.w k _)

/-- A sum over the channels is the sum over the groups of the sums over each. -/
theorem sum_groups (f : Fin 256 → EReal) : ∑ k, f k = ∑ g : Fin 4, ∑ d : Fin 64, f ⟨g * 64 + d, by omega⟩ := by
  rw [← Fintype.sum_prod_type']
  refine (Fintype.sum_equiv (finProdFinEquiv (m := 4) (n := 64)) _ f fun x => congrArg f (Fin.ext ?_)).symm
  show x.1.val * 64 + x.2.val = x.2.val + 64 * x.1.val
  omega

theorem sum_rows (f : Fin 512 → EReal) : ∑ k, f k = ∑ g : Fin 4, ∑ d : Fin 128, f ⟨g * 128 + d, by omega⟩ := by
  rw [← Fintype.sum_prod_type']
  refine (Fintype.sum_equiv (finProdFinEquiv (m := 4) (n := 128)) _ f fun x => congrArg f (Fin.ext ?_)).symm
  show x.1.val * 128 + x.2.val = x.2.val + 128 * x.1.val
  omega

/-- The group's mean square, as the product with the table that holds 1/64 in the group's rows. -/
theorem mean_square (v : Fin 256 → EReal) (hv : ∀ k, IsReal (v k)) (s : Fin 256 → EReal) (j : Fin 256)
    (hs : ∀ k, s k = if k.val / 64 = j.val / 64 then ((1 / 64 : ℝ) : EReal) else 0) :
    (∑ k : Fin 256, v k * v k * s k) + ∑ k : Fin 256, (v k * v k - v k * v k) * s k
      = Ideal.div (∑ d : Fin 64, v ⟨(grp j).val * 64 + d, by have := (grp j).isLt; omega⟩ * v ⟨(grp j).val * 64 + d, by have := (grp j).isLt; omega⟩)
        (Ideal.ofBits .f32 0x42800000#32) := by
  have h64 : Ideal.ofBits .f32 0x42800000#32 = ((64 : ℝ) : EReal) := by
    simp [Ideal.ofBits, Ideal.ieee]
    rw [← EReal.coe_mul]
    norm_num
  have hz : ∑ k : Fin 256, (v k * v k - v k * v k) * s k = 0 := Finset.sum_eq_zero fun k _ => by
    rw [Cert.Mix.sub_self_real ((hv k).mul (hv k)), zero_mul]
  rw [hz, add_zero, sum_groups, h64, Ideal.div_coe (by norm_num), mul_comm, Cert.Softmax.mul_sum_real _ (by norm_num)]
  refine (Finset.sum_eq_single (grp j) (fun g _ hg => Finset.sum_eq_zero fun d _ => ?_) (fun h => absurd (Finset.mem_univ _) h)).trans ?_
  · rw [hs, if_neg, mul_zero]
    intro h
    refine hg (Fin.ext ?_)
    show g.val = j.val / 64
    have h' : (g.val * 64 + d.val) / 64 = j.val / 64 := h
    omega
  · refine Finset.sum_congr rfl fun d _ => ?_
    rw [hs, if_pos, mul_comm]
    show (j.val / 64 * 64 + d.val) / 64 = j.val / 64
    omega

/-- A product with the stack of the four masked copies takes the row's own group's. -/
theorem masked_product (w x : Fin 512 → EReal) (v : Fin 128 → EReal) (j : Fin 256)
    (hx : ∀ g : Fin 4, ∀ q : Fin 128, x ⟨g * 128 + q, by omega⟩ = if g = grp j then v q else 0) :
    ∑ k : Fin 512, w k * x k = ∑ q : Fin 128, v q * w ⟨(grp j).val * 128 + q, by have := (grp j).isLt; omega⟩ := by
  rw [sum_rows]
  refine (Finset.sum_eq_single (grp j) (fun g _ hg => Finset.sum_eq_zero fun q _ => ?_) (fun h => absurd (Finset.mem_univ _) h)).trans ?_
  · rw [hx, if_neg hg, mul_zero]
  · exact Finset.sum_congr rfl fun q _ => by rw [hx, if_pos rfl, mul_comm]

end Cert.Gate

end
-- ==== Proof.GateOps.lean ====
/- The gating part's arithmetic at an entry. -/
module

public import proofs.«01_k».proof.Proof.Gen.Kernel6Ideal.Skeleton
public import proofs.«01_k».proof.Proof.GateSpec
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Kernel6Ideal.Gate

open Cert.Kernel6Ideal Cert.Kernel6Ideal.Gen Idealize.ShloMosaic Idealize.ShloMosaic.TcCoe Idealize.SL.Sem Cert.Gate
open Cert.Mix (IsReal normed)
open Cert.Proj (project)

/-- The projected row. -/
theorem pay3_at (v0 : Vec Ideal S256x1024 .f32) (v1 v3 : Vec Ideal S1x1x1x1024 .f32) (v15 : Vec Ideal S1x1x1024 .f32)
    (v26 : Vec Ideal S1x1024x1536 .bf16) (r : Fin 256) (e : Fin 1536) : k0_pay3 v0 v1 v3 v15 v26 (ix2 r e)
      = project (fun k => v0 (ix2 r k)) (fun k => v15 (ix3 0 0 k)) (fun k => v3 (ix4 0 0 0 k)) (fun k => v1 (ix4 0 0 0 k))
        (fun k => v26 (ix3 0 k e)) := by
  pointwise [k0_pay3, project, normed]

/-- The gelu. -/
theorem pay32_at (p : FVec Ideal S256x1536 .f32) (r : Fin 256) (e : Fin 512) :
    k0_pay32 p (ix2 r e) = gelu (p (ix2 r ⟨768 + e, by omega⟩)) := by
  pointwise [k0_pay32, gelu]
  rw [mul_comm (Ideal.ofBits .f32 0x3F000000#32), mul_assoc]

theorem pay33_at (p : FVec Ideal S256x1536 .f32) (r : Fin 256) (j : Fin 256) :
    k0_pay33 p (ix2 r j) = gelu (p (ix2 r ⟨768 + j, by omega⟩)) := by
  refine Eq.trans ?_ (pay32_at p r ⟨j, by omega⟩)
  pointwise [k0_pay33]

/-- The second part, over the root of its mean square. -/
theorem pay34_at (p : FVec Ideal S256x1536 .f32) (s : Vec Ideal S256x256 .bf16) (r : Fin 256) (j : Fin 256) (v : Fin 256 → EReal)
    (hv : ∀ k : Fin 256, k0_pay32 p (ix2 r ⟨256 + k, by omega⟩) = v k) : k0_pay34 p s (ix2 r j)
      = v j * Ideal.rsqrt ((∑ k : Fin 256, v k * v k * (show EReal from s (ix2 k j)))
        + (∑ k : Fin 256, (v k * v k - v k * v k) * (show EReal from s (ix2 k j))) + Ideal.ofBits .f32 0x358637BD#32) := by
  simp only [← hv]
  pointwise [k0_pay34]

/-- The normalised second part. -/
theorem pay36_at (p : FVec Ideal S256x1536 .f32) (s : Vec Ideal S256x256 .bf16) (g : Vec Ideal S1x1x256 .f32) (r : Fin 256) (j : Fin 256)
    (v : Fin 256 → EReal) (hv : ∀ k : Fin 256, k0_pay32 p (ix2 r ⟨256 + k, by omega⟩) = v k) (hr : ∀ k, IsReal (v k))
    (hs : ∀ k : Fin 256, (s (ix2 k j) : EReal) = if k.val / 64 = j.val / 64 then ((1 / 64 : ℝ) : EReal) else 0) :
    k0_pay36 (k0_pay34 p s) (k0_pay35 g) (ix2 r j) = groupNorm v (fun j => g (ix3 0 0 j)) j := by
  have h : k0_pay36 (k0_pay34 p s) (k0_pay35 g) (ix2 r j) = (show EReal from k0_pay34 p s (ix2 r j)) * (show EReal from g (ix3 0 0 j)) := by
    pointwise [k0_pay36, k0_pay35]
  rw [h, pay34_at p s r j v hv, mean_square v hr (fun k => s (ix2 k j)) j hs]
  rfl

/-- The channel's group. -/
theorem pay37_at (q : Fin 128) (j : Fin 256) : k0_pay37 (ix2 q j) = BitVec.ofNat 32 (grp j).val := by
  revert j
  pointwise [k0_pay37, grp]
  decide +kernel

/-- A comparison of a group with a group's number. -/
theorem group_eq : ∀ g h : Fin 4, IntOp.cmpi CmpIPredicate.eq (BitVec.ofNat 32 h.val) (BitVec.ofNat 32 g.val) = if g = h then 1#1 else 0#1 := by decide

/-- A copy masked to a group. -/
theorem sel_group (a : Fin 4) (j : Fin 256) (x : EReal) :
    Scalar.select (IntOp.cmpi CmpIPredicate.eq (BitVec.ofNat 32 (grp j).val) (BitVec.ofNat 32 a.val)) x 0 = if a = grp j then x else 0 := by
  rw [group_eq]
  split <;> simp [Scalar.select]

/-- The stack of the four masked copies of the first 128 rows. -/
theorem pay38_at (x : FVec Ideal S256x256 .f32) (g : FVec Ideal S1x256 .f32) (a : Fin 4) (q : Fin 128) (j : Fin 256) :
    (k0_pay38 x g (ix2 ⟨a * 128 + q, by omega⟩ j) : EReal) = if a = grp j then (show EReal from k0_pay36 x g (ix2 ⟨q, by omega⟩ j)) else 0 := by
  fin_cases a
  · pointwise [k0_pay38, pay37_at]
    exact sel_group 0 j _
  · pointwise [k0_pay38, pay37_at]
    exact sel_group 1 j _
  · pointwise [k0_pay38, pay37_at]
    rw [dif_neg (by omega), dif_neg (by omega), dif_pos (by omega)]
    simp only [show 256 + q.val - 128 - 128 = q.val by omega]
    exact sel_group 2 j _
  · pointwise [k0_pay38, pay37_at]
    rw [dif_neg (by omega), dif_neg (by omega), dif_neg (by omega)]
    simp only [show 384 + q.val - 128 - 128 - 128 = q.val by omega]
    exact sel_group 3 j _

/-- What is stored of the first 128 rows. -/
theorem pay39_at (u : FVec Ideal S256x256 .f32) (x : FVec Ideal S256x256 .f32) (g : FVec Ideal S1x256 .f32) (w : Vec Ideal S1x128x512 .bf16)
    (b : Vec Ideal S1x128x256 .f32) (r : Fin 128) (j : Fin 256) : k0_pay39 u (k0_pay38 x g) w b (ix2 r j)
      = (show EReal from u (ix2 ⟨r, by omega⟩ j)) * ((∑ q : Fin 128, (show EReal from k0_pay36 x g (ix2 ⟨q, by omega⟩ j))
        * (show EReal from w (ix3 0 r ⟨(grp j).val * 128 + q, by have := (grp j).isLt; omega⟩))) + (show EReal from b (ix3 0 r j))) := by
  rw [← masked_product (fun k => w (ix3 0 r k)) (fun k => k0_pay38 x g (ix2 k j)) _ j (fun a q => pay38_at x g a q j)]
  pointwise [k0_pay39]

/-- The mixed last 128 rows. -/
theorem pay40_at (x : FVec Ideal S256x256 .f32) (w : Vec Ideal S1x128x512 .bf16) (r : Fin 128) (j : Fin 256) :
    (k0_pay40 x k0_pay37 w (ix2 r j) : EReal) = ∑ q : Fin 128, (show EReal from x (ix2 ⟨128 + q, by omega⟩ j))
        * (show EReal from w (ix3 0 r ⟨(grp j).val * 128 + q, by have := (grp j).isLt; omega⟩)) := by
  pointwise [k0_pay40, pay37_at]
  refine masked_product (fun k => w (ix3 0 r k)) _ (fun q => x (ix2 ⟨128 + q, by omega⟩ j)) j fun a q => ?_
  fin_cases a
  · show dite _ _ _ = _
    rw [dif_pos (by show 0 * 128 + q.val < 128; omega)]
    refine (sel_group 0 j _).trans ?_
    simp
  · show dite _ _ _ = _
    rw [dif_neg (by show ¬ 1 * 128 + q.val < 128; omega), dif_pos (by show 1 * 128 + q.val - 128 < 128; omega)]
    refine (sel_group 1 j _).trans ?_
    simp
  · show dite _ _ _ = _
    rw [dif_neg (by show ¬ 2 * 128 + q.val < 128; omega), dif_neg (by show ¬ 2 * 128 + q.val - 128 < 128; omega), dif_pos (by show 2 * 128 + q.val - 128 - 128 < 128; omega)]
    refine (sel_group 2 j _).trans ?_
    simp only [show 2 * 128 + q.val - 128 - 128 = q.val by omega]
    rfl
  · show dite _ _ _ = _
    rw [dif_neg (by show ¬ 3 * 128 + q.val < 128; omega), dif_neg (by show ¬ 3 * 128 + q.val - 128 < 128; omega), dif_neg (by show ¬ 3 * 128 + q.val - 128 - 128 < 128; omega)]
    refine (sel_group 3 j _).trans ?_
    simp only [show 3 * 128 + q.val - 128 - 128 - 128 = q.val by omega]
    rfl

/-- What is stored of them. -/
theorem pay1_at (u : FVec Ideal S256x256 .f32) (s : FVec Ideal S128x256 .f32) (b : Vec Ideal S1x128x256 .f32) (r : Fin 128) (j : Fin 256) :
    k0_pay1 u s (k0_pay41 b) (ix2 r j) = (show EReal from u (ix2 ⟨128 + r, by omega⟩ j)) * ((show EReal from s (ix2 r j)) + (show EReal from b (ix3 0 r j))) := by
  pointwise [k0_pay1, k0_pay41]

end Cert.Kernel6Ideal.Gate

end
-- ==== Proof.GateArray.lean ====
/- The projection call's array of gated rows: each grid point writes 256 tokens', two chunks of 128, from the blocks of the
   arguments it holds. -/
module

public import proofs.«01_k».proof.Proof.Gen.Kernel6Ideal.Frame
public import proofs.«01_k».proof.Proof.GateOps

@[expose] public section

set_option maxRecDepth 16384

noncomputable section

namespace Cert.Kernel6Ideal.Gate

open Cert.Kernel6Ideal Cert.Kernel6Ideal.Gen Idealize.ShloMosaic Idealize.ShloMosaic.TcCoe Idealize.SL.Sem Cert.Gate
open Cert.Mix (IsReal half)

/-- Where each window's block lies. -/
theorem idx : ∀ t : Fin cfg0.N, win0_0.index t = ![t.val, 0] ∧ win0_1.index t = ![0, t.val / 64, 0, 0] ∧ win0_2.index t = ![0, 0, 0]
    ∧ win0_3.index t = ![0, 0, 0] ∧ win0_8.index t = ![0, 0] ∧ win0_10.index t = ![0, 0, 0] ∧ win0_11.index t = ![0, 0, 0]
    ∧ win0_12.index t = ![0, 0, 0] ∧ win0_17.index t = ![t.val, 0] :=
  (by decide +kernel : ∀ t : Fin grid0.N, _)

variable (m : (ℓ : Loc nD τ sig) → Buf (Elt Ideal) ℓ) (c : Dev nD)

/-- The call's arguments. -/
def argsOf : Args where
  row := Cert.Proj.args (m ((c : Thread nD τ).loc main_arg0)) (m ((c : Thread nD τ).loc main_arg1)) (m ((c : Thread nD τ).loc main_arg2))
    (m ((c : Thread nD τ).loc main_arg3)) (m ((c : Thread nD τ).loc main_arg9))
  sg j := m ((c : Thread nD τ).loc main_arg6) (ix2 0 j)
  sw g p q := m ((c : Thread nD τ).loc main_arg7) (ix4 0 g p q)
  sb g p := m ((c : Thread nD τ).loc main_arg8) (ix3 0 g p)

theorem w_host (k : Fin 1024) (e : Fin 1536) : V m c main_v45 (ix3 0 k e) = m ((c : Thread nD τ).loc main_arg3) (ix3 0 k e) := by
  simp only [V, hostOps0, hostOps0_1, hostOps0_2, hostOps0_3, hostOps0_4, List.flatten_cons, List.flatten_nil, List.append_nil, List.cons_append, List.nil_append]
  entry_read
  pointwise

theorem g_host (d : Fin 1024) : V m c main_v60 (ix3 0 0 d) = m ((c : Thread nD τ).loc main_arg2) (ix2 0 d) := by
  simp only [V, hostOps0, hostOps0_1, hostOps0_2, hostOps0_3, hostOps0_4, List.flatten_cons, List.flatten_nil, List.append_nil, List.cons_append, List.nil_append]
  entry_read
  pointwise

theorem sg_host (j : Fin 256) : V m c main_v61 (ix3 0 0 j) = m ((c : Thread nD τ).loc main_arg6) (ix2 0 j) := by
  simp only [V, hostOps0, hostOps0_1, hostOps0_2, hostOps0_3, hostOps0_4, List.flatten_cons, List.flatten_nil, List.append_nil, List.cons_append, List.nil_append]
  entry_read
  pointwise

theorem sw_host (g : Fin 4) (p q : Fin 128) :
    V m c main_v56 (ix3 0 p ⟨g * 128 + q, by omega⟩) = m ((c : Thread nD τ).loc main_arg7) (ix4 0 g p q) := by
  simp only [V, hostOps0, hostOps0_1, hostOps0_2, hostOps0_3, hostOps0_4, List.flatten_cons, List.flatten_nil, List.append_nil, List.cons_append, List.nil_append]
  entry_read
  pointwise
  simp only [show (g.val * 128 + q.val) / 128 = g.val by omega, show (g.val * 128 + q.val) % 128 = q.val by omega]

theorem sb_host (p : Fin 128) (j : Fin 256) : V m c main_v59 (ix3 0 p j) = m ((c : Thread nD τ).loc main_arg8) (ix3 0 (grp j) p) := by
  simp only [V, hostOps0, hostOps0_1, hostOps0_2, hostOps0_3, hostOps0_4, List.flatten_cons, List.flatten_nil, List.append_nil, List.cons_append, List.nil_append]
  entry_read
  pointwise [grp]

/-- The table of the groups' means. -/
theorem ms_host (k j : Fin 512) : (V m c main_v71 (ix2 k j) : EReal) = if k.val / 64 = j.val / 64 then ((1 / 64 : ℝ) : EReal) else 0 := by
  simp only [V, hostOps0, hostOps0_1, hostOps0_2, hostOps0_3, hostOps0_4, List.flatten_cons, List.flatten_nil, List.append_nil, List.cons_append, List.nil_append]
  entry_read
  pointwise
  show Scalar.select (IntOp.cmpi CmpIPredicate.eq (BitVec.ofNat 32 (k.val / 64)) (BitVec.ofNat 32 (j.val / 64))) (Ideal.ofBits .f32 0x3C800000#32)
    (Ideal.ofBits .f32 0x00000000#32) = _
  have h : ∀ a b : Fin 8, IntOp.cmpi CmpIPredicate.eq (BitVec.ofNat 32 a.val) (BitVec.ofNat 32 b.val) = if a.val = b.val then 1#1 else 0#1 := by decide
  rw [h ⟨k.val / 64, by omega⟩ ⟨j.val / 64, by omega⟩]
  have h1 : Ideal.ofBits .f32 0x3C800000#32 = ((1 / 64 : ℝ) : EReal) := by
    simp [Ideal.ofBits, Ideal.ieee]
    rw [← EReal.coe_mul]
    norm_num
  have h0 : Ideal.ofBits .f32 0x00000000#32 = 0 := by simp [Ideal.ofBits, Ideal.ieee]
  rw [h0, h1]
  split <;> simp [Scalar.select]

theorem t_at (t : Fin cfg0.N) (r : Fin 256) (d : Fin 1024) (n : Fin 16640) (hn : n.val = t.val * 256 + r) :
    iblk m c 0 t (ix2 r d) = (argsOf m c).row.t n d := by
  show _ = m ((c : Thread nD τ).loc main_arg0) (ix2 n d)
  blk_point [iblk, V, idx t]

theorem md_at (t : Fin cfg0.N) (j : Fin 6) (d : Fin 1024) (h : Fin 2) (hh : h.val = t.val / 64) :
    iblk m c 1 t (ix4 0 0 j d) = (argsOf m c).row.md h j d := by
  show _ = m ((c : Thread nD τ).loc main_arg1) (ix4 0 h j d)
  blk_point [iblk, V, idx t]

theorem g_at (t : Fin cfg0.N) (d : Fin 1024) : iblk m c 2 t (ix3 0 0 d) = (argsOf m c).row.g d := by
  refine Eq.trans ?_ (g_host m c d)
  blk_point [iblk, idx t]

theorem w_at (t : Fin cfg0.N) (k : Fin 1024) (e : Fin 1536) : iblk m c 3 t (ix3 0 k e) = (argsOf m c).row.w k e := by
  refine Eq.trans ?_ (w_host m c k e)
  blk_point [iblk, idx t]

theorem sg_at (t : Fin cfg0.N) (j : Fin 256) : iblk m c 10 t (ix3 0 0 j) = (argsOf m c).sg j := by
  refine Eq.trans ?_ (sg_host m c j)
  blk_point [iblk, idx t]

theorem sw_at (t : Fin cfg0.N) (g : Fin 4) (p q : Fin 128) : iblk m c 11 t (ix3 0 p ⟨g * 128 + q, by omega⟩) = (argsOf m c).sw g p q := by
  refine Eq.trans ?_ (sw_host m c g p q)
  blk_point [iblk, idx t]

theorem sb_at (t : Fin cfg0.N) (p : Fin 128) (j : Fin 256) : iblk m c 12 t (ix3 0 p j) = (argsOf m c).sb (grp j) p := by
  refine Eq.trans ?_ (sb_host m c p j)
  blk_point [iblk, idx t]

theorem ms_at (t : Fin cfg0.N) (k j : Fin 512) : (iblk m c 8 t (ix2 k j) : EReal) = if k.val / 64 = j.val / 64 then ((1 / 64 : ℝ) : EReal) else 0 := by
  refine Eq.trans ?_ (ms_host m c k j)
  blk_point [iblk, idx t]

/-- The shift row and the scale row of the modulation. -/
theorem ld_md (x : Vec Ideal S1x1x6x1024 .f32) (d : Fin 1024) :
    View.ld x (Rect.unit ![0, 0, 0, 0] ![1, 1, 1, 1024] inb_S1x1x6x1024_S1x1x1x1024_0_0_0_0) (ix4 0 0 0 d) = x (ix4 0 0 0 d)
      ∧ View.ld x (Rect.unit ![0, 0, 1, 0] ![1, 1, 1, 1024] inb_S1x1x6x1024_S1x1x1x1024_0_0_1_0) (ix4 0 0 0 d) = x (ix4 0 0 1 d) := by
  refine ⟨?_, ?_⟩
  · refine View.ld_unit_apply_of _ _ _ _ _ (ix4 0 0 0 d) fun a => ?_
    fin_cases a <;> simp
  · refine View.ld_unit_apply_of _ _ _ _ _ (ix4 0 0 1 d) fun a => ?_
    fin_cases a <;> simp

/-- The part of the table that the second part's channels need. -/
theorem ld_ms (x : Vec Ideal S512x512 .bf16) (k j : Fin 256) :
    View.ld x (Rect.unit ![0, 0] ![256, 256] inb_S512x512_S256x256_0_0) (ix2 k j) = x (ix2 ⟨k, by omega⟩ ⟨j, by omega⟩) := by
  refine View.ld_unit_apply_of _ _ _ _ _ (ix2 ⟨k, by omega⟩ ⟨j, by omega⟩) fun a => ?_
  fin_cases a <;> simp

/-- The rows a grid point projects. -/
def rows (x0 : Vec Ideal S256x1024 .f32) (x1 : Vec Ideal S1x1x6x1024 .f32) (x2 : Vec Ideal S1x1x1024 .f32) (x3 : Vec Ideal S1x1024x1536 .bf16) :
    FVec Ideal S256x1536 .f32 :=
  k0_pay3 x0 (View.ld x1 (Rect.unit ![0, 0, 0, 0] ![1, 1, 1, 1024] inb_S1x1x6x1024_S1x1x1x1024_0_0_0_0))
    (View.ld x1 (Rect.unit ![0, 0, 1, 0] ![1, 1, 1, 1024] inb_S1x1x6x1024_S1x1x1x1024_0_0_1_0)) x2 x3

theorem rows_at (t : Fin cfg0.N) (r : Fin 256) (e : Fin 1536) (n : Fin 16640) (hn : n.val = t.val * 256 + r) :
    rows (iblk m c 0 t) (iblk m c 1 t) (iblk m c 2 t) (iblk m c 3 t) (ix2 r e) = (argsOf m c).row.p n e := by
  have ht : t.val < 65 := t.isLt
  have hh : (half n).val = t.val / 64 := by
    unfold half
    split <;> simp <;> omega
  refine (pay3_at _ _ _ _ _ r e).trans ?_
  unfold Cert.Proj.Args.p
  congr 1
  · funext k
    exact t_at m c t r k n hn
  · funext k
    exact g_at m c t k
  · funext k
    exact (ld_md _ k).2.trans (md_at m c t 1 k _ hh)
  · funext k
    exact (ld_md _ k).1.trans (md_at m c t 0 k _ hh)
  · funext k
    exact w_at m c t k e

/-- The second part's rows, normalised, of the projected rows, the table and the gain. -/
def second (p : FVec Ideal S256x1536 .f32) (x8 : Vec Ideal S512x512 .bf16) (x10 : Vec Ideal S1x1x256 .f32) : FVec Ideal S256x256 .f32 :=
  k0_pay36 (k0_pay34 p (View.ld x8 (Rect.unit ![0, 0] ![256, 256] inb_S512x512_S256x256_0_0))) (k0_pay35 x10)

theorem second_at (hA : (argsOf m c).Real) (t : Fin cfg0.N) (r j : Fin 256) (n : Fin 16640) (hn : n.val = t.val * 256 + r) :
    second (rows (iblk m c 0 t) (iblk m c 1 t) (iblk m c 2 t) (iblk m c 3 t)) (iblk m c 8 t) (iblk m c 10 t) (ix2 r j)
      = (argsOf m c).vn n j := by
  refine (pay36_at _ _ _ r j ((argsOf m c).v n) (fun k => ?_) (Args.v_real hA n) (fun k => ?_)).trans ?_
  · exact (pay32_at _ r _).trans (congrArg gelu (rows_at m c t r _ n hn))
  · exact (ld_ms _ k j).trans (ms_at m c t _ _)
  · exact congrArg (groupNorm _ · j) (funext fun k => sg_at m c t k)

/-- What a grid point writes. -/
def tile (p : FVec Ideal S256x1536 .f32) (x8 : Vec Ideal S512x512 .bf16) (x10 : Vec Ideal S1x1x256 .f32) (x11 : Vec Ideal S1x128x512 .bf16)
    (x12 : Vec Ideal S1x128x256 .f32) (a : Fin 2) (r : Fin 128) (j : Fin 256) : EReal :=
  (show EReal from k0_pay33 p (ix2 ⟨a * 128 + r, by omega⟩ j)) * ((∑ q : Fin 128, (show EReal from second p x8 x10 (ix2 ⟨a * 128 + q, by omega⟩ j))
    * (show EReal from x11 (ix3 0 r ⟨(grp j).val * 128 + q, by have := (grp j).isLt; omega⟩))) + (show EReal from x12 (ix3 0 r j)))

def tileArr (p : FVec Ideal S256x1536 .f32) (x8 : Vec Ideal S512x512 .bf16) (x10 : Vec Ideal S1x1x256 .f32) (x11 : Vec Ideal S1x128x512 .bf16)
    (x12 : Vec Ideal S1x128x256 .f32) : Vec Ideal S256x256 .bf16 := fun y =>
  tile p x8 x10 x11 x12 ⟨(show Fin 256 from y 0).val / 128, by have := (show Fin 256 from y 0).isLt; omega⟩
    ⟨(show Fin 256 from y 0).val % 128, Nat.mod_lt _ (by norm_num)⟩ (y 1)

theorem tileArr_at (p : FVec Ideal S256x1536 .f32) (x8 : Vec Ideal S512x512 .bf16) (x10 : Vec Ideal S1x1x256 .f32) (x11 : Vec Ideal S1x128x512 .bf16)
    (x12 : Vec Ideal S1x128x256 .f32) (a : Fin 2) (r : Fin 128) (j : Fin 256) (k : Fin 256) (hk : k.val = a * 128 + r) :
    tileArr p x8 x10 x11 x12 (ix2 k j) = tile p x8 x10 x11 x12 a r j := by
  show tile p x8 x10 x11 x12 ⟨k.val / 128, _⟩ ⟨k.val % 128, _⟩ j = _
  congr 1 <;> ext1 <;> simp <;> omega

/-- Its two stores, the last one first. -/
def pieces (p : FVec Ideal S256x1536 .f32) (x8 : Vec Ideal S512x512 .bf16) (x10 : Vec Ideal S1x1x256 .f32) (x11 : Vec Ideal S1x128x512 .bf16)
    (x12 : Vec Ideal S1x128x256 .f32) : List (View.Piece (Elt Ideal) S256x256 .bf16) :=
  [⟨Rect.unit ![128, 0] ![128, 256] inb_S256x256_S128x256_128_0,
      k0_pay1 (k0_pay33 p) (k0_pay40 (second p x8 x10) k0_pay37 x11) (k0_pay41 x12)⟩,
    ⟨Rect.unit ![0, 0] ![128, 256] inb_S256x256_S128x256_0_0,
      k0_pay39 (k0_pay33 p) (k0_pay38 (k0_pay34 p (View.ld x8 (Rect.unit ![0, 0] ![256, 256] inb_S512x512_S256x256_0_0))) (k0_pay35 x10)) x11 x12⟩]

theorem stores (p : FVec Ideal S256x1536 .f32) (x8 : Vec Ideal S512x512 .bf16) (x10 : Vec Ideal S1x1x256 .f32) (x11 : Vec Ideal S1x128x512 .bf16)
    (x12 : Vec Ideal S1x128x256 .f32) (y : S256x256.Idx) (hc : ∃ q ∈ pieces p x8 x10 x11 x12, y ∈ q.1.set) :
    View.canon (pieces p x8 x10 x11 x12) y = tileArr p x8 x10 x11 x12 y := by
  refine View.canon_apply_of_pieces (tileArr p x8 x10 x11 x12) (pieces p x8 x10 x11 x12)
    (View.PiecesOf.mem (G := tileArr p x8 x10 x11 x12) (L := pieces p x8 x10 x11 x12) ⟨fun z => ?_, fun z => ?_, trivial⟩) y hc
  · idx_vars z
    have he : (Rect.unit (s := S256x256) ![128, 0] ![128, 256] inb_S256x256_S128x256_128_0).emb (ix2 z0 z1) = ix2 ⟨128 + z0, by omega⟩ z1 := by blk_ext
    rw [he, tileArr_at p x8 x10 x11 x12 1 z0 z1 _ (by simp)]
    refine (pay1_at _ _ _ z0 z1).trans ?_
    rw [pay40_at]
    rfl
  · idx_vars z
    have he : (Rect.unit (s := S256x256) ![0, 0] ![128, 256] inb_S256x256_S128x256_0_0).emb (ix2 z0 z1) = ix2 ⟨z0, by omega⟩ z1 := by blk_ext
    rw [he, tileArr_at p x8 x10 x11 x12 0 z0 z1 _ (by simp)]
    refine (pay39_at _ _ _ _ _ z0 z1).trans ?_
    unfold tile second
    simp only [Fin.val_zero, Nat.zero_mul, Nat.zero_add]

theorem out_tile (t : Fin cfg0.N) (y : S256x256.Idx) : (outsAt0 m c t).2.2.2.1 y
    = tileArr (rows (iblk m c 0 t) (iblk m c 1 t) (iblk m c 2 t) (iblk m c 3 t)) (iblk m c 8 t) (iblk m c 10 t) (iblk m c 11 t) (iblk m c 12 t) y := by
  unfold outsAt0
  frame_out
  exact stores (rows (iblk m c 0 t) (iblk m c 1 t) (iblk m c 2 t) (iblk m c 3 t)) (iblk m c 8 t) (iblk m c 10 t) (iblk m c 11 t) (iblk m c 12 t) y
    (View.cover_of_tiledBy _ ![128, 256] (by sl_kernel_rfl) y)

/-- The gated rows. -/
theorem final (hA : (argsOf m c).Real) : (dats m 0 c).arrAt 17 cfg0.N = (argsOf m c).out := by
  refine (dats m 0 c).arrAt_eq_of_covers 17 _ (by decide +kernel) fun t hf y => ?_
  blk_simp
  rw [after0_17]
  idx_vars y
  have hN : t.val < 65 := t.isLt
  have he : ((View.whole main_v90_3).slice (win0_17.rect t)).emb (ix2 y0 y1) = ix2 ⟨t.val * 256 + y0, by omega⟩ y1 := by
    blk_ext [idx t]
  rw [he]
  refine (out_tile m c t _).trans ?_
  have hb : (t.val * 256 + y0.val) / 128 = t.val * 2 + y0.val / 128 := by omega
  have hp : (t.val * 256 + y0.val) % 128 = y0.val % 128 := by omega
  refine Eq.trans ?_ (show (argsOf m c).gate ⟨t.val * 2 + y0.val / 128, by omega⟩ ⟨y0.val % 128, by omega⟩ y1 = _ from
    congrArg₂ ((argsOf m c).gate · · y1) (Fin.ext hb.symm) (Fin.ext hp.symm))
  show tile _ _ _ _ _ ⟨y0.val / 128, _⟩ ⟨y0.val % 128, _⟩ y1 = _
  unfold tile Args.gate
  refine congrArg₂ (fun a b : EReal => a * b) ?_ (congrArg₂ (fun a b : EReal => a + b) (Finset.sum_congr rfl fun q _ => congrArg₂ (fun a b : EReal => a * b) ?_ ?_) ?_)
  · exact (pay33_at _ _ y1).trans (congrArg gelu (rows_at m c t _ _ _ (by
      show (t.val * 2 + y0.val / 128) * 128 + y0.val % 128 = t.val * 256 + (y0.val / 128 * 128 + y0.val % 128)
      omega)))
  · exact second_at m c hA t _ y1 _ (by
      show (t.val * 2 + y0.val / 128) * 128 + q.val = t.val * 256 + (y0.val / 128 * 128 + q.val)
      omega)
  · exact sw_at m c t (grp y1) _ q
  · exact sb_at m c t _ y1

end Cert.Kernel6Ideal.Gate

end
-- ==== Proof.GateRef.lean ====
/- The gating part's reference in stages, and each stage read entry by entry. -/
module

public import proofs.«01_k».proof.Proof.GateSpec
public import proofs.«01_k».proof.Proof.Gen.Reference6Ideal.Run

@[expose] public section

set_option maxRecDepth 16384

noncomputable section

namespace Cert.Reference6Ideal.Gate

open Cert.Reference6Ideal Cert.Reference6Ideal.Gen Idealize.ShloMosaic Idealize.ShloMosaic.TcCoe Idealize.SL.Sem Cert.Gate
open Cert.Mix (half normed)

/-- Every token's shift row. -/
def shifts (md : FVec Ideal S4x2x6x1024 .f32) : FVec Ideal S16640x1024 .f32 :=
  concatenate S16640x1024 0 [⟨S16384x1024, (broadcastInDim S16384x1024 ![1] bcast_S1024_S16384x1024_1 (shapeCast _ (extractStridedSlice S1x1x1x1024 ![0, 0, 0, 0] md
      slices_S4x2x6x1024_S1x1x1x1024_0_0_0_0) shapeCasts_S1x1x1x1024_S1024))⟩,
    ⟨S256x1024, (broadcastInDim S256x1024 ![1] bcast_S1024_S256x1024_1 (shapeCast _ (extractStridedSlice S1x1x1x1024 ![0, 1, 0, 0] md
      slices_S4x2x6x1024_S1x1x1x1024_0_1_0_0) shapeCasts_S1x1x1x1024_S1024))⟩] concatenates_S16384x1024_S256x1024_S16640x1024_d0

/-- Every token's scale row. -/
def scales (md : FVec Ideal S4x2x6x1024 .f32) : FVec Ideal S16640x1024 .f32 :=
  concatenate S16640x1024 0 [⟨S16384x1024, (broadcastInDim S16384x1024 ![1] bcast_S1024_S16384x1024_1 (shapeCast _ (extractStridedSlice S1x1x1x1024 ![0, 0, 1, 0] md
      slices_S4x2x6x1024_S1x1x1x1024_0_0_1_0) shapeCasts_S1x1x1x1024_S1024))⟩,
    ⟨S256x1024, (broadcastInDim S256x1024 ![1] bcast_S1024_S256x1024_1 (shapeCast _ (extractStridedSlice S1x1x1x1024 ![0, 1, 1, 0] md
      slices_S4x2x6x1024_S1x1x1x1024_0_1_1_0) shapeCasts_S1x1x1x1024_S1024))⟩] concatenates_S16384x1024_S256x1024_S16640x1024_d0

/-- The tokens, normalised, scaled and shifted. -/
def hidden (t : FVec Ideal S16640x1024 .f32) (g : FVec Ideal S4x1024 .f32) (sc sh : FVec Ideal S16640x1024 .f32) : FVec Ideal S16640x1024 .f32 :=
  addf (mulf (mulf (mulf t (broadcastInDim S16640x1024 ![0, 1] bcast_S16640x1_S16640x1024_0_1 (Host.rsqrt (addf (Host.divf (broadcastInDim S16640x1 ![0] bcast_S16640_S16640x1_0
    (Host.reduceAdd (mulf t t) (constant S_ .f32 0x00000000#32) reducesTo_S16640x1024_S16640_d1 h_S_)) (broadcastInDim S16640x1 ![] bcast_S_S16640x1 (constant S_ .f32 0x44800000#32)))
    (broadcastInDim S16640x1 ![] bcast_S_S16640x1 (constant S_ .f32 0x358637BD#32)))))) (broadcastInDim S16640x1024 ![0, 1] bcast_S1x1024_S16640x1024_0_1
    (broadcastInDim S1x1024 ![1] bcast_S1024_S1x1024_1 (shapeCast _ (extractStridedSlice S1x1024 ![0, 0] g slices_S4x1024_S1x1024_0_0) shapeCasts_S1x1024_S1024))))
    (addf (broadcastInDim S16640x1024 ![] bcast_S_S16640x1024 (constant S_ .f32 0x3F800000#32)) sc)) sh

/-- The projected tokens. -/
def proj (h : FVec Ideal S16640x1024 .f32) (w : FVec Ideal S4x1024x1536 .f32) : FVec Ideal S16640x1536 .f32 :=
  Host.dotGeneral dot_S16640x1024_S1024x1536_S16640x1536_1_0_0_1_n_n none h
    (shapeCast _ (extractStridedSlice S1x1024x1536 ![0, 0, 0] w slices_S4x1024x1536_S1x1024x1536_0_0_0) shapeCasts_S1x1024x1536_S1024x1536)

/-- The gelu. -/
def act (p : FVec Ideal S16640x1536 .f32) : FVec Ideal S16640x512 .f32 :=
  mulf (extractStridedSlice S16640x512 ![0, 768] p slices_S16640x1536_S16640x512_0_768)
    (mulf (broadcastInDim S16640x512 ![] bcast_S_S16640x512 (constant S_ .f32 0x3F000000#32))
      (addf (broadcastInDim S16640x512 ![] bcast_S_S16640x512 (constant S_ .f32 0x3F800000#32))
        (Host.tanh (mulf (broadcastInDim S16640x512 ![] bcast_S_S16640x512 (constant S_ .f32 0x3F4C422A#32))
          (addf (extractStridedSlice S16640x512 ![0, 768] p slices_S16640x1536_S16640x512_0_768)
            (mulf (broadcastInDim S16640x512 ![] bcast_S_S16640x512 (constant S_ .f32 0x3D372713#32))
              (mulf (mulf (extractStridedSlice S16640x512 ![0, 768] p slices_S16640x1536_S16640x512_0_768)
                (extractStridedSlice S16640x512 ![0, 768] p slices_S16640x1536_S16640x512_0_768))
                (extractStridedSlice S16640x512 ![0, 768] p slices_S16640x1536_S16640x512_0_768))))))))

/-- The second part, in groups. -/
def parts (z : FVec Ideal S16640x512 .f32) : FVec Ideal S16640x4x64 .f32 :=
  shapeCast _ (extractStridedSlice S16640x256 ![0, 256] z slices_S16640x512_S16640x256_0_256) shapeCasts_S16640x256_S16640x4x64

/-- The groups normalised. -/
def normedParts (v : FVec Ideal S16640x4x64 .f32) (g : FVec Ideal S4x256 .f32) : FVec Ideal S16640x4x64 .f32 :=
  mulf (mulf v (broadcastInDim S16640x4x64 ![0, 1, 2] bcast_S16640x4x1_S16640x4x64_0_1_2 (Host.rsqrt (addf (Host.divf
    (broadcastInDim S16640x4x1 ![0, 1] bcast_S16640x4_S16640x4x1_0_1 (Host.reduceAdd (mulf v v) (constant S_ .f32 0x00000000#32) reducesTo_S16640x4x64_S16640x4_d2 h_S_))
    (broadcastInDim S16640x4x1 ![] bcast_S_S16640x4x1 (constant S_ .f32 0x42800000#32)))
    (broadcastInDim S16640x4x1 ![] bcast_S_S16640x4x1 (constant S_ .f32 0x358637BD#32))))))
    (broadcastInDim S16640x4x64 ![0, 1, 2] bcast_S1x4x64_S16640x4x64_0_1_2 (broadcastInDim S1x4x64 ![1, 2] bcast_S4x64_S1x4x64_1_2
      (shapeCast _ (shapeCast _ (extractStridedSlice S1x256 ![0, 0] g slices_S4x256_S1x256_0_0) shapeCasts_S1x256_S256) shapeCasts_S256_S4x64)))

/-- The groups mixed over each chunk's tokens, and biased. -/
def mixed (v : FVec Ideal S16640x4x64 .f32) (w : FVec Ideal S4x4x128x128 .f32) (b : FVec Ideal S4x4x128 .f32) : FVec Ideal S16640x256 .f32 :=
  shapeCast _ (addf (transpose S130x128x4x64 [1, 3, 0, 2] (Host.dotGeneral dot_S130x128x4x64_S4x128x128_S4x130x64x128_1_2_03_1_2_0 none
      (shapeCast _ v shapeCasts_S16640x4x64_S130x128x4x64)
      (shapeCast _ (extractStridedSlice S1x4x128x128 ![0, 0, 0, 0] w slices_S4x4x128x128_S1x4x128x128_0_0_0_0) shapeCasts_S1x4x128x128_S4x128x128))
      transposes_S4x130x64x128_S130x128x4x64_1_3_0_2)
    (broadcastInDim S130x128x4x64 ![0, 1, 2, 3] bcast_S1x128x4x1_S130x128x4x64_0_1_2_3 (broadcastInDim S1x128x4x1 ![1, 2, 3] bcast_S128x4x1_S1x128x4x1_1_2_3
      (broadcastInDim S128x4x1 ![0, 1] bcast_S128x4_S128x4x1_0_1 (transpose S128x4 [1, 0] (shapeCast _ (extractStridedSlice S1x4x128 ![0, 0, 0] b
        slices_S4x4x128_S1x4x128_0_0_0) shapeCasts_S1x4x128_S4x128) transposes_S4x128_S128x4_1_0))))) shapeCasts_S130x128x4x64_S16640x256

/-- The gated rows. -/
def gated (z : FVec Ideal S16640x512 .f32) (s : FVec Ideal S16640x256 .f32) : FVec Ideal S16640x256 .bf16 :=
  truncf .bf16 (mulf (extractStridedSlice S16640x256 ![0, 0] z slices_S16640x512_S16640x256_0_0) s) bitsLt_bf16_f32

theorem shifts_at (md : FVec Ideal S4x2x6x1024 .f32) (n : Fin 16640) (d : Fin 1024) : shifts md (ix2 n d) = md (ix4 0 (half n) 0 d) := by
  have h : shifts md (ix2 n d) = if n.val < 16384 then md (ix4 0 0 0 d) else md (ix4 0 1 0 d) := by
    pointwise [shifts]
    rfl
  rw [h]
  unfold half
  split <;> rfl

theorem scales_at (md : FVec Ideal S4x2x6x1024 .f32) (n : Fin 16640) (d : Fin 1024) : scales md (ix2 n d) = md (ix4 0 (half n) 1 d) := by
  have h : scales md (ix2 n d) = if n.val < 16384 then md (ix4 0 0 1 d) else md (ix4 0 1 1 d) := by
    pointwise [scales]
    rfl
  rw [h]
  unfold half
  split <;> rfl

theorem hidden_at (t : FVec Ideal S16640x1024 .f32) (g : FVec Ideal S4x1024 .f32) (sc sh : FVec Ideal S16640x1024 .f32) (n : Fin 16640) (d : Fin 1024) :
    hidden t g sc sh (ix2 n d) = normed (fun k => t (ix2 n k)) (fun k => g (ix2 0 k)) (fun k => sc (ix2 n k)) (fun k => sh (ix2 n k)) d := by
  pointwise [hidden, normed]

theorem proj_at (h : FVec Ideal S16640x1024 .f32) (w : FVec Ideal S4x1024x1536 .f32) (n : Fin 16640) (e : Fin 1536) :
    proj h w (ix2 n e) = ∑ k : Fin 1024, (show EReal from h (ix2 n k)) * (show EReal from w (ix3 0 k e)) := by
  pointwise [proj]

theorem act_at (p : FVec Ideal S16640x1536 .f32) (n : Fin 16640) (e : Fin 512) : act p (ix2 n e) = gelu (p (ix2 n ⟨768 + e, by omega⟩)) := by
  pointwise [act, gelu]

theorem parts_at (z : FVec Ideal S16640x512 .f32) (n : Fin 16640) (g : Fin 4) (d : Fin 64) :
    parts z (ix3 n g d) = z (ix2 n ⟨256 + (g * 64 + d), by omega⟩) := by
  pointwise [parts]

theorem normedParts_at (v : FVec Ideal S16640x4x64 .f32) (sg : FVec Ideal S4x256 .f32) (n : Fin 16640) (g : Fin 4) (d : Fin 64) :
    normedParts v sg (ix3 n g d) = (show EReal from v (ix3 n g d)) * Ideal.rsqrt (Ideal.div (∑ k : Fin 64, (show EReal from v (ix3 n g k)) * (show EReal from v (ix3 n g k)))
      (Ideal.ofBits .f32 0x42800000#32) + Ideal.ofBits .f32 0x358637BD#32) * (show EReal from sg (ix2 0 ⟨g * 64 + d, by omega⟩)) := by
  pointwise [normedParts]

theorem mixed_at (v : FVec Ideal S16640x4x64 .f32) (w : FVec Ideal S4x4x128x128 .f32) (b : FVec Ideal S4x4x128 .f32) (n : Fin 16640) (j : Fin 256) :
    mixed v w b (ix2 n j) = (∑ q : Fin 128, (show EReal from v (ix3 ⟨n.val / 128 * 128 + q, by omega⟩ (grp j) ⟨j.val % 64, by omega⟩))
      * (show EReal from w (ix4 0 (grp j) ⟨n.val % 128, by omega⟩ q))) + (show EReal from b (ix3 0 (grp j) ⟨n.val % 128, by omega⟩)) := by
  pointwise [mixed, grp]

theorem gated_at (z : FVec Ideal S16640x512 .f32) (s : FVec Ideal S16640x256 .f32) (n : Fin 16640) (j : Fin 256) :
    gated z s (ix2 n j) = (show EReal from z (ix2 n ⟨j, by omega⟩)) * (show EReal from s (ix2 n j)) := by
  pointwise [gated]

variable (m : (ℓ : Loc nD τ sig) → Buf (Elt Ideal) ℓ) (c : Dev nD)

/-- The arguments. -/
def argsOf : Args where
  row := Cert.Proj.args (m ((c : Thread nD τ).loc main_arg0)) (m ((c : Thread nD τ).loc main_arg1)) (m ((c : Thread nD τ).loc main_arg2))
    (m ((c : Thread nD τ).loc main_arg3)) (m ((c : Thread nD τ).loc main_arg9))
  sg j := m ((c : Thread nD τ).loc main_arg6) (ix2 0 j)
  sw g p q := m ((c : Thread nD τ).loc main_arg7) (ix4 0 g p q)
  sb g p := m ((c : Thread nD τ).loc main_arg8) (ix3 0 g p)

/-- The projected tokens, of the arguments. -/
def rows : FVec Ideal S16640x1536 .f32 :=
  proj (hidden (m ((c : Thread nD τ).loc main_arg0)) (m ((c : Thread nD τ).loc main_arg2)) (scales (m ((c : Thread nD τ).loc main_arg1)))
    (shifts (m ((c : Thread nD τ).loc main_arg1)))) (m ((c : Thread nD τ).loc main_arg3))

theorem rows_at (n : Fin 16640) (e : Fin 1536) : rows m c (ix2 n e) = (argsOf m c).row.p n e := by
  unfold rows
  rw [proj_at]
  simp only [hidden_at, scales_at, shifts_at]
  rfl

/-- The result. -/
theorem ref : gated (act (rows m c)) (mixed (normedParts (parts (act (rows m c))) (m ((c : Thread nD τ).loc main_arg6)))
    (m ((c : Thread nD τ).loc main_arg7)) (m ((c : Thread nD τ).loc main_arg8))) = (argsOf m c).out := by
  funext i
  idx_vars i
  rw [gated_at, mixed_at]
  simp only [normedParts_at, parts_at, act_at, rows_at]
  have hj : (grp i1).val * 64 + i1.val % 64 = i1.val := by
    show i1.val / 64 * 64 + i1.val % 64 = i1.val
    omega
  show _ = (argsOf m c).gate ⟨i0.val / 128, _⟩ ⟨i0.val % 128, _⟩ i1
  unfold Args.gate Args.u Args.vn groupNorm Args.v
  simp only [hj]
  congr 3
  all_goals
    ext1
    show i0.val = i0.val / 128 * 128 + i0.val % 128
    omega

/-- The stages are the program's result. -/
theorem res_eq : Cert.Reference6Ideal.Value.res_out0 m c = gated (act (rows m c)) (mixed (normedParts (parts (act (rows m c))) (m ((c : Thread nD τ).loc main_arg6)))
    (m ((c : Thread nD τ).loc main_arg7)) (m ((c : Thread nD τ).loc main_arg8))) := rfl

end Cert.Reference6Ideal.Gate

end
-- ==== Proof.GateFinite.lean ====
/- The precondition of the gating part, entry by entry: where `finite_gating` holds, the first layer's first shift and scale
   rows, gain and the projection's columns of the second part are real numbers. -/
module

public import proofs.«01_k».proof.Proof.Gen.Pre_finite_gating
public import proofs.«01_k».proof.Proof.Finite
public import proofs.«01_k».proof.Proof.GateSpec
public import Idealize.ShloMosaic.Lib.ReduceAll

@[expose] public section

set_option maxRecDepth 16384

noncomputable section

namespace Cert.Pre_finite_gating.Entry

open Cert.Pre_finite_gating Cert.Pre_finite_gating.Gen Idealize.ShloMosaic
open Cert.Mix (IsReal)

theorem args_real (t : FVec Ideal S16640x1024 .f32) (md : FVec Ideal S4x2x6x1024 .f32) (g : FVec Ideal S4x1024 .f32)
    (w : FVec Ideal S4x1024x1536 .f32) (qg kg : FVec Ideal S4x64 .f32) (sg : FVec Ideal S4x256 .f32) (sw : FVec Ideal S4x4x128x128 .f32)
    (sb : FVec Ideal S4x4x128 .f32) (f : FVec Ideal S256x512 .bf16)
    (h : fn (F := Ideal) t md g w qg kg sg sw sb f = fun _ => 1#1) (A : Cert.Gate.Args) (hA : A.row = Cert.Proj.args t md g w f) : A.Real := by
  have h0 := congrFun h ix0
  dsimp only [fn, fn_part1] at h0
  obtain ⟨h0, h2⟩ := IntOp.andi_eq_one.1 h0
  obtain ⟨h0, h1⟩ := IntOp.andi_eq_one.1 h0
  have e0 := Host.reduce_andi_all _ _ _ _ _ h0
  have e1 := Host.reduce_andi_all _ _ _ _ _ h1
  have e2 := Host.reduce_andi_all _ _ _ _ _ h2
  have hm : ∀ (a : Fin 2) (j : Fin 2) (d : Fin 1024), IsReal (md (ix4 0 a ⟨j, by omega⟩ d)) := fun a j d => by
    have he : shapeCast S2x2x1024 (extractStridedSlice S1x2x2x1024 ![0, 0, 0, 0] md slices_S4x2x6x1024_S1x2x2x1024_0_0_0_0)
        shapeCasts_S1x2x2x1024_S2x2x1024 (ix3 a j d) = md (ix4 0 a ⟨j, by omega⟩ d) := by
      pointwise
    rw [← he]
    exact Pre_finite_qk.Entry.real_of_cmp _ (e0 (ix3 a j d))
  exact {
    sh := fun a d => by rw [hA]; exact hm a 0 d
    sc := fun a d => by rw [hA]; exact hm a 1 d
    g := fun d => by
      have he : shapeCast S1024 (extractStridedSlice S1x1024 ![0, 0] g slices_S4x1024_S1x1024_0_0) shapeCasts_S1x1024_S1024 (ix1 d) = g (ix2 0 d) := by
        pointwise
      rw [hA]
      show IsReal (g (ix2 0 d))
      rw [← he]
      exact Pre_finite_qk.Entry.real_of_cmp _ (e1 (ix1 d))
    w := fun k e => by
      have he : shapeCast S1024x256 (extractStridedSlice S1x1024x256 ![0, 0, 1024] w slices_S4x1024x1536_S1x1024x256_0_0_1024) shapeCasts_S1x1024x256_S1024x256
          (ix2 k e) = w (ix3 0 k ⟨1024 + e, by omega⟩) := by
        pointwise
      have hi : (⟨768 + (256 + e.val), by omega⟩ : Fin 1536) = ⟨1024 + e.val, by omega⟩ := Fin.ext (by
        show 768 + (256 + e.val) = 1024 + e.val
        omega)
      rw [hA, hi]
      show IsReal (w (ix3 0 k ⟨1024 + e.val, _⟩))
      rw [← he]
      exact Pre_finite_qk.Entry.real_of_cmp _ (e2 (ix2 k e)) }

end Cert.Pre_finite_gating.Entry

end
-- ==== Proof.GateClaim.lean ====
/- The projection call's gating part and its reference: the same gated rows, where the shift and scale rows, the gain and the
   second part's columns are numbers. -/
module

public import proofs.«01_k».proof.Defs
public import proofs.«01_k».proof.Proof.GateArray
public import proofs.«01_k».proof.Proof.GateRef
public import proofs.«01_k».proof.Proof.GateFinite
public import proofs.«01_k».proof.Proof.Gen.Kernel6Ideal.Value
public import Idealize.ShloMosaic.Adequacy
public import Idealize.ShloMosaic.Init

@[expose] public section

set_option maxRecDepth 16384

noncomputable section

namespace Cert.Gate

open Idealize.ShloMosaic Idealize.ShloMosaic.TcCoe Idealize.SL.Sem

/-- From memories that agree on the arguments the two programs' arguments are the same. -/
theorem args_eq (m : (ℓ : Loc Kernel6Ideal.nD Kernel6Ideal.τ Kernel6Ideal.sig) → Buf (Elt Ideal) ℓ)
    (m' : (ℓ : Loc Reference6Ideal.nD Reference6Ideal.τ Reference6Ideal.sig) → Buf (Elt Ideal) ℓ) (c : Dev Kernel6Ideal.nD)
    (h : m' ((c : Thread Reference6Ideal.nD Reference6Ideal.τ).loc Reference6Ideal.main_arg0) = m ((c : Thread Kernel6Ideal.nD Kernel6Ideal.τ).loc Kernel6Ideal.main_arg0)
      ∧ m' ((c : Thread Reference6Ideal.nD Reference6Ideal.τ).loc Reference6Ideal.main_arg1) = m ((c : Thread Kernel6Ideal.nD Kernel6Ideal.τ).loc Kernel6Ideal.main_arg1)
      ∧ m' ((c : Thread Reference6Ideal.nD Reference6Ideal.τ).loc Reference6Ideal.main_arg2) = m ((c : Thread Kernel6Ideal.nD Kernel6Ideal.τ).loc Kernel6Ideal.main_arg2)
      ∧ m' ((c : Thread Reference6Ideal.nD Reference6Ideal.τ).loc Reference6Ideal.main_arg3) = m ((c : Thread Kernel6Ideal.nD Kernel6Ideal.τ).loc Kernel6Ideal.main_arg3)
      ∧ m' ((c : Thread Reference6Ideal.nD Reference6Ideal.τ).loc Reference6Ideal.main_arg4) = m ((c : Thread Kernel6Ideal.nD Kernel6Ideal.τ).loc Kernel6Ideal.main_arg4)
      ∧ m' ((c : Thread Reference6Ideal.nD Reference6Ideal.τ).loc Reference6Ideal.main_arg5) = m ((c : Thread Kernel6Ideal.nD Kernel6Ideal.τ).loc Kernel6Ideal.main_arg5)
      ∧ m' ((c : Thread Reference6Ideal.nD Reference6Ideal.τ).loc Reference6Ideal.main_arg6) = m ((c : Thread Kernel6Ideal.nD Kernel6Ideal.τ).loc Kernel6Ideal.main_arg6)
      ∧ m' ((c : Thread Reference6Ideal.nD Reference6Ideal.τ).loc Reference6Ideal.main_arg7) = m ((c : Thread Kernel6Ideal.nD Kernel6Ideal.τ).loc Kernel6Ideal.main_arg7)
      ∧ m' ((c : Thread Reference6Ideal.nD Reference6Ideal.τ).loc Reference6Ideal.main_arg8) = m ((c : Thread Kernel6Ideal.nD Kernel6Ideal.τ).loc Kernel6Ideal.main_arg8)
      ∧ m' ((c : Thread Reference6Ideal.nD Reference6Ideal.τ).loc Reference6Ideal.main_arg9) = m ((c : Thread Kernel6Ideal.nD Kernel6Ideal.τ).loc Kernel6Ideal.main_arg9)) :
    Reference6Ideal.Gate.argsOf m' c = Kernel6Ideal.Gate.argsOf m c := by
  obtain ⟨h0, h1, h2, h3, -, -, h6, h7, h8, h9⟩ := h
  unfold Reference6Ideal.Gate.argsOf
  rw [h0, h1, h2, h3, h6, h7, h8, h9]
  rfl

/-- The one named constant has its value. -/
theorem preserves : Cert.preserves_Kernel6_Kernel6Ideal :=
  IdealRules.named_const.statement Cert.Kernel6Ideal.κ "query_scale" .f32 0x3E38AA3B#32 (((1 / 8) * (Real.log 2)⁻¹ : ℝ) : EReal) rfl

theorem algebraic : Cert.algebraic_Kernel6Ideal_Reference6Ideal_pre_finite_gating := by
  pair_intro
  · run_from Cert.Kernel6Ideal.Value.run_blocks m g
  · run_from Cert.Reference6Ideal.Value.run m' g'
    have hr := Pre_finite_gating.Entry.args_real _ _ _ _ _ _ _ _ _ _ (hpre c) (Kernel6Ideal.Gate.argsOf m c) rfl
    exact (Reference6Ideal.Gate.res_eq m' c).trans ((Reference6Ideal.Gate.ref m' c).trans ((congrArg Args.out (args_eq m m' c (hagree c))).trans
      (Kernel6Ideal.Gate.final m c hr).symm))

end Cert.Gate

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Pre_finite_qk
public import proofs.«01_k».proof.Proof.Gen.Pre_finite_router
public import proofs.«01_k».proof.Proof.Gen.KernelIdeal.Value
public import proofs.«01_k».proof.Proof.Gen.ReferenceIdeal.Run
public import proofs.«01_k».proof.Proof.Gen.Kernel2Ideal.Value
public import proofs.«01_k».proof.Proof.Gen.Reference2Ideal.Run
public import proofs.«01_k».proof.Proof.Gen.Kernel3Ideal.Value
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Kernel4Ideal.Value
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Kernel5Ideal.Value
public import proofs.«01_k».proof.Proof.Gen.Reference5Ideal.Run
public import proofs.«01_k».proof.Proof.Gen.Pre_finite_mods
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Kernel6Ideal.Value
public import proofs.«01_k».proof.Proof.Gen.Reference6Ideal.Run
public import proofs.«01_k».proof.Proof.Gen.Pre_finite_gating
public import proofs.«01_k».proof.Proof.AttnClaim
public import proofs.«01_k».proof.Proof.FfnClaim
public import proofs.«01_k».proof.Proof.OutClaim
public import proofs.«01_k».proof.Proof.ProjClaim
public import proofs.«01_k».proof.Proof.ModsClaim
public import proofs.«01_k».proof.Proof.GateClaim
public import Idealize.ShloMosaic.Adequacy
public import Idealize.ShloMosaic.Init

@[expose] public section

noncomputable section

namespace Cert.Proof

open Idealize.ShloMosaic Idealize.SL.Sem Cert.Kernel

/-- The attention reference runs and its counters end at zero: it declares no semaphore. -/
theorem frame_reference : Cert.quiescent_ReferenceIdeal := by
  intro m g _
  exact (θ_run Cert.ReferenceIdeal.defs _ _).mono (fun r h => ⟨fun c => (h c).2, sem_eq_zero_of_no_sems (by decide) r.2⟩)
    (Cert.ReferenceIdeal.Value.run m g)

/-- The feed-forward reference, the same. -/
theorem frame_reference2 : Cert.quiescent_Reference2Ideal := by
  intro m g _
  exact (θ_run Cert.Reference2Ideal.defs _ _).mono (fun r h => ⟨fun c => (h c).2, sem_eq_zero_of_no_sems (by decide) r.2⟩)
    (Cert.Reference2Ideal.Value.run m g)

/-- The output projection and router reference, the same. -/
theorem frame_reference3 : Cert.quiescent_Reference3Ideal := by
  intro m g _
  exact (θ_run Cert.Reference3Ideal.defs _ _).mono (fun r h => ⟨fun c => (h c).2.2.2, sem_eq_zero_of_no_sems (by decide) r.2⟩)
    (Cert.Reference3Ideal.Value.run m g)

/-- The projection reference, the same. -/
theorem frame_reference4 : Cert.quiescent_Reference4Ideal := by
  intro m g _
  exact (θ_run Cert.Reference4Ideal.defs _ _).mono (fun r h => ⟨fun c => (h c).2.2, sem_eq_zero_of_no_sems (by decide) r.2⟩)
    (Cert.Reference4Ideal.Value.run m g)

/-- The modulation reference, the same. -/
theorem frame_reference5 : Cert.quiescent_Reference5Ideal := by
  intro m g _
  exact (θ_run Cert.Reference5Ideal.defs _ _).mono (fun r h => ⟨fun c => (h c).2, sem_eq_zero_of_no_sems (by decide) r.2⟩)
    (Cert.Reference5Ideal.Value.run m g)

/-- The gating reference, the same. -/
theorem frame_reference6 : Cert.quiescent_Reference6Ideal := by
  intro m g _
  exact (θ_run Cert.Reference6Ideal.defs _ _).mono (fun r h => ⟨fun c => (h c).2, sem_eq_zero_of_no_sems (by decide) r.2⟩)
    (Cert.Reference6Ideal.Value.run m g)

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Pre_finite_qk.Gen.facts, Cert.Pre_finite_router.Gen.facts, Cert.Pre_finite_mods.Gen.facts, Cert.Pre_finite_gating.Gen.facts,
  fun m g _ => Cert.Kernel.Gen.frame m g,
  fun m g _ => Cert.KernelIdeal.Gen.frame m g,
  fun m g _ => Cert.KernelIdeal.Gen.frame m g,
  frame_reference,
  fun m g _ => frame_reference m g trivial,
  fun m g _ => Cert.Kernel2.Gen.frame m g,
  fun m g _ => Cert.Kernel2Ideal.Gen.frame m g,
  frame_reference2,
  fun m g _ => Cert.Kernel3.Gen.frame m g,
  fun m g _ => Cert.Kernel3Ideal.Gen.frame m g,
  fun m g _ => Cert.Kernel3Ideal.Gen.frame m g,
  frame_reference3,
  fun m g _ => frame_reference3 m g trivial,
  fun m g _ => Cert.Kernel4.Gen.frame m g,
  fun m g _ => Cert.Kernel4Ideal.Gen.frame m g,
  frame_reference4,
  fun m g _ => Cert.Kernel5.Gen.frame m g,
  fun m g _ => Cert.Kernel5Ideal.Gen.frame m g,
  fun m g _ => Cert.Kernel5Ideal.Gen.frame m g,
  frame_reference5,
  fun m g _ => frame_reference5 m g trivial,
  fun m g _ => Cert.Kernel6.Gen.frame m g,
  fun m g _ => Cert.Kernel6Ideal.Gen.frame m g,
  fun m g _ => Cert.Kernel6Ideal.Gen.frame m g,
  frame_reference6,
  fun m g _ => frame_reference6 m g trivial,
  trivial,
  Cert.Attn.algebraic,
  trivial,
  Cert.Ffn.algebraic,
  trivial,
  Cert.Out.algebraic,
  Cert.Proj.preserves,
  Cert.Proj.algebraic,
  trivial,
  Cert.Mods.algebraic,
  Cert.Gate.preserves,
  Cert.Gate.algebraic⟩

end Cert.Proof

end
